-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_n" .f32 0x3851B717#32 ((20000⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x1033 : Shape := ⟨2, ![20000, 1033]⟩
abbrev S1000x1033 : Shape := ⟨2, ![1000, 1033]⟩
abbrev S1000 : Shape := ⟨1, ![1000]⟩
abbrev S600x1000 : Shape := ⟨2, ![600, 1000]⟩
abbrev S600 : Shape := ⟨1, ![600]⟩
abbrev S300x600 : Shape := ⟨2, ![300, 600]⟩
abbrev S300 : Shape := ⟨1, ![300]⟩
abbrev S1x300 : Shape := ⟨2, ![1, 300]⟩
abbrev S1 : Shape := ⟨1, ![1]⟩
abbrev S1000x1 : Shape := ⟨2, ![1000, 1]⟩
abbrev S600x1 : Shape := ⟨2, ![600, 1]⟩
abbrev S300x1 : Shape := ⟨2, ![300, 1]⟩
abbrev S1x1 : Shape := ⟨2, ![1, 1]⟩
abbrev S19968x1033 : Shape := ⟨2, ![19968, 1033]⟩
abbrev S1033x19968 : Shape := ⟨2, ![1033, 19968]⟩
abbrev S32x1033 : Shape := ⟨2, ![32, 1033]⟩
abbrev S1033x32 : Shape := ⟨2, ![1033, 32]⟩
abbrev S1x19968 : Shape := ⟨2, ![1, 19968]⟩
abbrev S1000x19968 : Shape := ⟨2, ![1000, 19968]⟩
abbrev S600x19968 : Shape := ⟨2, ![600, 19968]⟩
abbrev S300x19968 : Shape := ⟨2, ![300, 19968]⟩
abbrev S1x32 : Shape := ⟨2, ![1, 32]⟩
abbrev S1033x1 : Shape := ⟨2, ![1033, 1]⟩
abbrev S1000x32 : Shape := ⟨2, ![1000, 32]⟩
abbrev S600x32 : Shape := ⟨2, ![600, 32]⟩
abbrev S300x32 : Shape := ⟨2, ![300, 32]⟩
abbrev S2x1033x3328 : Shape := ⟨3, ![2, 1033, 3328]⟩
abbrev S2 : Shape := ⟨1, ![2]⟩
abbrev S2x1000x3328 : Shape := ⟨3, ![2, 1000, 3328]⟩
abbrev S_ : Shape := ⟨0, ![]⟩
abbrev S1x1033x3328 : Shape := ⟨3, ![1, 1033, 3328]⟩
abbrev S1033x3328 : Shape := ⟨2, ![1033, 3328]⟩
abbrev S1000x3328 : Shape := ⟨2, ![1000, 3328]⟩
abbrev S1x1000x3328 : Shape := ⟨3, ![1, 1000, 3328]⟩
abbrev S1033 : Shape := ⟨1, ![1033]⟩
abbrev S2x1000x1664 : Shape := ⟨3, ![2, 1000, 1664]⟩
abbrev S2x600x1664 : Shape := ⟨3, ![2, 600, 1664]⟩
abbrev S1x1000x1664 : Shape := ⟨3, ![1, 1000, 1664]⟩
abbrev S1000x1664 : Shape := ⟨2, ![1000, 1664]⟩
abbrev S600x1664 : Shape := ⟨2, ![600, 1664]⟩
abbrev S1x600x1664 : Shape := ⟨3, ![1, 600, 1664]⟩
abbrev S2x600x3328 : Shape := ⟨3, ![2, 600, 3328]⟩
abbrev S2x300x3328 : Shape := ⟨3, ![2, 300, 3328]⟩
abbrev S1x600x3328 : Shape := ⟨3, ![1, 600, 3328]⟩
abbrev S600x3328 : Shape := ⟨2, ![600, 3328]⟩
abbrev S300x3328 : Shape := ⟨2, ![300, 3328]⟩
abbrev S1x300x3328 : Shape := ⟨3, ![1, 300, 3328]⟩
abbrev S2x1x3328 : Shape := ⟨3, ![2, 1, 3328]⟩
abbrev S1x3328 : Shape := ⟨2, ![1, 3328]⟩
abbrev S1x1x3328 : Shape := ⟨3, ![1, 1, 3328]⟩
abbrev S1x20000 : Shape := ⟨2, ![1, 20000]⟩
abbrev S20000x1 : Shape := ⟨2, ![20000, 1]⟩

abbrev nBuf : Space → Nat
  | .hbm => 37
  | .vmem => 36
  | .smem => 0
  | _ => 0

abbrev bufTy : (tb : Table) → Fin (tcTables nBuf tb) → BufTy
  | .hbm, ⟨0, _⟩ => ⟨S20000x1033, .f32⟩
  | .hbm, ⟨1, _⟩ => ⟨S1000x1033, .f32⟩
  | .hbm, ⟨2, _⟩ => ⟨S1000, .f32⟩
  | .hbm, ⟨3, _⟩ => ⟨S1000x1033, .f32⟩
  | .hbm, ⟨4, _⟩ => ⟨S600x1000, .f32⟩
  | .hbm, ⟨5, _⟩ => ⟨S600, .f32⟩
  | .hbm, ⟨6, _⟩ => ⟨S600x1000, .f32⟩
  | .hbm, ⟨7, _⟩ => ⟨S300x600, .f32⟩
  | .hbm, ⟨8, _⟩ => ⟨S300, .f32⟩
  | .hbm, ⟨9, _⟩ => ⟨S300x600, .f32⟩
  | .hbm, ⟨10, _⟩ => ⟨S1x300, .f32⟩
  | .hbm, ⟨11, _⟩ => ⟨S1, .f32⟩
  | .hbm, ⟨12, _⟩ => ⟨S1x300, .f32⟩
  | .hbm, ⟨13, _⟩ => ⟨S1000x1033, .bf16⟩
  | .hbm, ⟨14, _⟩ => ⟨S600x1000, .bf16⟩
  | .hbm, ⟨15, _⟩ => ⟨S300x600, .bf16⟩
  | .hbm, ⟨16, _⟩ => ⟨S1x300, .bf16⟩
  | .hbm, ⟨17, _⟩ => ⟨S1000x1033, .bf16⟩
  | .hbm, ⟨18, _⟩ => ⟨S600x1000, .bf16⟩
  | .hbm, ⟨19, _⟩ => ⟨S300x600, .bf16⟩
  | .hbm, ⟨20, _⟩ => ⟨S1x300, .bf16⟩
  | .hbm, ⟨21, _⟩ => ⟨S1000x1, .f32⟩
  | .hbm, ⟨22, _⟩ => ⟨S600x1, .f32⟩
  | .hbm, ⟨23, _⟩ => ⟨S300x1, .f32⟩
  | .hbm, ⟨24, _⟩ => ⟨S1x1, .f32⟩
  | .hbm, ⟨25, _⟩ => ⟨S19968x1033, .f32⟩
  | .hbm, ⟨26, _⟩ => ⟨S1033x19968, .f32⟩
  | .hbm, ⟨27, _⟩ => ⟨S32x1033, .f32⟩
  | .hbm, ⟨28, _⟩ => ⟨S1033x32, .f32⟩
  | .hbm, ⟨29, _⟩ => ⟨S1x19968, .f32⟩
  | .hbm, ⟨30, _⟩ => ⟨S1000x19968, .bf16⟩
  | .hbm, ⟨31, _⟩ => ⟨S600x19968, .bf16⟩
  | .hbm, ⟨32, _⟩ => ⟨S300x19968, .bf16⟩
  | .hbm, ⟨33, _⟩ => ⟨S1x19968, .f32⟩
  | .hbm, ⟨34, _⟩ => ⟨S1x32, .f32⟩
  | .hbm, ⟨35, _⟩ => ⟨S1x20000, .f32⟩
  | .hbm, ⟨36, _⟩ => ⟨S20000x1, .f32⟩
  | .local _ .vmem, ⟨0, _⟩ => ⟨S1033x32, .f32⟩
  | .local _ .vmem, ⟨1, _⟩ => ⟨S1000x1033, .bf16⟩
  | .local _ .vmem, ⟨2, _⟩ => ⟨S600x1000, .bf16⟩
  | .local _ .vmem, ⟨3, _⟩ => ⟨S300x600, .bf16⟩
  | .local _ .vmem, ⟨4, _⟩ => ⟨S1x300, .bf16⟩
  | .local _ .vmem, ⟨5, _⟩ => ⟨S1000x1033, .bf16⟩
  | .local _ .vmem, ⟨6, _⟩ => ⟨S600x1000, .bf16⟩
  | .local _ .vmem, ⟨7, _⟩ => ⟨S300x600, .bf16⟩
  | .local _ .vmem, ⟨8, _⟩ => ⟨S1x300, .bf16⟩
  | .local _ .vmem, ⟨9, _⟩ => ⟨S1000x1, .f32⟩
  | .local _ .vmem, ⟨10, _⟩ => ⟨S600x1, .f32⟩
  | .local _ .vmem, ⟨11, _⟩ => ⟨S300x1, .f32⟩
  | .local _ .vmem, ⟨12, _⟩ => ⟨S1x1, .f32⟩
  | .local _ .vmem, ⟨13, _⟩ => ⟨S1x32, .f32⟩
  | .local _ .vmem, ⟨14, _⟩ => ⟨S1033x1, .f32⟩
  | .local _ .vmem, ⟨15, _⟩ => ⟨S1000x1, .f32⟩
  | .local _ .vmem, ⟨16, _⟩ => ⟨S600x1, .f32⟩
  | .local _ .vmem, ⟨17, _⟩ => ⟨S300x1, .f32⟩
  | .local _ .vmem, ⟨18, _⟩ => ⟨S1000x1, .f32⟩
  | .local _ .vmem, ⟨19, _⟩ => ⟨S600x1, .f32⟩
  | .local _ .vmem, ⟨20, _⟩ => ⟨S300x1, .f32⟩
  | .local _ .vmem, ⟨21, _⟩ => ⟨S1x1, .f32⟩
  | .local _ .vmem, ⟨22, _⟩ => ⟨S1000x32, .bf16⟩
  | .local _ .vmem, ⟨23, _⟩ => ⟨S600x32, .bf16⟩
  | .local _ .vmem, ⟨24, _⟩ => ⟨S300x32, .bf16⟩
  | .local _ .vmem, ⟨25, _⟩ => ⟨S1x32, .f32⟩
  | .local _ .vmem, ⟨26, _⟩ => ⟨S2x1033x3328, .f32⟩
  | .local _ .vmem, ⟨27, _⟩ => ⟨S2x1000x3328, .bf16⟩
  | .local _ .vmem, ⟨28, _⟩ => ⟨S2x1000x1664, .bf16⟩
  | .local _ .vmem, ⟨29, _⟩ => ⟨S2x600x1664, .bf16⟩
  | .local _ .vmem, ⟨30, _⟩ => ⟨S2x600x3328, .bf16⟩
  | .local _ .vmem, ⟨31, _⟩ => ⟨S2x300x3328, .bf16⟩
  | .local _ .vmem, ⟨32, _⟩ => ⟨S2x300x3328, .bf16⟩
  | .local _ .vmem, ⟨33, _⟩ => ⟨S2x1x3328, .f32⟩
  | .local _ .vmem, ⟨34, _⟩ => ⟨S2x1x3328, .f32⟩
  | .local _ .vmem, ⟨35, _⟩ => ⟨S2x1x3328, .f32⟩
  | _, _ => ⟨S20000x1033, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scoped0 : Ref sig .tc := ⟨.vmem, 26, rfl⟩
abbrev cc0_scoped2 : Ref sig .tc := ⟨.vmem, 27, rfl⟩
abbrev cc0_scoped4 : Ref sig .tc := ⟨.vmem, 28, rfl⟩
abbrev cc0_scoped6 : Ref sig .tc := ⟨.vmem, 29, rfl⟩
abbrev cc0_scoped8 : Ref sig .tc := ⟨.vmem, 30, rfl⟩
abbrev cc0_scoped10 : Ref sig .tc := ⟨.vmem, 31, rfl⟩
abbrev cc0_scoped12 : Ref sig .tc := ⟨.vmem, 32, rfl⟩
abbrev cc0_scoped14 : Ref sig .tc := ⟨.vmem, 33, rfl⟩
abbrev cc0_scoped16 : Ref sig .tc := ⟨.vmem, 34, rfl⟩
abbrev cc0_scoped18 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

def k0_off1 : Fin 1 → Nat :=
  let c0_i32_130_r0 : BitVec 32 := 0#32
  let c2_i32_r0 : BitVec 32 := 2#32
  let v192_r0 : BitVec 32 := Scalar.remui c0_i32_130_r0 c2_i32_r0
  ![v192_r0.toNat]
def k0_off2 : Fin 3 → Nat :=
  let c0_i32_130_r0 : BitVec 32 := 0#32
  let c2_i32_r0 : BitVec 32 := 2#32
  let v192_r0 : BitVec 32 := Scalar.remui c0_i32_130_r0 c2_i32_r0
  let c0_i32_131_r0 : BitVec 32 := 0#32
  let c0_i32_132_r0 : BitVec 32 := 0#32
  ![v192_r0.toNat, 0, 0]
@[reducible] def k0_t1_loop : Scf.Loop 32 :=
  let c0_i32_141_r0 : BitVec 32 := 0#32
  let c6_i32_142_r0 : BitVec 32 := 6#32
  let v199_r0 : BitVec 32 := Scalar.addi c0_i32_141_r0 c6_i32_142_r0
  let c1_i32_143_r0 : BitVec 32 := 1#32
  ⟨c0_i32_141_r0, v199_r0, c1_i32_143_r0⟩
def k0_off3 (arg33_r0 : BitVec 32) : Fin 1 → Nat :=
  let c2_i32_231_r0 : BitVec 32 := 2#32
  let v331_r0 : BitVec 32 := Scalar.remui arg33_r0 c2_i32_231_r0
  ![v331_r0.toNat]
def k0_cond1 (k0_t1 : Fin k0_t1_loop.trips) (arg37_r0 : BitVec 32) : BitVec 1 :=
  let c0_i32_171_r0 : BitVec 32 := 0#32
  let v230_r0 : BitVec 32 := Scalar.addi arg37_r0 c0_i32_171_r0
  let true_178_r0 : BitVec 1 := 1#1
  let c1_i32_177_r0 : BitVec 32 := 1#32
  let v236_r0 : BitVec 32 := Scalar.addi arg37_r0 c1_i32_177_r0
  let v237_r0 : BitVec 32 := Scalar.select true_178_r0 v236_r0 arg37_r0
  let c6_i32_179_r0 : BitVec 32 := 6#32
  let v238_r0 : BitVec 1 := Scalar.cmpi .eq v237_r0 c6_i32_179_r0
  let c0_i32_180_r0 : BitVec 32 := 0#32
  let v239_r0 : BitVec 32 := Scalar.select v238_r0 c0_i32_180_r0 v237_r0
  let c0_i32_181_r0 : BitVec 32 := 0#32
  let v240_r0 : BitVec 32 := Scalar.addi v239_r0 c0_i32_181_r0
  let v246_r0 : BitVec 1 := Scalar.cmpi .ne v230_r0 v240_r0
  let c0_i32_141_r0 : BitVec 32 := 0#32
  let c1_i32_143_r0 : BitVec 32 := 1#32
  let arg32_r0 : BitVec 32 := Scf.iv c0_i32_141_r0 c1_i32_143_r0 k0_t1
  let c5_i32_187_r0 : BitVec 32 := 5#32
  let v247_r0 : BitVec 1 := Scalar.cmpi .sge arg32_r0 c5_i32_187_r0
  let true_188_r0 : BitVec 1 := 1#1
  let v248_r0 : BitVec 1 := Scalar.xori v247_r0 true_188_r0
  let v249_r0 : BitVec 1 := Scalar.andi v246_r0 v248_r0
  let true_189_r0 : BitVec 1 := 1#1
  let v250_r0 : BitVec 1 := Scalar.andi v249_r0 true_189_r0
  let v251_r0 : BitVec 32 := Scalar.extui v250_r0
  let c0_i32_190_r0 : BitVec 32 := 0#32
  let v252_r0 : BitVec 1 := Scalar.cmpi .ne v251_r0 c0_i32_190_r0
  v252_r0

def k0_off4 (arg33_r0 : BitVec 32) : Fin 3 → Nat :=
  let c2_i32_231_r0 : BitVec 32 := 2#32
  let v331_r0 : BitVec 32 := Scalar.remui arg33_r0 c2_i32_231_r0
  let c0_i32_233_r0 : BitVec 32 := 0#32
  let c0_i32_234_r0 : BitVec 32 := 0#32
  ![v331_r0.toNat, 0, 0]
def k0_off5 (arg37_r0 : BitVec 32) : Fin 2 → Nat :=
  let c0_i32_235_r0 : BitVec 32 := 0#32
  let c3328_i32_232_r0 : BitVec 32 := 3328#32
  let true_178_r0 : BitVec 1 := 1#1
  let c1_i32_177_r0 : BitVec 32 := 1#32
  let v236_r0 : BitVec 32 := Scalar.addi arg37_r0 c1_i32_177_r0
  let v237_r0 : BitVec 32 := Scalar.select true_178_r0 v236_r0 arg37_r0
  let c6_i32_179_r0 : BitVec 32 := 6#32
  let v238_r0 : BitVec 1 := Scalar.cmpi .eq v237_r0 c6_i32_179_r0
  let c0_i32_180_r0 : BitVec 32 := 0#32
  let v239_r0 : BitVec 32 := Scalar.select v238_r0 c0_i32_180_r0 v237_r0
  let c0_i32_181_r0 : BitVec 32 := 0#32
  let v240_r0 : BitVec 32 := Scalar.addi v239_r0 c0_i32_181_r0
  let v332_r0 : BitVec 32 := Scalar.muli c3328_i32_232_r0 v240_r0
  ![0, v332_r0.toNat]
def k0_off6 (arg34_r0 : BitVec 32) : Fin 1 → Nat :=
  let c2_i32_232_r0 : BitVec 32 := 2#32
  let v332_r0 : BitVec 32 := Scalar.remui arg34_r0 c2_i32_232_r0
  ![v332_r0.toNat]
def k0_cond2 (k0_t1 : Fin k0_t1_loop.trips) (arg37_r0 : BitVec 32) : BitVec 1 :=
  let c0_i32_171_r0 : BitVec 32 := 0#32
  let v230_r0 : BitVec 32 := Scalar.addi arg37_r0 c0_i32_171_r0
  let true_173_r0 : BitVec 1 := 1#1
  let c1_i32_172_r0 : BitVec 32 := 1#32
  let v231_r0 : BitVec 32 := Scalar.subi arg37_r0 c1_i32_172_r0
  let v232_r0 : BitVec 32 := Scalar.select true_173_r0 v231_r0 arg37_r0
  let c_m1_i32_174_r0 : BitVec 32 := 4294967295#32
  let v233_r0 : BitVec 1 := Scalar.cmpi .eq v232_r0 c_m1_i32_174_r0
  let c5_i32_175_r0 : BitVec 32 := 5#32
  let v234_r0 : BitVec 32 := Scalar.select v233_r0 c5_i32_175_r0 v232_r0
  let c0_i32_176_r0 : BitVec 32 := 0#32
  let v235_r0 : BitVec 32 := Scalar.addi v234_r0 c0_i32_176_r0
  let v260_r0 : BitVec 1 := Scalar.cmpi .ne v230_r0 v235_r0
  let c0_i32_141_r0 : BitVec 32 := 0#32
  let c1_i32_143_r0 : BitVec 32 := 1#32
  let arg32_r0 : BitVec 32 := Scf.iv c0_i32_141_r0 c1_i32_143_r0 k0_t1
  let c0_i32_169_r0 : BitVec 32 := 0#32
  let v228_r0 : BitVec 1 := Scalar.cmpi .eq arg32_r0 c0_i32_169_r0
  let v261_r0 : BitVec 1 := Scalar.ori v260_r0 v228_r0
  let c0_i32_195_r0 : BitVec 32 := 0#32
  let v262_r0 : BitVec 1 := Scalar.cmpi .sge arg32_r0 c0_i32_195_r0
  let v263_r0 : BitVec 1 := Scalar.andi v261_r0 v262_r0
  let v264_r0 : BitVec 32 := Scalar.extui v263_r0
  let c0_i32_196_r0 : BitVec 32 := 0#32
  let v265_r0 : BitVec 1 := Scalar.cmpi .ne v264_r0 c0_i32_196_r0
  v265_r0

def k0_off7 (arg34_r0 : BitVec 32) : Fin 3 → Nat :=
  let c2_i32_232_r0 : BitVec 32 := 2#32
  let v332_r0 : BitVec 32 := Scalar.remui arg34_r0 c2_i32_232_r0
  let c0_i32_233_r0 : BitVec 32 := 0#32
  let c0_i32_234_r0 : BitVec 32 := 0#32
  ![v332_r0.toNat, 0, 0]
def k0_off8 (arg37_r0 : BitVec 32) : Fin 2 → Nat :=
  let c0_i32_235_r0 : BitVec 32 := 0#32
  let c3328_i32_231_r0 : BitVec 32 := 3328#32
  let c0_i32_171_r0 : BitVec 32 := 0#32
  let v230_r0 : BitVec 32 := Scalar.addi arg37_r0 c0_i32_171_r0
  let v331_r0 : BitVec 32 := Scalar.muli c3328_i32_231_r0 v230_r0
  ![0, v331_r0.toNat]
def k0_off9 (arg34_r0 : BitVec 32) : Fin 3 → Nat :=
  let c2_i32_199_r0 : BitVec 32 := 2#32
  let v272_r0 : BitVec 32 := Scalar.remui arg34_r0 c2_i32_199_r0
  let v274_r0 : Index := Scalar.indexCast v272_r0
  let c0_201_r0 : Index := 0#32
  let c0_202_r0 : Index := 0#32
  ![v274_r0.toNat, 0, 0]

def k0_chk2 (arg34_r0 : BitVec 32) : Prop :=
  (∀ a, (k0_off9 arg34_r0) a + S1x1033x3328.size a ≤ S2x1033x3328.size a)
theorem k0_off9_inb : ∀ (arg34_r0 : BitVec 32) (k0_hw2 : k0_chk2 arg34_r0), ∀ a, (k0_off9 arg34_r0) a + S1x1033x3328.size a ≤ S2x1033x3328.size a := fun arg34_r0 k0_hw2 => k0_hw2

def k0_off10 (arg35_r0 : BitVec 32) : Fin 3 → Nat :=
  let c2_i32_200_r0 : BitVec 32 := 2#32
  let v273_r0 : BitVec 32 := Scalar.remui arg35_r0 c2_i32_200_r0
  let v286_r0 : Index := Scalar.indexCast v273_r0
  let c0_208_r0 : Index := 0#32
  let c0_209_r0 : Index := 0#32
  ![v286_r0.toNat, 0, 0]

def k0_chk3 (arg35_r0 : BitVec 32) : Prop :=
  (∀ a, (k0_off10 arg35_r0) a + S1x1000x3328.size a ≤ S2x1000x3328.size a) ∧
  (∀ (hinb : ∀ a, (k0_off10 arg35_r0) a + S1x1000x3328.size a ≤ S2x1000x3328.size a), (Rect.unit (s := S2x1000x3328) (k0_off10 arg35_r0) S1x1000x3328.size hinb).PackedRows (EltTy.packing .bf16))
theorem k0_off10_inb : ∀ (arg35_r0 : BitVec 32) (k0_hw3 : k0_chk3 arg35_r0), ∀ a, (k0_off10 arg35_r0) a + S1x1000x3328.size a ≤ S2x1000x3328.size a := fun arg35_r0 k0_hw3 => k0_hw3.1
theorem k0_off10_packedbf16 : ∀ (arg35_r0 : BitVec 32) (k0_hw3 : k0_chk3 arg35_r0), (Rect.unit (s := S2x1000x3328) (k0_off10 arg35_r0) S1x1000x3328.size (k0_off10_inb arg35_r0 k0_hw3)).PackedRows (EltTy.packing .bf16) := fun arg35_r0 k0_hw3 => k0_hw3.2 (k0_off10_inb arg35_r0 k0_hw3)

def k0_off11 (arg35_r0 : BitVec 32) : Fin 1 → Nat :=
  let c2_i32_231_r0 : BitVec 32 := 2#32
  let v331_r0 : BitVec 32 := Scalar.remui arg35_r0 c2_i32_231_r0
  ![v331_r0.toNat]
def k0_cond5 (k0_t1 : Fin k0_t1_loop.trips) (arg37_r0 : BitVec 32) : BitVec 1 :=
  let c0_i32_171_r0 : BitVec 32 := 0#32
  let v230_r0 : BitVec 32 := Scalar.addi arg37_r0 c0_i32_171_r0
  let true_178_r0 : BitVec 1 := 1#1
  let c1_i32_177_r0 : BitVec 32 := 1#32
  let v236_r0 : BitVec 32 := Scalar.addi arg37_r0 c1_i32_177_r0
  let v237_r0 : BitVec 32 := Scalar.select true_178_r0 v236_r0 arg37_r0
  let c6_i32_179_r0 : BitVec 32 := 6#32
  let v238_r0 : BitVec 1 := Scalar.cmpi .eq v237_r0 c6_i32_179_r0
  let c0_i32_180_r0 : BitVec 32 := 0#32
  let v239_r0 : BitVec 32 := Scalar.select v238_r0 c0_i32_180_r0 v237_r0
  let c0_i32_181_r0 : BitVec 32 := 0#32
  let v240_r0 : BitVec 32 := Scalar.addi v239_r0 c0_i32_181_r0
  let v302_r0 : BitVec 1 := Scalar.cmpi .ne v230_r0 v240_r0
  let c0_i32_141_r0 : BitVec 32 := 0#32
  let c1_i32_143_r0 : BitVec 32 := 1#32
  let arg32_r0 : BitVec 32 := Scf.iv c0_i32_141_r0 c1_i32_143_r0 k0_t1
  let c5_i32_170_r0 : BitVec 32 := 5#32
  let v229_r0 : BitVec 1 := Scalar.cmpi .eq arg32_r0 c5_i32_170_r0
  let v303_r0 : BitVec 1 := Scalar.ori v302_r0 v229_r0
  let v304_r0 : BitVec 32 := Scalar.extui v303_r0
  let c0_i32_216_r0 : BitVec 32 := 0#32
  let v305_r0 : BitVec 1 := Scalar.cmpi .ne v304_r0 c0_i32_216_r0
  v305_r0

def k0_off12 (arg37_r0 : BitVec 32) : Fin 2 → Nat :=
  let c0_i32_233_r0 : BitVec 32 := 0#32
  let c3328_i32_232_r0 : BitVec 32 := 3328#32
  let c0_i32_171_r0 : BitVec 32 := 0#32
  let v230_r0 : BitVec 32 := Scalar.addi arg37_r0 c0_i32_171_r0
  let v332_r0 : BitVec 32 := Scalar.muli c3328_i32_232_r0 v230_r0
  ![0, v332_r0.toNat]
def k0_off13 (arg35_r0 : BitVec 32) : Fin 3 → Nat :=
  let c2_i32_231_r0 : BitVec 32 := 2#32
  let v331_r0 : BitVec 32 := Scalar.remui arg35_r0 c2_i32_231_r0
  let c0_i32_234_r0 : BitVec 32 := 0#32
  let c0_i32_235_r0 : BitVec 32 := 0#32
  ![v331_r0.toNat, 0, 0]
def k0_off14 (arg36_r0 : BitVec 32) : Fin 1 → Nat :=
  let c2_i32_231_r0 : BitVec 32 := 2#32
  let v331_r0 : BitVec 32 := Scalar.remui arg36_r0 c2_i32_231_r0
  ![v331_r0.toNat]
def k0_cond7 (k0_t1 : Fin k0_t1_loop.trips) (arg37_r0 : BitVec 32) : BitVec 1 :=
  let c0_i32_171_r0 : BitVec 32 := 0#32
  let v230_r0 : BitVec 32 := Scalar.addi arg37_r0 c0_i32_171_r0
  let true_173_r0 : BitVec 1 := 1#1
  let c1_i32_172_r0 : BitVec 32 := 1#32
  let v231_r0 : BitVec 32 := Scalar.subi arg37_r0 c1_i32_172_r0
  let v232_r0 : BitVec 32 := Scalar.select true_173_r0 v231_r0 arg37_r0
  let c_m1_i32_174_r0 : BitVec 32 := 4294967295#32
  let v233_r0 : BitVec 1 := Scalar.cmpi .eq v232_r0 c_m1_i32_174_r0
  let c5_i32_175_r0 : BitVec 32 := 5#32
  let v234_r0 : BitVec 32 := Scalar.select v233_r0 c5_i32_175_r0 v232_r0
  let c0_i32_176_r0 : BitVec 32 := 0#32
  let v235_r0 : BitVec 32 := Scalar.addi v234_r0 c0_i32_176_r0
  let v315_r0 : BitVec 1 := Scalar.cmpi .ne v230_r0 v235_r0
  let c0_i32_141_r0 : BitVec 32 := 0#32
  let c1_i32_143_r0 : BitVec 32 := 1#32
  let arg32_r0 : BitVec 32 := Scf.iv c0_i32_141_r0 c1_i32_143_r0 k0_t1
  let c0_i32_169_r0 : BitVec 32 := 0#32
  let v228_r0 : BitVec 1 := Scalar.cmpi .eq arg32_r0 c0_i32_169_r0
  let true_222_r0 : BitVec 1 := 1#1
  let v316_r0 : BitVec 1 := Scalar.xori v228_r0 true_222_r0
  let v317_r0 : BitVec 1 := Scalar.andi v315_r0 v316_r0
  let v318_r0 : BitVec 32 := Scalar.extui v317_r0
  let c0_i32_223_r0 : BitVec 32 := 0#32
  let v319_r0 : BitVec 1 := Scalar.cmpi .ne v318_r0 c0_i32_223_r0
  v319_r0

def k0_off15 (arg37_r0 : BitVec 32) : Fin 2 → Nat :=
  let c0_i32_233_r0 : BitVec 32 := 0#32
  let c3328_i32_232_r0 : BitVec 32 := 3328#32
  let true_173_r0 : BitVec 1 := 1#1
  let c1_i32_172_r0 : BitVec 32 := 1#32
  let v231_r0 : BitVec 32 := Scalar.subi arg37_r0 c1_i32_172_r0
  let v232_r0 : BitVec 32 := Scalar.select true_173_r0 v231_r0 arg37_r0
  let c_m1_i32_174_r0 : BitVec 32 := 4294967295#32
  let v233_r0 : BitVec 1 := Scalar.cmpi .eq v232_r0 c_m1_i32_174_r0
  let c5_i32_175_r0 : BitVec 32 := 5#32
  let v234_r0 : BitVec 32 := Scalar.select v233_r0 c5_i32_175_r0 v232_r0
  let c0_i32_176_r0 : BitVec 32 := 0#32
  let v235_r0 : BitVec 32 := Scalar.addi v234_r0 c0_i32_176_r0
  let v332_r0 : BitVec 32 := Scalar.muli c3328_i32_232_r0 v235_r0
  ![0, v332_r0.toNat]
def k0_off16 (arg36_r0 : BitVec 32) : Fin 3 → Nat :=
  let c2_i32_231_r0 : BitVec 32 := 2#32
  let v331_r0 : BitVec 32 := Scalar.remui arg36_r0 c2_i32_231_r0
  let c0_i32_234_r0 : BitVec 32 := 0#32
  let c0_i32_235_r0 : BitVec 32 := 0#32
  ![v331_r0.toNat, 0, 0]

def k0_chk1 (k0_t1 : Fin k0_t1_loop.trips) (arg33_r0 : BitVec 32) (arg34_r0 : BitVec 32) (arg35_r0 : BitVec 32) (arg36_r0 : BitVec 32) (arg37_r0 : BitVec 32) : Prop :=
  (∀ (k0_h1 : k0_cond1 k0_t1 arg37_r0 = 1#1), ∀ a, (k0_off3 arg33_r0) a + S1.size a ≤ S2.size a) ∧
  (∀ (k0_h1 : k0_cond1 k0_t1 arg37_r0 = 1#1), ∀ a, (k0_off4 arg33_r0) a + S1x1033x3328.size a ≤ S2x1033x3328.size a) ∧
  (∀ (k0_h1 : k0_cond1 k0_t1 arg37_r0 = 1#1), ∀ a, (k0_off5 arg37_r0) a + S1033x3328.size a ≤ S1033x19968.size a) ∧
  (∀ (k0_h2 : k0_cond2 k0_t1 arg37_r0 = 1#1), ∀ a, (k0_off6 arg34_r0) a + S1.size a ≤ S2.size a) ∧
  (∀ (k0_h2 : k0_cond2 k0_t1 arg37_r0 = 1#1), ∀ a, (k0_off7 arg34_r0) a + S1x1033x3328.size a ≤ S2x1033x3328.size a) ∧
  (∀ (k0_h2 : k0_cond2 k0_t1 arg37_r0 = 1#1), ∀ a, (k0_off8 arg37_r0) a + S1033x3328.size a ≤ S1033x19968.size a) ∧
  (∀ (k0_h5 : k0_cond5 k0_t1 arg37_r0 = 1#1), ∀ a, (k0_off11 arg35_r0) a + S1.size a ≤ S2.size a) ∧
  (∀ (k0_h5 : k0_cond5 k0_t1 arg37_r0 = 1#1), ∀ a, (k0_off12 arg37_r0) a + S1000x3328.size a ≤ S1000x19968.size a) ∧
  (∀ (k0_h5 : k0_cond5 k0_t1 arg37_r0 = 1#1), ∀ a, (k0_off13 arg35_r0) a + S1x1000x3328.size a ≤ S2x1000x3328.size a) ∧
  (∀ (k0_h5 : k0_cond5 k0_t1 arg37_r0 = 1#1), ∀ (hinb : ∀ a, (k0_off13 arg35_r0) a + S1x1000x3328.size a ≤ S2x1000x3328.size a), (Rect.unit (s := S2x1000x3328) (k0_off13 arg35_r0) S1x1000x3328.size hinb).WholeWords (EltTy.packing .bf16)) ∧
  (∀ (k0_h5 : k0_cond5 k0_t1 arg37_r0 = 1#1), ∀ (hinb : ∀ a, (k0_off12 arg37_r0) a + S1000x3328.size a ≤ S1000x19968.size a), (Rect.unit (s := S1000x19968) (k0_off12 arg37_r0) S1000x3328.size hinb).WholeWords (EltTy.packing .bf16)) ∧
  (∀ (k0_h7 : k0_cond7 k0_t1 arg37_r0 = 1#1), ∀ a, (k0_off14 arg36_r0) a + S1.size a ≤ S2.size a) ∧
  (∀ (k0_h7 : k0_cond7 k0_t1 arg37_r0 = 1#1), ∀ a, (k0_off15 arg37_r0) a + S1000x3328.size a ≤ S1000x19968.size a) ∧
  (∀ (k0_h7 : k0_cond7 k0_t1 arg37_r0 = 1#1), ∀ a, (k0_off16 arg36_r0) a + S1x1000x3328.size a ≤ S2x1000x3328.size a) ∧
  (∀ (k0_h7 : k0_cond7 k0_t1 arg37_r0 = 1#1), ∀ (hinb : ∀ a, (k0_off16 arg36_r0) a + S1x1000x3328.size a ≤ S2x1000x3328.size a), (Rect.unit (s := S2x1000x3328) (k0_off16 arg36_r0) S1x1000x3328.size hinb).WholeWords (EltTy.packing .bf16)) ∧
  (∀ (k0_h7 : k0_cond7 k0_t1 arg37_r0 = 1#1), ∀ (hinb : ∀ a, (k0_off15 arg37_r0) a + S1000x3328.size a ≤ S1000x19968.size a), (Rect.unit (s := S1000x19968) (k0_off15 arg37_r0) S1000x3328.size hinb).WholeWords (EltTy.packing .bf16))
theorem k0_off3_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h1 : k0_cond1 k0_t1 arg37_r0 = 1#1), ∀ a, (k0_off3 arg33_r0) a + S1.size a ≤ S2.size a := fun k0_t1 arg33_r0 arg34_r0 arg35_r0 arg36_r0 arg37_r0 k0_hw1 k0_h1 => k0_hw1.1 k0_h1
theorem k0_off4_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h1 : k0_cond1 k0_t1 arg37_r0 = 1#1), ∀ a, (k0_off4 arg33_r0) a + S1x1033x3328.size a ≤ S2x1033x3328.size a := fun k0_t1 arg33_r0 arg34_r0 arg35_r0 arg36_r0 arg37_r0 k0_hw1 k0_h1 => k0_hw1.2.1 k0_h1
theorem k0_off5_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h1 : k0_cond1 k0_t1 arg37_r0 = 1#1), ∀ a, (k0_off5 arg37_r0) a + S1033x3328.size a ≤ S1033x19968.size a := fun k0_t1 arg33_r0 arg34_r0 arg35_r0 arg36_r0 arg37_r0 k0_hw1 k0_h1 => k0_hw1.2.2.1 k0_h1
theorem k0_off6_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h2 : k0_cond2 k0_t1 arg37_r0 = 1#1), ∀ a, (k0_off6 arg34_r0) a + S1.size a ≤ S2.size a := fun k0_t1 arg33_r0 arg34_r0 arg35_r0 arg36_r0 arg37_r0 k0_hw1 k0_h2 => k0_hw1.2.2.2.1 k0_h2
theorem k0_off7_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h2 : k0_cond2 k0_t1 arg37_r0 = 1#1), ∀ a, (k0_off7 arg34_r0) a + S1x1033x3328.size a ≤ S2x1033x3328.size a := fun k0_t1 arg33_r0 arg34_r0 arg35_r0 arg36_r0 arg37_r0 k0_hw1 k0_h2 => k0_hw1.2.2.2.2.1 k0_h2
theorem k0_off8_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h2 : k0_cond2 k0_t1 arg37_r0 = 1#1), ∀ a, (k0_off8 arg37_r0) a + S1033x3328.size a ≤ S1033x19968.size a := fun k0_t1 arg33_r0 arg34_r0 arg35_r0 arg36_r0 arg37_r0 k0_hw1 k0_h2 => k0_hw1.2.2.2.2.2.1 k0_h2
theorem k0_off11_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h5 : k0_cond5 k0_t1 arg37_r0 = 1#1), ∀ a, (k0_off11 arg35_r0) a + S1.size a ≤ S2.size a := fun k0_t1 arg33_r0 arg34_r0 arg35_r0 arg36_r0 arg37_r0 k0_hw1 k0_h5 => k0_hw1.2.2.2.2.2.2.1 k0_h5
theorem k0_off12_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h5 : k0_cond5 k0_t1 arg37_r0 = 1#1), ∀ a, (k0_off12 arg37_r0) a + S1000x3328.size a ≤ S1000x19968.size a := fun k0_t1 arg33_r0 arg34_r0 arg35_r0 arg36_r0 arg37_r0 k0_hw1 k0_h5 => k0_hw1.2.2.2.2.2.2.2.1 k0_h5
theorem k0_off13_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h5 : k0_cond5 k0_t1 arg37_r0 = 1#1), ∀ a, (k0_off13 arg35_r0) a + S1x1000x3328.size a ≤ S2x1000x3328.size a := fun k0_t1 arg33_r0 arg34_r0 arg35_r0 arg36_r0 arg37_r0 k0_hw1 k0_h5 => k0_hw1.2.2.2.2.2.2.2.2.1 k0_h5
theorem k0_off13_wordsbf16 : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h5 : k0_cond5 k0_t1 arg37_r0 = 1#1), (Rect.unit (s := S2x1000x3328) (k0_off13 arg35_r0) S1x1000x3328.size (k0_off13_inb k0_t1 arg33_r0 arg34_r0 arg35_r0 arg36_r0 arg37_r0 k0_hw1 k0_h5)).WholeWords (EltTy.packing .bf16) := fun k0_t1 arg33_r0 arg34_r0 arg35_r0 arg36_r0 arg37_r0 k0_hw1 k0_h5 => k0_hw1.2.2.2.2.2.2.2.2.2.1 k0_h5 (k0_off13_inb k0_t1 arg33_r0 arg34_r0 arg35_r0 arg36_r0 arg37_r0 k0_hw1 k0_h5)
theorem k0_off12_wordsbf16 : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h5 : k0_cond5 k0_t1 arg37_r0 = 1#1), (Rect.unit (s := S1000x19968) (k0_off12 arg37_r0) S1000x3328.size (k0_off12_inb k0_t1 arg33_r0 arg34_r0 arg35_r0 arg36_r0 arg37_r0 k0_hw1 k0_h5)).WholeWords (EltTy.packing .bf16) := fun k0_t1 arg33_r0 arg34_r0 arg35_r0 arg36_r0 arg37_r0 k0_hw1 k0_h5 => k0_hw1.2.2.2.2.2.2.2.2.2.2.1 k0_h5 (k0_off12_inb k0_t1 arg33_r0 arg34_r0 arg35_r0 arg36_r0 arg37_r0 k0_hw1 k0_h5)
theorem k0_off14_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h7 : k0_cond7 k0_t1 arg37_r0 = 1#1), ∀ a, (k0_off14 arg36_r0) a + S1.size a ≤ S2.size a := fun k0_t1 arg33_r0 arg34_r0 arg35_r0 arg36_r0 arg37_r0 k0_hw1 k0_h7 => k0_hw1.2.2.2.2.2.2.2.2.2.2.2.1 k0_h7
theorem k0_off15_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h7 : k0_cond7 k0_t1 arg37_r0 = 1#1), ∀ a, (k0_off15 arg37_r0) a + S1000x3328.size a ≤ S1000x19968.size a := fun k0_t1 arg33_r0 arg34_r0 arg35_r0 arg36_r0 arg37_r0 k0_hw1 k0_h7 => k0_hw1.2.2.2.2.2.2.2.2.2.2.2.2.1 k0_h7
theorem k0_off16_inb : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h7 : k0_cond7 k0_t1 arg37_r0 = 1#1), ∀ a, (k0_off16 arg36_r0) a + S1x1000x3328.size a ≤ S2x1000x3328.size a := fun k0_t1 arg33_r0 arg34_r0 arg35_r0 arg36_r0 arg37_r0 k0_hw1 k0_h7 => k0_hw1.2.2.2.2.2.2.2.2.2.2.2.2.2.1 k0_h7
theorem k0_off16_wordsbf16 : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h7 : k0_cond7 k0_t1 arg37_r0 = 1#1), (Rect.unit (s := S2x1000x3328) (k0_off16 arg36_r0) S1x1000x3328.size (k0_off16_inb k0_t1 arg33_r0 arg34_r0 arg35_r0 arg36_r0 arg37_r0 k0_hw1 k0_h7)).WholeWords (EltTy.packing .bf16) := fun k0_t1 arg33_r0 arg34_r0 arg35_r0 arg36_r0 arg37_r0 k0_hw1 k0_h7 => k0_hw1.2.2.2.2.2.2.2.2.2.2.2.2.2.2.1 k0_h7 (k0_off16_inb k0_t1 arg33_r0 arg34_r0 arg35_r0 arg36_r0 arg37_r0 k0_hw1 k0_h7)
theorem k0_off15_wordsbf16 : ∀ (k0_t1 : Fin k0_t1_loop.trips) (arg33_r0 : BitVec 32) (arg34_r0 : BitVec 32) (arg35_r0 : BitVec 32) (arg36_r0 : BitVec 32) (arg37_r0 : BitVec 32) (k0_hw1 : k0_chk1 k0_t1 arg33_r0 arg34_r0 arg35_r0 arg36_r0 arg37_r0), ∀ (k0_h7 : k0_cond7 k0_t1 arg37_r0 = 1#1), (Rect.unit (s := S1000x19968) (k0_off15 arg37_r0) S1000x3328.size (k0_off15_inb k0_t1 arg33_r0 arg34_r0 arg35_r0 arg36_r0 arg37_r0 k0_hw1 k0_h7)).WholeWords (EltTy.packing .bf16) := fun k0_t1 arg33_r0 arg34_r0 arg35_r0 arg36_r0 arg37_r0 k0_hw1 k0_h7 => k0_hw1.2.2.2.2.2.2.2.2.2.2.2.2.2.2.2 k0_h7 (k0_off15_inb k0_t1 arg33_r0 arg34_r0 arg35_r0 arg36_r0 arg37_r0 k0_hw1 k0_h7)

def k0_off17 (v200_3_r0 : BitVec 32) : Fin 1 → Nat :=
  let c2_i32_165_r0 : BitVec 32 := 2#32
  let v221_r0 : BitVec 32 := Scalar.remui v200_3_r0 c2_i32_165_r0
  ![v221_r0.toNat]

def k0_off18 (v200_4_r0 : BitVec 32) : Fin 2 → Nat :=
  let c0_i32_166_r0 : BitVec 32 := 0#32
  let c3328_i32_r0 : BitVec 32 := 3328#32
  let true_146_r0 : BitVec 1 := 1#1
  let c1_i32_145_r0 : BitVec 32 := 1#32
  let v201_r0 : BitVec 32 := Scalar.subi v200_4_r0 c1_i32_145_r0
  let v202_r0 : BitVec 32 := Scalar.select true_146_r0 v201_r0 v200_4_r0
  let c_m1_i32_147_r0 : BitVec 32 := 4294967295#32
  let v203_r0 : BitVec 1 := Scalar.cmpi .eq v202_r0 c_m1_i32_147_r0
  let c5_i32_148_r0 : BitVec 32 := 5#32
  let v204_r0 : BitVec 32 := Scalar.select v203_r0 c5_i32_148_r0 v202_r0
  let c0_i32_149_r0 : BitVec 32 := 0#32
  let v205_r0 : BitVec 32 := Scalar.addi v204_r0 c0_i32_149_r0
  let v222_r0 : BitVec 32 := Scalar.muli c3328_i32_r0 v205_r0
  ![0, v222_r0.toNat]

def k0_off19 (v200_3_r0 : BitVec 32) : Fin 3 → Nat :=
  let c2_i32_165_r0 : BitVec 32 := 2#32
  let v221_r0 : BitVec 32 := Scalar.remui v200_3_r0 c2_i32_165_r0
  let c0_i32_167_r0 : BitVec 32 := 0#32
  let c0_i32_168_r0 : BitVec 32 := 0#32
  ![v221_r0.toNat, 0, 0]

def k0_chk4 (v200_3_r0 : BitVec 32) : Prop :=
  (∀ a, (k0_off17 v200_3_r0) a + S1.size a ≤ S2.size a) ∧
  (∀ a, (k0_off19 v200_3_r0) a + S1x1000x3328.size a ≤ S2x1000x3328.size a) ∧
  (∀ (hinb : ∀ a, (k0_off19 v200_3_r0) a + S1x1000x3328.size a ≤ S2x1000x3328.size a), (Rect.unit (s := S2x1000x3328) (k0_off19 v200_3_r0) S1x1000x3328.size hinb).WholeWords (EltTy.packing .bf16))
theorem k0_off17_inb : ∀ (v200_3_r0 : BitVec 32) (k0_hw4 : k0_chk4 v200_3_r0), ∀ a, (k0_off17 v200_3_r0) a + S1.size a ≤ S2.size a := fun v200_3_r0 k0_hw4 => k0_hw4.1
theorem k0_off19_inb : ∀ (v200_3_r0 : BitVec 32) (k0_hw4 : k0_chk4 v200_3_r0), ∀ a, (k0_off19 v200_3_r0) a + S1x1000x3328.size a ≤ S2x1000x3328.size a := fun v200_3_r0 k0_hw4 => k0_hw4.2.1
theorem k0_off19_wordsbf16 : ∀ (v200_3_r0 : BitVec 32) (k0_hw4 : k0_chk4 v200_3_r0), (Rect.unit (s := S2x1000x3328) (k0_off19 v200_3_r0) S1x1000x3328.size (k0_off19_inb v200_3_r0 k0_hw4)).WholeWords (EltTy.packing .bf16) := fun v200_3_r0 k0_hw4 => k0_hw4.2.2 (k0_off19_inb v200_3_r0 k0_hw4)

def k0_chk5 (v200_4_r0 : BitVec 32) : Prop :=
  (∀ a, (k0_off18 v200_4_r0) a + S1000x3328.size a ≤ S1000x19968.size a) ∧
  (∀ (hinb : ∀ a, (k0_off18 v200_4_r0) a + S1000x3328.size a ≤ S1000x19968.size a), (Rect.unit (s := S1000x19968) (k0_off18 v200_4_r0) S1000x3328.size hinb).WholeWords (EltTy.packing .bf16))
theorem k0_off18_inb : ∀ (v200_4_r0 : BitVec 32) (k0_hw5 : k0_chk5 v200_4_r0), ∀ a, (k0_off18 v200_4_r0) a + S1000x3328.size a ≤ S1000x19968.size a := fun v200_4_r0 k0_hw5 => k0_hw5.1
theorem k0_off18_wordsbf16 : ∀ (v200_4_r0 : BitVec 32) (k0_hw5 : k0_chk5 v200_4_r0), (Rect.unit (s := S1000x19968) (k0_off18 v200_4_r0) S1000x3328.size (k0_off18_inb v200_4_r0 k0_hw5)).WholeWords (EltTy.packing .bf16) := fun v200_4_r0 k0_hw5 => k0_hw5.2 (k0_off18_inb v200_4_r0 k0_hw5)

def k0_off20 : Fin 1 → Nat :=
  let c0_i32_130_r1 : BitVec 32 := 0#32
  let c2_i32_r1 : BitVec 32 := 2#32
  let v192_r1 : BitVec 32 := Scalar.remui c0_i32_130_r1 c2_i32_r1
  ![v192_r1.toNat]
def k0_off21 : Fin 3 → Nat :=
  let c0_i32_130_r1 : BitVec 32 := 0#32
  let c2_i32_r1 : BitVec 32 := 2#32
  let v192_r1 : BitVec 32 := Scalar.remui c0_i32_130_r1 c2_i32_r1
  let c0_i32_131_r1 : BitVec 32 := 0#32
  let c0_i32_132_r1 : BitVec 32 := 0#32
  ![v192_r1.toNat, 0, 0]
@[reducible] def k0_t2_loop : Scf.Loop 32 :=
  let c0_i32_141_r1 : BitVec 32 := 0#32
  let c12_i32_142_r1 : BitVec 32 := 12#32
  let v199_r1 : BitVec 32 := Scalar.addi c0_i32_141_r1 c12_i32_142_r1
  let c1_i32_143_r1 : BitVec 32 := 1#32
  ⟨c0_i32_141_r1, v199_r1, c1_i32_143_r1⟩
def k0_off22 (arg33_r1 : BitVec 32) : Fin 1 → Nat :=
  let c2_i32_235_r1 : BitVec 32 := 2#32
  let v341_r1 : BitVec 32 := Scalar.remui arg33_r1 c2_i32_235_r1
  ![v341_r1.toNat]
def k0_cond8 (k0_t2 : Fin k0_t2_loop.trips) (arg37_r1 : BitVec 32) : BitVec 1 :=
  let c0_i32_171_r1 : BitVec 32 := 0#32
  let v230_r1 : BitVec 32 := Scalar.addi arg37_r1 c0_i32_171_r1
  let true_178_r1 : BitVec 1 := 1#1
  let c1_i32_177_r1 : BitVec 32 := 1#32
  let v236_r1 : BitVec 32 := Scalar.addi arg37_r1 c1_i32_177_r1
  let v237_r1 : BitVec 32 := Scalar.select true_178_r1 v236_r1 arg37_r1
  let c12_i32_179_r1 : BitVec 32 := 12#32
  let v238_r1 : BitVec 1 := Scalar.cmpi .eq v237_r1 c12_i32_179_r1
  let c0_i32_180_r1 : BitVec 32 := 0#32
  let v239_r1 : BitVec 32 := Scalar.select v238_r1 c0_i32_180_r1 v237_r1
  let c0_i32_181_r1 : BitVec 32 := 0#32
  let v240_r1 : BitVec 32 := Scalar.addi v239_r1 c0_i32_181_r1
  let v246_r1 : BitVec 1 := Scalar.cmpi .ne v230_r1 v240_r1
  let c0_i32_141_r1 : BitVec 32 := 0#32
  let c1_i32_143_r1 : BitVec 32 := 1#32
  let arg32_r1 : BitVec 32 := Scf.iv c0_i32_141_r1 c1_i32_143_r1 k0_t2
  let c11_i32_187_r1 : BitVec 32 := 11#32
  let v247_r1 : BitVec 1 := Scalar.cmpi .sge arg32_r1 c11_i32_187_r1
  let true_188_r1 : BitVec 1 := 1#1
  let v248_r1 : BitVec 1 := Scalar.xori v247_r1 true_188_r1
  let v249_r1 : BitVec 1 := Scalar.andi v246_r1 v248_r1
  let true_189_r1 : BitVec 1 := 1#1
  let v250_r1 : BitVec 1 := Scalar.andi v249_r1 true_189_r1
  let v251_r1 : BitVec 32 := Scalar.extui v250_r1
  let c0_i32_190_r1 : BitVec 32 := 0#32
  let v252_r1 : BitVec 1 := Scalar.cmpi .ne v251_r1 c0_i32_190_r1
  v252_r1

def k0_off23 (arg33_r1 : BitVec 32) : Fin 3 → Nat :=
  let c2_i32_235_r1 : BitVec 32 := 2#32
  let v341_r1 : BitVec 32 := Scalar.remui arg33_r1 c2_i32_235_r1
  let c0_i32_237_r1 : BitVec 32 := 0#32
  let c0_i32_238_r1 : BitVec 32 := 0#32
  ![v341_r1.toNat, 0, 0]
def k0_off24 (arg37_r1 : BitVec 32) : Fin 2 → Nat :=
  let c0_i32_239_r1 : BitVec 32 := 0#32
  let c1664_i32_236_r1 : BitVec 32 := 1664#32
  let true_178_r1 : BitVec 1 := 1#1
  let c1_i32_177_r1 : BitVec 32 := 1#32
  let v236_r1 : BitVec 32 := Scalar.addi arg37_r1 c1_i32_177_r1
  let v237_r1 : BitVec 32 := Scalar.select true_178_r1 v236_r1 arg37_r1
  let c12_i32_179_r1 : BitVec 32 := 12#32
  let v238_r1 : BitVec 1 := Scalar.cmpi .eq v237_r1 c12_i32_179_r1
  let c0_i32_180_r1 : BitVec 32 := 0#32
  let v239_r1 : BitVec 32 := Scalar.select v238_r1 c0_i32_180_r1 v237_r1
  let c0_i32_181_r1 : BitVec 32 := 0#32
  let v240_r1 : BitVec 32 := Scalar.addi v239_r1 c0_i32_181_r1
  let v342_r1 : BitVec 32 := Scalar.muli c1664_i32_236_r1 v240_r1
  ![0, v342_r1.toNat]
def k0_off25 (arg34_r1 : BitVec 32) : Fin 1 → Nat :=
  let c2_i32_236_r1 : BitVec 32 := 2#32
  let v342_r1 : BitVec 32 := Scalar.remui arg34_r1 c2_i32_236_r1
  ![v342_r1.toNat]
def k0_cond9 (k0_t2 : Fin k0_t2_loop.trips) (arg37_r1 : BitVec 32) : BitVec 1 :=
  let c0_i32_171_r1 : BitVec 32 := 0#32
  let v230_r1 : BitVec 32 := Scalar.addi arg37_r1 c0_i32_171_r1
  let true_173_r1 : BitVec 1 := 1#1
  let c1_i32_172_r1 : BitVec 32 := 1#32
  let v231_r1 : BitVec 32 := Scalar.subi arg37_r1 c1_i32_172_r1
  let v232_r1 : BitVec 32 := Scalar.select true_173_r1 v231_r1 arg37_r1
  let c_m1_i32_174_r1 : BitVec 32 := 4294967295#32
  let v233_r1 : BitVec 1 := Scalar.cmpi .eq v232_r1 c_m1_i32_174_r1
  let c11_i32_175_r1 : BitVec 32 := 11#32
  let v234_r1 : BitVec 32 := Scalar.select v233_r1 c11_i32_175_r1 v232_r1
  let c0_i32_176_r1 : BitVec 32 := 0#32
  let v235_r1 : BitVec 32 := Scalar.addi v234_r1 c0_i32_176_r1
  let v260_r1 : BitVec 1 := Scalar.cmpi .ne v230_r1 v235_r1
  let c0_i32_141_r1 : BitVec 32 := 0#32
  let c1_i32_143_r1 : BitVec 32 := 1#32
  let arg32_r1 : BitVec 32 := Scf.iv c0_i32_141_r1 c1_i32_143_r1 k0_t2
  let c0_i32_169_r1 : BitVec 32 := 0#32
  let v228_r1 : BitVec 1 := Scalar.cmpi .eq arg32_r1 c0_i32_169_r1
  let v261_r1 : BitVec 1 := Scalar.ori v260_r1 v228_r1
  let c0_i32_195_r1 : BitVec 32 := 0#32
  let v262_r1 : BitVec 1 := Scalar.cmpi .sge arg32_r1 c0_i32_195_r1
  let v263_r1 : BitVec 1 := Scalar.andi v261_r1 v262_r1
  let v264_r1 : BitVec 32 := Scalar.extui v263_r1
  let c0_i32_196_r1 : BitVec 32 := 0#32
  let v265_r1 : BitVec 1 := Scalar.cmpi .ne v264_r1 c0_i32_196_r1
  v265_r1

def k0_off26 (arg34_r1 : BitVec 32) : Fin 3 → Nat :=
  let c2_i32_236_r1 : BitVec 32 := 2#32
  let v342_r1 : BitVec 32 := Scalar.remui arg34_r1 c2_i32_236_r1
  let c0_i32_237_r1 : BitVec 32 := 0#32
  let c0_i32_238_r1 : BitVec 32 := 0#32
  ![v342_r1.toNat, 0, 0]
def k0_off27 (arg37_r1 : BitVec 32) : Fin 2 → Nat :=
  let c0_i32_239_r1 : BitVec 32 := 0#32
  let c1664_i32_235_r1 : BitVec 32 := 1664#32
  let c0_i32_171_r1 : BitVec 32 := 0#32
  let v230_r1 : BitVec 32 := Scalar.addi arg37_r1 c0_i32_171_r1
  let v341_r1 : BitVec 32 := Scalar.muli c1664_i32_235_r1 v230_r1
  ![0, v341_r1.toNat]
def k0_off28 (arg34_r1 : BitVec 32) : Fin 3 → Nat :=
  let c2_i32_199_r1 : BitVec 32 := 2#32
  let v272_r1 : BitVec 32 := Scalar.remui arg34_r1 c2_i32_199_r1
  let v274_r1 : Index := Scalar.indexCast v272_r1
  let c0_201_r1 : Index := 0#32
  let c0_202_r1 : Index := 0#32
  ![v274_r1.toNat, 0, 0]

def k0_chk7 (arg34_r1 : BitVec 32) : Prop :=
  (∀ a, (k0_off28 arg34_r1) a + S1x1000x1664.size a ≤ S2x1000x1664.size a)
theorem k0_off28_inb : ∀ (arg34_r1 : BitVec 32) (k0_hw7 : k0_chk7 arg34_r1), ∀ a, (k0_off28 arg34_r1) a + S1x1000x1664.size a ≤ S2x1000x1664.size a := fun arg34_r1 k0_hw7 => k0_hw7

def k0_off29 (arg35_r1 : BitVec 32) : Fin 3 → Nat :=
  let c2_i32_200_r1 : BitVec 32 := 2#32
  let v273_r1 : BitVec 32 := Scalar.remui arg35_r1 c2_i32_200_r1
  let v296_r1 : Index := Scalar.indexCast v273_r1
  let c0_212_r1 : Index := 0#32
  let c0_213_r1 : Index := 0#32
  ![v296_r1.toNat, 0, 0]

def k0_chk8 (arg35_r1 : BitVec 32) : Prop :=
  (∀ a, (k0_off29 arg35_r1) a + S1x600x1664.size a ≤ S2x600x1664.size a) ∧
  (∀ (hinb : ∀ a, (k0_off29 arg35_r1) a + S1x600x1664.size a ≤ S2x600x1664.size a), (Rect.unit (s := S2x600x1664) (k0_off29 arg35_r1) S1x600x1664.size hinb).PackedRows (EltTy.packing .bf16))
theorem k0_off29_inb : ∀ (arg35_r1 : BitVec 32) (k0_hw8 : k0_chk8 arg35_r1), ∀ a, (k0_off29 arg35_r1) a + S1x600x1664.size a ≤ S2x600x1664.size a := fun arg35_r1 k0_hw8 => k0_hw8.1
theorem k0_off29_packedbf16 : ∀ (arg35_r1 : BitVec 32) (k0_hw8 : k0_chk8 arg35_r1), (Rect.unit (s := S2x600x1664) (k0_off29 arg35_r1) S1x600x1664.size (k0_off29_inb arg35_r1 k0_hw8)).PackedRows (EltTy.packing .bf16) := fun arg35_r1 k0_hw8 => k0_hw8.2 (k0_off29_inb arg35_r1 k0_hw8)

def k0_off30 (arg35_r1 : BitVec 32) : Fin 1 → Nat :=
  let c2_i32_235_r1 : BitVec 32 := 2#32
  let v341_r1 : BitVec 32 := Scalar.remui arg35_r1 c2_i32_235_r1
  ![v341_r1.toNat]
def k0_cond12 (k0_t2 : Fin k0_t2_loop.trips) (arg37_r1 : BitVec 32) : BitVec 1 :=
  let c0_i32_171_r1 : BitVec 32 := 0#32
  let v230_r1 : BitVec 32 := Scalar.addi arg37_r1 c0_i32_171_r1
  let true_178_r1 : BitVec 1 := 1#1
  let c1_i32_177_r1 : BitVec 32 := 1#32
  let v236_r1 : BitVec 32 := Scalar.addi arg37_r1 c1_i32_177_r1
  let v237_r1 : BitVec 32 := Scalar.select true_178_r1 v236_r1 arg37_r1
  let c12_i32_179_r1 : BitVec 32 := 12#32
  let v238_r1 : BitVec 1 := Scalar.cmpi .eq v237_r1 c12_i32_179_r1
  let c0_i32_180_r1 : BitVec 32 := 0#32
  let v239_r1 : BitVec 32 := Scalar.select v238_r1 c0_i32_180_r1 v237_r1
  let c0_i32_181_r1 : BitVec 32 := 0#32
  let v240_r1 : BitVec 32 := Scalar.addi v239_r1 c0_i32_181_r1
  let v312_r1 : BitVec 1 := Scalar.cmpi .ne v230_r1 v240_r1
  let c0_i32_141_r1 : BitVec 32 := 0#32
  let c1_i32_143_r1 : BitVec 32 := 1#32
  let arg32_r1 : BitVec 32 := Scf.iv c0_i32_141_r1 c1_i32_143_r1 k0_t2
  let c11_i32_170_r1 : BitVec 32 := 11#32
  let v229_r1 : BitVec 1 := Scalar.cmpi .eq arg32_r1 c11_i32_170_r1
  let v313_r1 : BitVec 1 := Scalar.ori v312_r1 v229_r1
  let v314_r1 : BitVec 32 := Scalar.extui v313_r1
  let c0_i32_220_r1 : BitVec 32 := 0#32
  let v315_r1 : BitVec 1 := Scalar.cmpi .ne v314_r1 c0_i32_220_r1
  v315_r1

def k0_off31 (arg37_r1 : BitVec 32) : Fin 2 → Nat :=
  let c0_i32_237_r1 : BitVec 32 := 0#32
  let c1664_i32_236_r1 : BitVec 32 := 1664#32
  let c0_i32_171_r1 : BitVec 32 := 0#32
  let v230_r1 : BitVec 32 := Scalar.addi arg37_r1 c0_i32_171_r1
  let v342_r1 : BitVec 32 := Scalar.muli c1664_i32_236_r1 v230_r1
  ![0, v342_r1.toNat]
def k0_off32 (arg35_r1 : BitVec 32) : Fin 3 → Nat :=
  let c2_i32_235_r1 : BitVec 32 := 2#32
  let v341_r1 : BitVec 32 := Scalar.remui arg35_r1 c2_i32_235_r1
  let c0_i32_238_r1 : BitVec 32 := 0#32
  let c0_i32_239_r1 : BitVec 32 := 0#32
  ![v341_r1.toNat, 0, 0]
def k0_off33 (arg36_r1 : BitVec 32) : Fin 1 → Nat :=
  let c2_i32_235_r1 : BitVec 32 := 2#32
  let v341_r1 : BitVec 32 := Scalar.remui arg36_r1 c2_i32_235_r1
  ![v341_r1.toNat]
def k0_cond14 (k0_t2 : Fin k0_t2_loop.trips) (arg37_r1 : BitVec 32) : BitVec 1 :=
  let c0_i32_171_r1 : BitVec 32 := 0#32
  let v230_r1 : BitVec 32 := Scalar.addi arg37_r1 c0_i32_171_r1
  let true_173_r1 : BitVec 1 := 1#1
  let c1_i32_172_r1 : BitVec 32 := 1#32
  let v231_r1 : BitVec 32 := Scalar.subi arg37_r1 c1_i32_172_r1
  let v232_r1 : BitVec 32 := Scalar.select true_173_r1 v231_r1 arg37_r1
  let c_m1_i32_174_r1 : BitVec 32 := 4294967295#32
  let v233_r1 : BitVec 1 := Scalar.cmpi .eq v232_r1 c_m1_i32_174_r1
  let c11_i32_175_r1 : BitVec 32 := 11#32
  let v234_r1 : BitVec 32 := Scalar.select v233_r1 c11_i32_175_r1 v232_r1
  let c0_i32_176_r1 : BitVec 32 := 0#32
  let v235_r1 : BitVec 32 := Scalar.addi v234_r1 c0_i32_176_r1
  let v325_r1 : BitVec 1 := Scalar.cmpi .ne v230_r1 v235_r1
  let c0_i32_141_r1 : BitVec 32 := 0#32
  let c1_i32_143_r1 : BitVec 32 := 1#32
  let arg32_r1 : BitVec 32 := Scf.iv c0_i32_141_r1 c1_i32_143_r1 k0_t2
  let c0_i32_169_r1 : BitVec 32 := 0#32
  let v228_r1 : BitVec 1 := Scalar.cmpi .eq arg32_r1 c0_i32_169_r1
  let true_226_r1 : BitVec 1 := 1#1
  let v326_r1 : BitVec 1 := Scalar.xori v228_r1 true_226_r1
  let v327_r1 : BitVec 1 := Scalar.andi v325_r1 v326_r1
  let v328_r1 : BitVec 32 := Scalar.extui v327_r1
  let c0_i32_227_r1 : BitVec 32 := 0#32
  let v329_r1 : BitVec 1 := Scalar.cmpi .ne v328_r1 c0_i32_227_r1
  v329_r1

def k0_off34 (arg37_r1 : BitVec 32) : Fin 2 → Nat :=
  let c0_i32_237_r1 : BitVec 32 := 0#32
  let c1664_i32_236_r1 : BitVec 32 := 1664#32
  let true_173_r1 : BitVec 1 := 1#1
  let c1_i32_172_r1 : BitVec 32 := 1#32
  let v231_r1 : BitVec 32 := Scalar.subi arg37_r1 c1_i32_172_r1
  let v232_r1 : BitVec 32 := Scalar.select true_173_r1 v231_r1 arg37_r1
  let c_m1_i32_174_r1 : BitVec 32 := 4294967295#32
  let v233_r1 : BitVec 1 := Scalar.cmpi .eq v232_r1 c_m1_i32_174_r1
  let c11_i32_175_r1 : BitVec 32 := 11#32
  let v234_r1 : BitVec 32 := Scalar.select v233_r1 c11_i32_175_r1 v232_r1
  let c0_i32_176_r1 : BitVec 32 := 0#32
  let v235_r1 : BitVec 32 := Scalar.addi v234_r1 c0_i32_176_r1
  let v342_r1 : BitVec 32 := Scalar.muli c1664_i32_236_r1 v235_r1
  ![0, v342_r1.toNat]
def k0_off35 (arg36_r1 : BitVec 32) : Fin 3 → Nat :=
  let c2_i32_235_r1 : BitVec 32 := 2#32
  let v341_r1 : BitVec 32 := Scalar.remui arg36_r1 c2_i32_235_r1
  let c0_i32_238_r1 : BitVec 32 := 0#32
  let c0_i32_239_r1 : BitVec 32 := 0#32
  ![v341_r1.toNat, 0, 0]

def k0_chk6 (k0_t2 : Fin k0_t2_loop.trips) (arg33_r1 : BitVec 32) (arg34_r1 : BitVec 32) (arg35_r1 : BitVec 32) (arg36_r1 : BitVec 32) (arg37_r1 : BitVec 32) : Prop :=
  (∀ (k0_h8 : k0_cond8 k0_t2 arg37_r1 = 1#1), ∀ a, (k0_off22 arg33_r1) a + S1.size a ≤ S2.size a) ∧
  (∀ (k0_h8 : k0_cond8 k0_t2 arg37_r1 = 1#1), ∀ a, (k0_off23 arg33_r1) a + S1x1000x1664.size a ≤ S2x1000x1664.size a) ∧
  (∀ (k0_h8 : k0_cond8 k0_t2 arg37_r1 = 1#1), ∀ a, (k0_off24 arg37_r1) a + S1000x1664.size a ≤ S1000x19968.size a) ∧
  (∀ (k0_h8 : k0_cond8 k0_t2 arg37_r1 = 1#1), ∀ (hinb : ∀ a, (k0_off24 arg37_r1) a + S1000x1664.size a ≤ S1000x19968.size a), (Rect.unit (s := S1000x19968) (k0_off24 arg37_r1) S1000x1664.size hinb).WholeWords (EltTy.packing .bf16)) ∧
  (∀ (k0_h8 : k0_cond8 k0_t2 arg37_r1 = 1#1), ∀ (hinb : ∀ a, (k0_off23 arg33_r1) a + S1x1000x1664.size a ≤ S2x1000x1664.size a), (Rect.unit (s := S2x1000x1664) (k0_off23 arg33_r1) S1x1000x1664.size hinb).WholeWords (EltTy.packing .bf16)) ∧
  (∀ (k0_h9 : k0_cond9 k0_t2 arg37_r1 = 1#1), ∀ a, (k0_off25 arg34_r1) a + S1.size a ≤ S2.size a) ∧
  (∀ (k0_h9 : k0_cond9 k0_t2 arg37_r1 = 1#1), ∀ a, (k0_off26 arg34_r1) a + S1x1000x1664.size a ≤ S2x1000x1664.size a) ∧
  (∀ (k0_h9 : k0_cond9 k0_t2 arg37_r1 = 1#1), ∀ a, (k0_off27 arg37_r1) a + S1000x1664.size a ≤ S1000x19968.size a) ∧
  (∀ (k0_h9 : k0_cond9 k0_t2 arg37_r1 = 1#1), ∀ (hinb : ∀ a, (k0_off27 arg37_r1) a + S1000x1664.size a ≤ S1000x19968.size a), (Rect.unit (s := S1000x19968) (k0_off27 arg37_r1) S1000x1664.size hinb).WholeWords (EltTy.packing .bf16)) ∧
  (∀ (k0_h9 : k0_cond9 k0_t2 arg37_r1 = 1#1), ∀ (hinb : ∀ a, (k0_off26 arg34_r1) a + S1x1000x1664.size a ≤ S2x1000x1664.size a), (Rect.unit (s := S2x1000x1664) (k0_off26 arg34_r1) S1x1000x1664.size hinb).WholeWords (EltTy.packing .bf16)) ∧
  (∀ (k0_h12 : k0_cond12 k0_t2 arg37_r1 = 1#1), ∀ a, (k0_off30 arg35_r1) a + S1.size a ≤ S2.size a) ∧
  (∀ (k0_h12 : k0_cond12 k0_t2 arg37_r1 = 1#1), ∀ a, (k0_off31 arg37_r1) a + S600x1664.size a ≤ S600x19968.size a) ∧
  (∀ (k0_h12 : k0_cond12 k0_t2 arg37_r1 = 1#1), ∀ a, (k0_off32 arg35_r1) a + S1x600x1664.size a ≤ S2x600x1664.size a) ∧
  (∀ (k0_h12 : k0_cond12 k0_t2 arg37_r1 = 1#1), ∀ (hinb : ∀ a, (k0_off32 arg35_r1) a + S1x600x1664.size a ≤ S2x600x1664.size a), (Rect.unit (s := S2x600x1664) (k0_off32 arg35_r1) S1x600x1664.size hinb).WholeWords (EltTy.packing .bf16)) ∧
  (∀ (k0_h12 : k0_cond12 k0_t2 arg37_r1 = 1#1), ∀ (hinb : ∀ a, (k0_off31 arg37_r1) a + S600x1664.size a ≤ S600x19968.size a), (Rect.unit (s := S600x19968) (k0_off31 arg37_r1) S600x1664.size hinb).WholeWords (EltTy.packing .bf16)) ∧
  (∀ (k0_h14 : k0_cond14 k0_t2 arg37_r1 = 1#1), ∀ a, (k0_off33 arg36_r1) a + S1.size a ≤ S2.size a) ∧
  (∀ (k0_h14 : k0_cond14 k0_t2 arg37_r1 = 1#1), ∀ a, (k0_off34 arg37_r1) a + S600x1664.size a ≤ S600x19968.size a) ∧
  (∀ (k0_h14 : k0_cond14 k0_t2 arg37_r1 = 1#1), ∀ a, (k0_off35 arg36_r1) a + S1x600x1664.size a ≤ S2x600x1664.size a) ∧
  (∀ (k0_h14 : k0_cond14 k0_t2 arg37_r1 = 1#1), ∀ (hinb : ∀ a, (k0_off35 arg36_r1) a + S1x600x1664.size a ≤ S2x600x1664.size a), (Rect.unit (s := S2x600x1664) (k0_off35 arg36_r1) S1x600x1664.size hinb).WholeWords (EltTy.packing .bf16)) ∧
  (∀ (k0_h14 : k0_cond14 k0_t2 arg37_r1 = 1#1), ∀ (hinb : ∀ a, (k0_off34 arg37_r1) a + S600x1664.size a ≤ S600x19968.size a), (Rect.unit (s := S600x19968) (k0_off34 arg37_r1) S600x1664.size hinb).WholeWords (EltTy.packing .bf16))
theorem k0_off22_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h8 : k0_cond8 k0_t2 arg37_r1 = 1#1), ∀ a, (k0_off22 arg33_r1) a + S1.size a ≤ S2.size a := fun k0_t2 arg33_r1 arg34_r1 arg35_r1 arg36_r1 arg37_r1 k0_hw6 k0_h8 => k0_hw6.1 k0_h8
theorem k0_off23_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h8 : k0_cond8 k0_t2 arg37_r1 = 1#1), ∀ a, (k0_off23 arg33_r1) a + S1x1000x1664.size a ≤ S2x1000x1664.size a := fun k0_t2 arg33_r1 arg34_r1 arg35_r1 arg36_r1 arg37_r1 k0_hw6 k0_h8 => k0_hw6.2.1 k0_h8
theorem k0_off24_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h8 : k0_cond8 k0_t2 arg37_r1 = 1#1), ∀ a, (k0_off24 arg37_r1) a + S1000x1664.size a ≤ S1000x19968.size a := fun k0_t2 arg33_r1 arg34_r1 arg35_r1 arg36_r1 arg37_r1 k0_hw6 k0_h8 => k0_hw6.2.2.1 k0_h8
theorem k0_off24_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h8 : k0_cond8 k0_t2 arg37_r1 = 1#1), (Rect.unit (s := S1000x19968) (k0_off24 arg37_r1) S1000x1664.size (k0_off24_inb k0_t2 arg33_r1 arg34_r1 arg35_r1 arg36_r1 arg37_r1 k0_hw6 k0_h8)).WholeWords (EltTy.packing .bf16) := fun k0_t2 arg33_r1 arg34_r1 arg35_r1 arg36_r1 arg37_r1 k0_hw6 k0_h8 => k0_hw6.2.2.2.1 k0_h8 (k0_off24_inb k0_t2 arg33_r1 arg34_r1 arg35_r1 arg36_r1 arg37_r1 k0_hw6 k0_h8)
theorem k0_off23_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h8 : k0_cond8 k0_t2 arg37_r1 = 1#1), (Rect.unit (s := S2x1000x1664) (k0_off23 arg33_r1) S1x1000x1664.size (k0_off23_inb k0_t2 arg33_r1 arg34_r1 arg35_r1 arg36_r1 arg37_r1 k0_hw6 k0_h8)).WholeWords (EltTy.packing .bf16) := fun k0_t2 arg33_r1 arg34_r1 arg35_r1 arg36_r1 arg37_r1 k0_hw6 k0_h8 => k0_hw6.2.2.2.2.1 k0_h8 (k0_off23_inb k0_t2 arg33_r1 arg34_r1 arg35_r1 arg36_r1 arg37_r1 k0_hw6 k0_h8)
theorem k0_off25_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h9 : k0_cond9 k0_t2 arg37_r1 = 1#1), ∀ a, (k0_off25 arg34_r1) a + S1.size a ≤ S2.size a := fun k0_t2 arg33_r1 arg34_r1 arg35_r1 arg36_r1 arg37_r1 k0_hw6 k0_h9 => k0_hw6.2.2.2.2.2.1 k0_h9
theorem k0_off26_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h9 : k0_cond9 k0_t2 arg37_r1 = 1#1), ∀ a, (k0_off26 arg34_r1) a + S1x1000x1664.size a ≤ S2x1000x1664.size a := fun k0_t2 arg33_r1 arg34_r1 arg35_r1 arg36_r1 arg37_r1 k0_hw6 k0_h9 => k0_hw6.2.2.2.2.2.2.1 k0_h9
theorem k0_off27_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h9 : k0_cond9 k0_t2 arg37_r1 = 1#1), ∀ a, (k0_off27 arg37_r1) a + S1000x1664.size a ≤ S1000x19968.size a := fun k0_t2 arg33_r1 arg34_r1 arg35_r1 arg36_r1 arg37_r1 k0_hw6 k0_h9 => k0_hw6.2.2.2.2.2.2.2.1 k0_h9
theorem k0_off27_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h9 : k0_cond9 k0_t2 arg37_r1 = 1#1), (Rect.unit (s := S1000x19968) (k0_off27 arg37_r1) S1000x1664.size (k0_off27_inb k0_t2 arg33_r1 arg34_r1 arg35_r1 arg36_r1 arg37_r1 k0_hw6 k0_h9)).WholeWords (EltTy.packing .bf16) := fun k0_t2 arg33_r1 arg34_r1 arg35_r1 arg36_r1 arg37_r1 k0_hw6 k0_h9 => k0_hw6.2.2.2.2.2.2.2.2.1 k0_h9 (k0_off27_inb k0_t2 arg33_r1 arg34_r1 arg35_r1 arg36_r1 arg37_r1 k0_hw6 k0_h9)
theorem k0_off26_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h9 : k0_cond9 k0_t2 arg37_r1 = 1#1), (Rect.unit (s := S2x1000x1664) (k0_off26 arg34_r1) S1x1000x1664.size (k0_off26_inb k0_t2 arg33_r1 arg34_r1 arg35_r1 arg36_r1 arg37_r1 k0_hw6 k0_h9)).WholeWords (EltTy.packing .bf16) := fun k0_t2 arg33_r1 arg34_r1 arg35_r1 arg36_r1 arg37_r1 k0_hw6 k0_h9 => k0_hw6.2.2.2.2.2.2.2.2.2.1 k0_h9 (k0_off26_inb k0_t2 arg33_r1 arg34_r1 arg35_r1 arg36_r1 arg37_r1 k0_hw6 k0_h9)
theorem k0_off30_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h12 : k0_cond12 k0_t2 arg37_r1 = 1#1), ∀ a, (k0_off30 arg35_r1) a + S1.size a ≤ S2.size a := fun k0_t2 arg33_r1 arg34_r1 arg35_r1 arg36_r1 arg37_r1 k0_hw6 k0_h12 => k0_hw6.2.2.2.2.2.2.2.2.2.2.1 k0_h12
theorem k0_off31_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h12 : k0_cond12 k0_t2 arg37_r1 = 1#1), ∀ a, (k0_off31 arg37_r1) a + S600x1664.size a ≤ S600x19968.size a := fun k0_t2 arg33_r1 arg34_r1 arg35_r1 arg36_r1 arg37_r1 k0_hw6 k0_h12 => k0_hw6.2.2.2.2.2.2.2.2.2.2.2.1 k0_h12
theorem k0_off32_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h12 : k0_cond12 k0_t2 arg37_r1 = 1#1), ∀ a, (k0_off32 arg35_r1) a + S1x600x1664.size a ≤ S2x600x1664.size a := fun k0_t2 arg33_r1 arg34_r1 arg35_r1 arg36_r1 arg37_r1 k0_hw6 k0_h12 => k0_hw6.2.2.2.2.2.2.2.2.2.2.2.2.1 k0_h12
theorem k0_off32_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h12 : k0_cond12 k0_t2 arg37_r1 = 1#1), (Rect.unit (s := S2x600x1664) (k0_off32 arg35_r1) S1x600x1664.size (k0_off32_inb k0_t2 arg33_r1 arg34_r1 arg35_r1 arg36_r1 arg37_r1 k0_hw6 k0_h12)).WholeWords (EltTy.packing .bf16) := fun k0_t2 arg33_r1 arg34_r1 arg35_r1 arg36_r1 arg37_r1 k0_hw6 k0_h12 => k0_hw6.2.2.2.2.2.2.2.2.2.2.2.2.2.1 k0_h12 (k0_off32_inb k0_t2 arg33_r1 arg34_r1 arg35_r1 arg36_r1 arg37_r1 k0_hw6 k0_h12)
theorem k0_off31_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h12 : k0_cond12 k0_t2 arg37_r1 = 1#1), (Rect.unit (s := S600x19968) (k0_off31 arg37_r1) S600x1664.size (k0_off31_inb k0_t2 arg33_r1 arg34_r1 arg35_r1 arg36_r1 arg37_r1 k0_hw6 k0_h12)).WholeWords (EltTy.packing .bf16) := fun k0_t2 arg33_r1 arg34_r1 arg35_r1 arg36_r1 arg37_r1 k0_hw6 k0_h12 => k0_hw6.2.2.2.2.2.2.2.2.2.2.2.2.2.2.1 k0_h12 (k0_off31_inb k0_t2 arg33_r1 arg34_r1 arg35_r1 arg36_r1 arg37_r1 k0_hw6 k0_h12)
theorem k0_off33_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h14 : k0_cond14 k0_t2 arg37_r1 = 1#1), ∀ a, (k0_off33 arg36_r1) a + S1.size a ≤ S2.size a := fun k0_t2 arg33_r1 arg34_r1 arg35_r1 arg36_r1 arg37_r1 k0_hw6 k0_h14 => k0_hw6.2.2.2.2.2.2.2.2.2.2.2.2.2.2.2.1 k0_h14
theorem k0_off34_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h14 : k0_cond14 k0_t2 arg37_r1 = 1#1), ∀ a, (k0_off34 arg37_r1) a + S600x1664.size a ≤ S600x19968.size a := fun k0_t2 arg33_r1 arg34_r1 arg35_r1 arg36_r1 arg37_r1 k0_hw6 k0_h14 => k0_hw6.2.2.2.2.2.2.2.2.2.2.2.2.2.2.2.2.1 k0_h14
theorem k0_off35_inb : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h14 : k0_cond14 k0_t2 arg37_r1 = 1#1), ∀ a, (k0_off35 arg36_r1) a + S1x600x1664.size a ≤ S2x600x1664.size a := fun k0_t2 arg33_r1 arg34_r1 arg35_r1 arg36_r1 arg37_r1 k0_hw6 k0_h14 => k0_hw6.2.2.2.2.2.2.2.2.2.2.2.2.2.2.2.2.2.1 k0_h14
theorem k0_off35_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h14 : k0_cond14 k0_t2 arg37_r1 = 1#1), (Rect.unit (s := S2x600x1664) (k0_off35 arg36_r1) S1x600x1664.size (k0_off35_inb k0_t2 arg33_r1 arg34_r1 arg35_r1 arg36_r1 arg37_r1 k0_hw6 k0_h14)).WholeWords (EltTy.packing .bf16) := fun k0_t2 arg33_r1 arg34_r1 arg35_r1 arg36_r1 arg37_r1 k0_hw6 k0_h14 => k0_hw6.2.2.2.2.2.2.2.2.2.2.2.2.2.2.2.2.2.2.1 k0_h14 (k0_off35_inb k0_t2 arg33_r1 arg34_r1 arg35_r1 arg36_r1 arg37_r1 k0_hw6 k0_h14)
theorem k0_off34_wordsbf16 : ∀ (k0_t2 : Fin k0_t2_loop.trips) (arg33_r1 : BitVec 32) (arg34_r1 : BitVec 32) (arg35_r1 : BitVec 32) (arg36_r1 : BitVec 32) (arg37_r1 : BitVec 32) (k0_hw6 : k0_chk6 k0_t2 arg33_r1 arg34_r1 arg35_r1 arg36_r1 arg37_r1), ∀ (k0_h14 : k0_cond14 k0_t2 arg37_r1 = 1#1), (Rect.unit (s := S600x19968) (k0_off34 arg37_r1) S600x1664.size (k0_off34_inb k0_t2 arg33_r1 arg34_r1 arg35_r1 arg36_r1 arg37_r1 k0_hw6 k0_h14)).WholeWords (EltTy.packing .bf16) := fun k0_t2 arg33_r1 arg34_r1 arg35_r1 arg36_r1 arg37_r1 k0_hw6 k0_h14 => k0_hw6.2.2.2.2.2.2.2.2.2.2.2.2.2.2.2.2.2.2.2 k0_h14 (k0_off34_inb k0_t2 arg33_r1 arg34_r1 arg35_r1 arg36_r1 arg37_r1 k0_hw6 k0_h14)

def k0_off36 (v200_3_r1 : BitVec 32) : Fin 1 → Nat :=
  let c2_i32_165_r1 : BitVec 32 := 2#32
  let v221_r1 : BitVec 32 := Scalar.remui v200_3_r1 c2_i32_165_r1
  ![v221_r1.toNat]

def k0_off37 (v200_4_r1 : BitVec 32) : Fin 2 → Nat :=
  let c0_i32_166_r1 : BitVec 32 := 0#32
  let c1664_i32_r1 : BitVec 32 := 1664#32
  let true_146_r1 : BitVec 1 := 1#1
  let c1_i32_145_r1 : BitVec 32 := 1#32
  let v201_r1 : BitVec 32 := Scalar.subi v200_4_r1 c1_i32_145_r1
  let v202_r1 : BitVec 32 := Scalar.select true_146_r1 v201_r1 v200_4_r1
  let c_m1_i32_147_r1 : BitVec 32 := 4294967295#32
  let v203_r1 : BitVec 1 := Scalar.cmpi .eq v202_r1 c_m1_i32_147_r1
  let c11_i32_148_r1 : BitVec 32 := 11#32
  let v204_r1 : BitVec 32 := Scalar.select v203_r1 c11_i32_148_r1 v202_r1
  let c0_i32_149_r1 : BitVec 32 := 0#32
  let v205_r1 : BitVec 32 := Scalar.addi v204_r1 c0_i32_149_r1
  let v222_r1 : BitVec 32 := Scalar.muli c1664_i32_r1 v205_r1
  ![0, v222_r1.toNat]

def k0_off38 (v200_3_r1 : BitVec 32) : Fin 3 → Nat :=
  let c2_i32_165_r1 : BitVec 32 := 2#32
  let v221_r1 : BitVec 32 := Scalar.remui v200_3_r1 c2_i32_165_r1
  let c0_i32_167_r1 : BitVec 32 := 0#32
  let c0_i32_168_r1 : BitVec 32 := 0#32
  ![v221_r1.toNat, 0, 0]

def k0_chk9 (v200_3_r1 : BitVec 32) : Prop :=
  (∀ a, (k0_off36 v200_3_r1) a + S1.size a ≤ S2.size a) ∧
  (∀ a, (k0_off38 v200_3_r1) a + S1x600x1664.size a ≤ S2x600x1664.size a) ∧
  (∀ (hinb : ∀ a, (k0_off38 v200_3_r1) a + S1x600x1664.size a ≤ S2x600x1664.size a), (Rect.unit (s := S2x600x1664) (k0_off38 v200_3_r1) S1x600x1664.size hinb).WholeWords (EltTy.packing .bf16))
theorem k0_off36_inb : ∀ (v200_3_r1 : BitVec 32) (k0_hw9 : k0_chk9 v200_3_r1), ∀ a, (k0_off36 v200_3_r1) a + S1.size a ≤ S2.size a := fun v200_3_r1 k0_hw9 => k0_hw9.1
theorem k0_off38_inb : ∀ (v200_3_r1 : BitVec 32) (k0_hw9 : k0_chk9 v200_3_r1), ∀ a, (k0_off38 v200_3_r1) a + S1x600x1664.size a ≤ S2x600x1664.size a := fun v200_3_r1 k0_hw9 => k0_hw9.2.1
theorem k0_off38_wordsbf16 : ∀ (v200_3_r1 : BitVec 32) (k0_hw9 : k0_chk9 v200_3_r1), (Rect.unit (s := S2x600x1664) (k0_off38 v200_3_r1) S1x600x1664.size (k0_off38_inb v200_3_r1 k0_hw9)).WholeWords (EltTy.packing .bf16) := fun v200_3_r1 k0_hw9 => k0_hw9.2.2 (k0_off38_inb v200_3_r1 k0_hw9)

def k0_chk10 (v200_4_r1 : BitVec 32) : Prop :=
  (∀ a, (k0_off37 v200_4_r1) a + S600x1664.size a ≤ S600x19968.size a) ∧
  (∀ (hinb : ∀ a, (k0_off37 v200_4_r1) a + S600x1664.size a ≤ S600x19968.size a), (Rect.unit (s := S600x19968) (k0_off37 v200_4_r1) S600x1664.size hinb).WholeWords (EltTy.packing .bf16))
theorem k0_off37_inb : ∀ (v200_4_r1 : BitVec 32) (k0_hw10 : k0_chk10 v200_4_r1), ∀ a, (k0_off37 v200_4_r1) a + S600x1664.size a ≤ S600x19968.size a := fun v200_4_r1 k0_hw10 => k0_hw10.1
theorem k0_off37_wordsbf16 : ∀ (v200_4_r1 : BitVec 32) (k0_hw10 : k0_chk10 v200_4_r1), (Rect.unit (s := S600x19968) (k0_off37 v200_4_r1) S600x1664.size (k0_off37_inb v200_4_r1 k0_hw10)).WholeWords (EltTy.packing .bf16) := fun v200_4_r1 k0_hw10 => k0_hw10.2 (k0_off37_inb v200_4_r1 k0_hw10)

def k0_off39 : Fin 1 → Nat :=
  let c0_i32_130_r2 : BitVec 32 := 0#32
  let c2_i32_r2 : BitVec 32 := 2#32
  let v192_r2 : BitVec 32 := Scalar.remui c0_i32_130_r2 c2_i32_r2
  ![v192_r2.toNat]
def k0_off40 : Fin 3 → Nat :=
  let c0_i32_130_r2 : BitVec 32 := 0#32
  let c2_i32_r2 : BitVec 32 := 2#32
  let v192_r2 : BitVec 32 := Scalar.remui c0_i32_130_r2 c2_i32_r2
  let c0_i32_131_r2 : BitVec 32 := 0#32
  let c0_i32_132_r2 : BitVec 32 := 0#32
  ![v192_r2.toNat, 0, 0]
@[reducible] def k0_t3_loop : Scf.Loop 32 :=
  let c0_i32_141_r2 : BitVec 32 := 0#32
  let c6_i32_142_r2 : BitVec 32 := 6#32
  let v199_r2 : BitVec 32 := Scalar.addi c0_i32_141_r2 c6_i32_142_r2
  let c1_i32_143_r2 : BitVec 32 := 1#32
  ⟨c0_i32_141_r2, v199_r2, c1_i32_143_r2⟩
def k0_off41 (arg33_r2 : BitVec 32) : Fin 1 → Nat :=
  let c2_i32_235_r2 : BitVec 32 := 2#32
  let v341_r2 : BitVec 32 := Scalar.remui arg33_r2 c2_i32_235_r2
  ![v341_r2.toNat]
def k0_cond15 (k0_t3 : Fin k0_t3_loop.trips) (arg37_r2 : BitVec 32) : BitVec 1 :=
  let c0_i32_171_r2 : BitVec 32 := 0#32
  let v230_r2 : BitVec 32 := Scalar.addi arg37_r2 c0_i32_171_r2
  let true_178_r2 : BitVec 1 := 1#1
  let c1_i32_177_r2 : BitVec 32 := 1#32
  let v236_r2 : BitVec 32 := Scalar.addi arg37_r2 c1_i32_177_r2
  let v237_r2 : BitVec 32 := Scalar.select true_178_r2 v236_r2 arg37_r2
  let c6_i32_179_r2 : BitVec 32 := 6#32
  let v238_r2 : BitVec 1 := Scalar.cmpi .eq v237_r2 c6_i32_179_r2
  let c0_i32_180_r2 : BitVec 32 := 0#32
  let v239_r2 : BitVec 32 := Scalar.select v238_r2 c0_i32_180_r2 v237_r2
  let c0_i32_181_r2 : BitVec 32 := 0#32
  let v240_r2 : BitVec 32 := Scalar.addi v239_r2 c0_i32_181_r2
  let v246_r2 : BitVec 1 := Scalar.cmpi .ne v230_r2 v240_r2
  let c0_i32_141_r2 : BitVec 32 := 0#32
  let c1_i32_143_r2 : BitVec 32 := 1#32
  let arg32_r2 : BitVec 32 := Scf.iv c0_i32_141_r2 c1_i32_143_r2 k0_t3
  let c5_i32_187_r2 : BitVec 32 := 5#32
  let v247_r2 : BitVec 1 := Scalar.cmpi .sge arg32_r2 c5_i32_187_r2
  let true_188_r2 : BitVec 1 := 1#1
  let v248_r2 : BitVec 1 := Scalar.xori v247_r2 true_188_r2
  let v249_r2 : BitVec 1 := Scalar.andi v246_r2 v248_r2
  let true_189_r2 : BitVec 1 := 1#1
  let v250_r2 : BitVec 1 := Scalar.andi v249_r2 true_189_r2
  let v251_r2 : BitVec 32 := Scalar.extui v250_r2
  let c0_i32_190_r2 : BitVec 32 := 0#32
  let v252_r2 : BitVec 1 := Scalar.cmpi .ne v251_r2 c0_i32_190_r2
  v252_r2

def k0_off42 (arg33_r2 : BitVec 32) : Fin 3 → Nat :=
  let c2_i32_235_r2 : BitVec 32 := 2#32
  let v341_r2 : BitVec 32 := Scalar.remui arg33_r2 c2_i32_235_r2
  let c0_i32_237_r2 : BitVec 32 := 0#32
  let c0_i32_238_r2 : BitVec 32 := 0#32
  ![v341_r2.toNat, 0, 0]
def k0_off43 (arg37_r2 : BitVec 32) : Fin 2 → Nat :=
  let c0_i32_239_r2 : BitVec 32 := 0#32
  let c3328_i32_236_r2 : BitVec 32 := 3328#32
  let true_178_r2 : BitVec 1 := 1#1
  let c1_i32_177_r2 : BitVec 32 := 1#32
  let v236_r2 : BitVec 32 := Scalar.addi arg37_r2 c1_i32_177_r2
  let v237_r2 : BitVec 32 := Scalar.select true_178_r2 v236_r2 arg37_r2
  let c6_i32_179_r2 : BitVec 32 := 6#32
  let v238_r2 : BitVec 1 := Scalar.cmpi .eq v237_r2 c6_i32_179_r2
  let c0_i32_180_r2 : BitVec 32 := 0#32
  let v239_r2 : BitVec 32 := Scalar.select v238_r2 c0_i32_180_r2 v237_r2
  let c0_i32_181_r2 : BitVec 32 := 0#32
  let v240_r2 : BitVec 32 := Scalar.addi v239_r2 c0_i32_181_r2
  let v342_r2 : BitVec 32 := Scalar.muli c3328_i32_236_r2 v240_r2
  ![0, v342_r2.toNat]
def k0_off44 (arg34_r2 : BitVec 32) : Fin 1 → Nat :=
  let c2_i32_236_r2 : BitVec 32 := 2#32
  let v342_r2 : BitVec 32 := Scalar.remui arg34_r2 c2_i32_236_r2
  ![v342_r2.toNat]
def k0_cond16 (k0_t3 : Fin k0_t3_loop.trips) (arg37_r2 : BitVec 32) : BitVec 1 :=
  let c0_i32_171_r2 : BitVec 32 := 0#32
  let v230_r2 : BitVec 32 := Scalar.addi arg37_r2 c0_i32_171_r2
  let true_173_r2 : BitVec 1 := 1#1
  let c1_i32_172_r2 : BitVec 32 := 1#32
  let v231_r2 : BitVec 32 := Scalar.subi arg37_r2 c1_i32_172_r2
  let v232_r2 : BitVec 32 := Scalar.select true_173_r2 v231_r2 arg37_r2
  let c_m1_i32_174_r2 : BitVec 32 := 4294967295#32
  let v233_r2 : BitVec 1 := Scalar.cmpi .eq v232_r2 c_m1_i32_174_r2
  let c5_i32_175_r2 : BitVec 32 := 5#32
  let v234_r2 : BitVec 32 := Scalar.select v233_r2 c5_i32_175_r2 v232_r2
  let c0_i32_176_r2 : BitVec 32 := 0#32
  let v235_r2 : BitVec 32 := Scalar.addi v234_r2 c0_i32_176_r2
  let v260_r2 : BitVec 1 := Scalar.cmpi .ne v230_r2 v235_r2
  let c0_i32_141_r2 : BitVec 32 := 0#32
  let c1_i32_143_r2 : BitVec 32 := 1#32
  let arg32_r2 : BitVec 32 := Scf.iv c0_i32_141_r2 c1_i32_143_r2 k0_t3
  let c0_i32_169_r2 : BitVec 32 := 0#32
  let v228_r2 : BitVec 1 := Scalar.cmpi .eq arg32_r2 c0_i32_169_r2
  let v261_r2 : BitVec 1 := Scalar.ori v260_r2 v228_r2
  let c0_i32_195_r2 : BitVec 32 := 0#32
  let v262_r2 : BitVec 1 := Scalar.cmpi .sge arg32_r2 c0_i32_195_r2
  let v263_r2 : BitVec 1 := Scalar.andi v261_r2 v262_r2
  let v264_r2 : BitVec 32 := Scalar.extui v263_r2
  let c0_i32_196_r2 : BitVec 32 := 0#32
  let v265_r2 : BitVec 1 := Scalar.cmpi .ne v264_r2 c0_i32_196_r2
  v265_r2

def k0_off45 (arg34_r2 : BitVec 32) : Fin 3 → Nat :=
  let c2_i32_236_r2 : BitVec 32 := 2#32
  let v342_r2 : BitVec 32 := Scalar.remui arg34_r2 c2_i32_236_r2
  let c0_i32_237_r2 : BitVec 32 := 0#32
  let c0_i32_238_r2 : BitVec 32 := 0#32
  ![v342_r2.toNat, 0, 0]
def k0_off46 (arg37_r2 : BitVec 32) : Fin 2 → Nat :=
  let c0_i32_239_r2 : BitVec 32 := 0#32
  let c3328_i32_235_r2 : BitVec 32 := 3328#32
  let c0_i32_171_r2 : BitVec 32 := 0#32
  let v230_r2 : BitVec 32 := Scalar.addi arg37_r2 c0_i32_171_r2
  let v341_r2 : BitVec 32 := Scalar.muli c3328_i32_235_r2 v230_r2
  ![0, v341_r2.toNat]
def k0_off47 (arg34_r2 : BitVec 32) : Fin 3 → Nat :=
  let c2_i32_199_r2 : BitVec 32 := 2#32
  let v272_r2 : BitVec 32 := Scalar.remui arg34_r2 c2_i32_199_r2
  let v274_r2 : Index := Scalar.indexCast v272_r2
  let c0_201_r2 : Index := 0#32
  let c0_202_r2 : Index := 0#32
  ![v274_r2.toNat, 0, 0]

def k0_chk12 (arg34_r2 : BitVec 32) : Prop :=
  (∀ a, (k0_off47 arg34_r2) a + S1x600x3328.size a ≤ S2x600x3328.size a)
theorem k0_off47_inb : ∀ (arg34_r2 : BitVec 32) (k0_hw12 : k0_chk12 arg34_r2), ∀ a, (k0_off47 arg34_r2) a + S1x600x3328.size a ≤ S2x600x3328.size a := fun arg34_r2 k0_hw12 => k0_hw12

def k0_off48 (arg35_r2 : BitVec 32) : Fin 3 → Nat :=
  let c2_i32_200_r2 : BitVec 32 := 2#32
  let v273_r2 : BitVec 32 := Scalar.remui arg35_r2 c2_i32_200_r2
  let v296_r2 : Index := Scalar.indexCast v273_r2
  let c0_212_r2 : Index := 0#32
  let c0_213_r2 : Index := 0#32
  ![v296_r2.toNat, 0, 0]

def k0_chk13 (arg35_r2 : BitVec 32) : Prop :=
  (∀ a, (k0_off48 arg35_r2) a + S1x300x3328.size a ≤ S2x300x3328.size a) ∧
  (∀ (hinb : ∀ a, (k0_off48 arg35_r2) a + S1x300x3328.size a ≤ S2x300x3328.size a), (Rect.unit (s := S2x300x3328) (k0_off48 arg35_r2) S1x300x3328.size hinb).PackedRows (EltTy.packing .bf16))
theorem k0_off48_inb : ∀ (arg35_r2 : BitVec 32) (k0_hw13 : k0_chk13 arg35_r2), ∀ a, (k0_off48 arg35_r2) a + S1x300x3328.size a ≤ S2x300x3328.size a := fun arg35_r2 k0_hw13 => k0_hw13.1
theorem k0_off48_packedbf16 : ∀ (arg35_r2 : BitVec 32) (k0_hw13 : k0_chk13 arg35_r2), (Rect.unit (s := S2x300x3328) (k0_off48 arg35_r2) S1x300x3328.size (k0_off48_inb arg35_r2 k0_hw13)).PackedRows (EltTy.packing .bf16) := fun arg35_r2 k0_hw13 => k0_hw13.2 (k0_off48_inb arg35_r2 k0_hw13)

def k0_off49 (arg35_r2 : BitVec 32) : Fin 1 → Nat :=
  let c2_i32_235_r2 : BitVec 32 := 2#32
  let v341_r2 : BitVec 32 := Scalar.remui arg35_r2 c2_i32_235_r2
  ![v341_r2.toNat]
def k0_cond19 (k0_t3 : Fin k0_t3_loop.trips) (arg37_r2 : BitVec 32) : BitVec 1 :=
  let c0_i32_171_r2 : BitVec 32 := 0#32
  let v230_r2 : BitVec 32 := Scalar.addi arg37_r2 c0_i32_171_r2
  let true_178_r2 : BitVec 1 := 1#1
  let c1_i32_177_r2 : BitVec 32 := 1#32
  let v236_r2 : BitVec 32 := Scalar.addi arg37_r2 c1_i32_177_r2
  let v237_r2 : BitVec 32 := Scalar.select true_178_r2 v236_r2 arg37_r2
  let c6_i32_179_r2 : BitVec 32 := 6#32
  let v238_r2 : BitVec 1 := Scalar.cmpi .eq v237_r2 c6_i32_179_r2
  let c0_i32_180_r2 : BitVec 32 := 0#32
  let v239_r2 : BitVec 32 := Scalar.select v238_r2 c0_i32_180_r2 v237_r2
  let c0_i32_181_r2 : BitVec 32 := 0#32
  let v240_r2 : BitVec 32 := Scalar.addi v239_r2 c0_i32_181_r2
  let v312_r2 : BitVec 1 := Scalar.cmpi .ne v230_r2 v240_r2
  let c0_i32_141_r2 : BitVec 32 := 0#32
  let c1_i32_143_r2 : BitVec 32 := 1#32
  let arg32_r2 : BitVec 32 := Scf.iv c0_i32_141_r2 c1_i32_143_r2 k0_t3
  let c5_i32_170_r2 : BitVec 32 := 5#32
  let v229_r2 : BitVec 1 := Scalar.cmpi .eq arg32_r2 c5_i32_170_r2
  let v313_r2 : BitVec 1 := Scalar.ori v312_r2 v229_r2
  let v314_r2 : BitVec 32 := Scalar.extui v313_r2
  let c0_i32_220_r2 : BitVec 32 := 0#32
  let v315_r2 : BitVec 1 := Scalar.cmpi .ne v314_r2 c0_i32_220_r2
  v315_r2

def k0_off50 (arg37_r2 : BitVec 32) : Fin 2 → Nat :=
  let c0_i32_237_r2 : BitVec 32 := 0#32
  let c3328_i32_236_r2 : BitVec 32 := 3328#32
  let c0_i32_171_r2 : BitVec 32 := 0#32
  let v230_r2 : BitVec 32 := Scalar.addi arg37_r2 c0_i32_171_r2
  let v342_r2 : BitVec 32 := Scalar.muli c3328_i32_236_r2 v230_r2
  ![0, v342_r2.toNat]
def k0_off51 (arg35_r2 : BitVec 32) : Fin 3 → Nat :=
  let c2_i32_235_r2 : BitVec 32 := 2#32
  let v341_r2 : BitVec 32 := Scalar.remui arg35_r2 c2_i32_235_r2
  let c0_i32_238_r2 : BitVec 32 := 0#32
  let c0_i32_239_r2 : BitVec 32 := 0#32
  ![v341_r2.toNat, 0, 0]
def k0_off52 (arg36_r2 : BitVec 32) : Fin 1 → Nat :=
  let c2_i32_235_r2 : BitVec 32 := 2#32
  let v341_r2 : BitVec 32 := Scalar.remui arg36_r2 c2_i32_235_r2
  ![v341_r2.toNat]
def k0_cond21 (k0_t3 : Fin k0_t3_loop.trips) (arg37_r2 : BitVec 32) : BitVec 1 :=
  let c0_i32_171_r2 : BitVec 32 := 0#32
  let v230_r2 : BitVec 32 := Scalar.addi arg37_r2 c0_i32_171_r2
  let true_173_r2 : BitVec 1 := 1#1
  let c1_i32_172_r2 : BitVec 32 := 1#32
  let v231_r2 : BitVec 32 := Scalar.subi arg37_r2 c1_i32_172_r2
  let v232_r2 : BitVec 32 := Scalar.select true_173_r2 v231_r2 arg37_r2
  let c_m1_i32_174_r2 : BitVec 32 := 4294967295#32
  let v233_r2 : BitVec 1 := Scalar.cmpi .eq v232_r2 c_m1_i32_174_r2
  let c5_i32_175_r2 : BitVec 32 := 5#32
  let v234_r2 : BitVec 32 := Scalar.select v233_r2 c5_i32_175_r2 v232_r2
  let c0_i32_176_r2 : BitVec 32 := 0#32
  let v235_r2 : BitVec 32 := Scalar.addi v234_r2 c0_i32_176_r2
  let v325_r2 : BitVec 1 := Scalar.cmpi .ne v230_r2 v235_r2
  let c0_i32_141_r2 : BitVec 32 := 0#32
  let c1_i32_143_r2 : BitVec 32 := 1#32
  let arg32_r2 : BitVec 32 := Scf.iv c0_i32_141_r2 c1_i32_143_r2 k0_t3
  let c0_i32_169_r2 : BitVec 32 := 0#32
  let v228_r2 : BitVec 1 := Scalar.cmpi .eq arg32_r2 c0_i32_169_r2
  let true_226_r2 : BitVec 1 := 1#1
  let v326_r2 : BitVec 1 := Scalar.xori v228_r2 true_226_r2
  let v327_r2 : BitVec 1 := Scalar.andi v325_r2 v326_r2
  let v328_r2 : BitVec 32 := Scalar.extui v327_r2
  let c0_i32_227_r2 : BitVec 32 := 0#32
  let v329_r2 : BitVec 1 := Scalar.cmpi .ne v328_r2 c0_i32_227_r2
  v329_r2

def k0_off53 (arg37_r2 : BitVec 32) : Fin 2 → Nat :=
  let c0_i32_237_r2 : BitVec 32 := 0#32
  let c3328_i32_236_r2 : BitVec 32 := 3328#32
  let true_173_r2 : BitVec 1 := 1#1
  let c1_i32_172_r2 : BitVec 32 := 1#32
  let v231_r2 : BitVec 32 := Scalar.subi arg37_r2 c1_i32_172_r2
  let v232_r2 : BitVec 32 := Scalar.select true_173_r2 v231_r2 arg37_r2
  let c_m1_i32_174_r2 : BitVec 32 := 4294967295#32
  let v233_r2 : BitVec 1 := Scalar.cmpi .eq v232_r2 c_m1_i32_174_r2
  let c5_i32_175_r2 : BitVec 32 := 5#32
  let v234_r2 : BitVec 32 := Scalar.select v233_r2 c5_i32_175_r2 v232_r2
  let c0_i32_176_r2 : BitVec 32 := 0#32
  let v235_r2 : BitVec 32 := Scalar.addi v234_r2 c0_i32_176_r2
  let v342_r2 : BitVec 32 := Scalar.muli c3328_i32_236_r2 v235_r2
  ![0, v342_r2.toNat]
def k0_off54 (arg36_r2 : BitVec 32) : Fin 3 → Nat :=
  let c2_i32_235_r2 : BitVec 32 := 2#32
  let v341_r2 : BitVec 32 := Scalar.remui arg36_r2 c2_i32_235_r2
  let c0_i32_238_r2 : BitVec 32 := 0#32
  let c0_i32_239_r2 : BitVec 32 := 0#32
  ![v341_r2.toNat, 0, 0]

def k0_chk11 (k0_t3 : Fin k0_t3_loop.trips) (arg33_r2 : BitVec 32) (arg34_r2 : BitVec 32) (arg35_r2 : BitVec 32) (arg36_r2 : BitVec 32) (arg37_r2 : BitVec 32) : Prop :=
  (∀ (k0_h15 : k0_cond15 k0_t3 arg37_r2 = 1#1), ∀ a, (k0_off41 arg33_r2) a + S1.size a ≤ S2.size a) ∧
  (∀ (k0_h15 : k0_cond15 k0_t3 arg37_r2 = 1#1), ∀ a, (k0_off42 arg33_r2) a + S1x600x3328.size a ≤ S2x600x3328.size a) ∧
  (∀ (k0_h15 : k0_cond15 k0_t3 arg37_r2 = 1#1), ∀ a, (k0_off43 arg37_r2) a + S600x3328.size a ≤ S600x19968.size a) ∧
  (∀ (k0_h15 : k0_cond15 k0_t3 arg37_r2 = 1#1), ∀ (hinb : ∀ a, (k0_off43 arg37_r2) a + S600x3328.size a ≤ S600x19968.size a), (Rect.unit (s := S600x19968) (k0_off43 arg37_r2) S600x3328.size hinb).WholeWords (EltTy.packing .bf16)) ∧
  (∀ (k0_h15 : k0_cond15 k0_t3 arg37_r2 = 1#1), ∀ (hinb : ∀ a, (k0_off42 arg33_r2) a + S1x600x3328.size a ≤ S2x600x3328.size a), (Rect.unit (s := S2x600x3328) (k0_off42 arg33_r2) S1x600x3328.size hinb).WholeWords (EltTy.packing .bf16)) ∧
  (∀ (k0_h16 : k0_cond16 k0_t3 arg37_r2 = 1#1), ∀ a, (k0_off44 arg34_r2) a + S1.size a ≤ S2.size a) ∧
  (∀ (k0_h16 : k0_cond16 k0_t3 arg37_r2 = 1#1), ∀ a, (k0_off45 arg34_r2) a + S1x600x3328.size a ≤ S2x600x3328.size a) ∧
  (∀ (k0_h16 : k0_cond16 k0_t3 arg37_r2 = 1#1), ∀ a, (k0_off46 arg37_r2) a + S600x3328.size a ≤ S600x19968.size a) ∧
  (∀ (k0_h16 : k0_cond16 k0_t3 arg37_r2 = 1#1), ∀ (hinb : ∀ a, (k0_off46 arg37_r2) a + S600x3328.size a ≤ S600x19968.size a), (Rect.unit (s := S600x19968) (k0_off46 arg37_r2) S600x3328.size hinb).WholeWords (EltTy.packing .bf16)) ∧
  (∀ (k0_h16 : k0_cond16 k0_t3 arg37_r2 = 1#1), ∀ (hinb : ∀ a, (k0_off45 arg34_r2) a + S1x600x3328.size a ≤ S2x600x3328.size a), (Rect.unit (s := S2x600x3328) (k0_off45 arg34_r2) S1x600x3328.size hinb).WholeWords (EltTy.packing .bf16)) ∧
  (∀ (k0_h19 : k0_cond19 k0_t3 arg37_r2 = 1#1), ∀ a, (k0_off49 arg35_r2) a + S1.size a ≤ S2.size a) ∧
  (∀ (k0_h19 : k0_cond19 k0_t3 arg37_r2 = 1#1), ∀ a, (k0_off50 arg37_r2) a + S300x3328.size a ≤ S300x19968.size a) ∧
  (∀ (k0_h19 : k0_cond19 k0_t3 arg37_r2 = 1#1), ∀ a, (k0_off51 arg35_r2) a + S1x300x3328.size a ≤ S2x300x3328.size a) ∧
  (∀ (k0_h19 : k0_cond19 k0_t3 arg37_r2 = 1#1), ∀ (hinb : ∀ a, (k0_off51 arg35_r2) a + S1x300x3328.size a ≤ S2x300x3328.size a), (Rect.unit (s := S2x300x3328) (k0_off51 arg35_r2) S1x300x3328.size hinb).WholeWords (EltTy.packing .bf16)) ∧
  (∀ (k0_h19 : k0_cond19 k0_t3 arg37_r2 = 1#1), ∀ (hinb : ∀ a, (k0_off50 arg37_r2) a + S300x3328.size a ≤ S300x19968.size a), (Rect.unit (s := S300x19968) (k0_off50 arg37_r2) S300x3328.size hinb).WholeWords (EltTy.packing .bf16)) ∧
  (∀ (k0_h21 : k0_cond21 k0_t3 arg37_r2 = 1#1), ∀ a, (k0_off52 arg36_r2) a + S1.size a ≤ S2.size a) ∧
  (∀ (k0_h21 : k0_cond21 k0_t3 arg37_r2 = 1#1), ∀ a, (k0_off53 arg37_r2) a + S300x3328.size a ≤ S300x19968.size a) ∧
  (∀ (k0_h21 : k0_cond21 k0_t3 arg37_r2 = 1#1), ∀ a, (k0_off54 arg36_r2) a + S1x300x3328.size a ≤ S2x300x3328.size a) ∧
  (∀ (k0_h21 : k0_cond21 k0_t3 arg37_r2 = 1#1), ∀ (hinb : ∀ a, (k0_off54 arg36_r2) a + S1x300x3328.size a ≤ S2x300x3328.size a), (Rect.unit (s := S2x300x3328) (k0_off54 arg36_r2) S1x300x3328.size hinb).WholeWords (EltTy.packing .bf16)) ∧
  (∀ (k0_h21 : k0_cond21 k0_t3 arg37_r2 = 1#1), ∀ (hinb : ∀ a, (k0_off53 arg37_r2) a + S300x3328.size a ≤ S300x19968.size a), (Rect.unit (s := S300x19968) (k0_off53 arg37_r2) S300x3328.size hinb).WholeWords (EltTy.packing .bf16))
theorem k0_off41_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h15 : k0_cond15 k0_t3 arg37_r2 = 1#1), ∀ a, (k0_off41 arg33_r2) a + S1.size a ≤ S2.size a := fun k0_t3 arg33_r2 arg34_r2 arg35_r2 arg36_r2 arg37_r2 k0_hw11 k0_h15 => k0_hw11.1 k0_h15
theorem k0_off42_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h15 : k0_cond15 k0_t3 arg37_r2 = 1#1), ∀ a, (k0_off42 arg33_r2) a + S1x600x3328.size a ≤ S2x600x3328.size a := fun k0_t3 arg33_r2 arg34_r2 arg35_r2 arg36_r2 arg37_r2 k0_hw11 k0_h15 => k0_hw11.2.1 k0_h15
theorem k0_off43_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h15 : k0_cond15 k0_t3 arg37_r2 = 1#1), ∀ a, (k0_off43 arg37_r2) a + S600x3328.size a ≤ S600x19968.size a := fun k0_t3 arg33_r2 arg34_r2 arg35_r2 arg36_r2 arg37_r2 k0_hw11 k0_h15 => k0_hw11.2.2.1 k0_h15
theorem k0_off43_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h15 : k0_cond15 k0_t3 arg37_r2 = 1#1), (Rect.unit (s := S600x19968) (k0_off43 arg37_r2) S600x3328.size (k0_off43_inb k0_t3 arg33_r2 arg34_r2 arg35_r2 arg36_r2 arg37_r2 k0_hw11 k0_h15)).WholeWords (EltTy.packing .bf16) := fun k0_t3 arg33_r2 arg34_r2 arg35_r2 arg36_r2 arg37_r2 k0_hw11 k0_h15 => k0_hw11.2.2.2.1 k0_h15 (k0_off43_inb k0_t3 arg33_r2 arg34_r2 arg35_r2 arg36_r2 arg37_r2 k0_hw11 k0_h15)
theorem k0_off42_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h15 : k0_cond15 k0_t3 arg37_r2 = 1#1), (Rect.unit (s := S2x600x3328) (k0_off42 arg33_r2) S1x600x3328.size (k0_off42_inb k0_t3 arg33_r2 arg34_r2 arg35_r2 arg36_r2 arg37_r2 k0_hw11 k0_h15)).WholeWords (EltTy.packing .bf16) := fun k0_t3 arg33_r2 arg34_r2 arg35_r2 arg36_r2 arg37_r2 k0_hw11 k0_h15 => k0_hw11.2.2.2.2.1 k0_h15 (k0_off42_inb k0_t3 arg33_r2 arg34_r2 arg35_r2 arg36_r2 arg37_r2 k0_hw11 k0_h15)
theorem k0_off44_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h16 : k0_cond16 k0_t3 arg37_r2 = 1#1), ∀ a, (k0_off44 arg34_r2) a + S1.size a ≤ S2.size a := fun k0_t3 arg33_r2 arg34_r2 arg35_r2 arg36_r2 arg37_r2 k0_hw11 k0_h16 => k0_hw11.2.2.2.2.2.1 k0_h16
theorem k0_off45_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h16 : k0_cond16 k0_t3 arg37_r2 = 1#1), ∀ a, (k0_off45 arg34_r2) a + S1x600x3328.size a ≤ S2x600x3328.size a := fun k0_t3 arg33_r2 arg34_r2 arg35_r2 arg36_r2 arg37_r2 k0_hw11 k0_h16 => k0_hw11.2.2.2.2.2.2.1 k0_h16
theorem k0_off46_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h16 : k0_cond16 k0_t3 arg37_r2 = 1#1), ∀ a, (k0_off46 arg37_r2) a + S600x3328.size a ≤ S600x19968.size a := fun k0_t3 arg33_r2 arg34_r2 arg35_r2 arg36_r2 arg37_r2 k0_hw11 k0_h16 => k0_hw11.2.2.2.2.2.2.2.1 k0_h16
theorem k0_off46_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h16 : k0_cond16 k0_t3 arg37_r2 = 1#1), (Rect.unit (s := S600x19968) (k0_off46 arg37_r2) S600x3328.size (k0_off46_inb k0_t3 arg33_r2 arg34_r2 arg35_r2 arg36_r2 arg37_r2 k0_hw11 k0_h16)).WholeWords (EltTy.packing .bf16) := fun k0_t3 arg33_r2 arg34_r2 arg35_r2 arg36_r2 arg37_r2 k0_hw11 k0_h16 => k0_hw11.2.2.2.2.2.2.2.2.1 k0_h16 (k0_off46_inb k0_t3 arg33_r2 arg34_r2 arg35_r2 arg36_r2 arg37_r2 k0_hw11 k0_h16)
theorem k0_off45_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h16 : k0_cond16 k0_t3 arg37_r2 = 1#1), (Rect.unit (s := S2x600x3328) (k0_off45 arg34_r2) S1x600x3328.size (k0_off45_inb k0_t3 arg33_r2 arg34_r2 arg35_r2 arg36_r2 arg37_r2 k0_hw11 k0_h16)).WholeWords (EltTy.packing .bf16) := fun k0_t3 arg33_r2 arg34_r2 arg35_r2 arg36_r2 arg37_r2 k0_hw11 k0_h16 => k0_hw11.2.2.2.2.2.2.2.2.2.1 k0_h16 (k0_off45_inb k0_t3 arg33_r2 arg34_r2 arg35_r2 arg36_r2 arg37_r2 k0_hw11 k0_h16)
theorem k0_off49_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h19 : k0_cond19 k0_t3 arg37_r2 = 1#1), ∀ a, (k0_off49 arg35_r2) a + S1.size a ≤ S2.size a := fun k0_t3 arg33_r2 arg34_r2 arg35_r2 arg36_r2 arg37_r2 k0_hw11 k0_h19 => k0_hw11.2.2.2.2.2.2.2.2.2.2.1 k0_h19
theorem k0_off50_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h19 : k0_cond19 k0_t3 arg37_r2 = 1#1), ∀ a, (k0_off50 arg37_r2) a + S300x3328.size a ≤ S300x19968.size a := fun k0_t3 arg33_r2 arg34_r2 arg35_r2 arg36_r2 arg37_r2 k0_hw11 k0_h19 => k0_hw11.2.2.2.2.2.2.2.2.2.2.2.1 k0_h19
theorem k0_off51_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h19 : k0_cond19 k0_t3 arg37_r2 = 1#1), ∀ a, (k0_off51 arg35_r2) a + S1x300x3328.size a ≤ S2x300x3328.size a := fun k0_t3 arg33_r2 arg34_r2 arg35_r2 arg36_r2 arg37_r2 k0_hw11 k0_h19 => k0_hw11.2.2.2.2.2.2.2.2.2.2.2.2.1 k0_h19
theorem k0_off51_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h19 : k0_cond19 k0_t3 arg37_r2 = 1#1), (Rect.unit (s := S2x300x3328) (k0_off51 arg35_r2) S1x300x3328.size (k0_off51_inb k0_t3 arg33_r2 arg34_r2 arg35_r2 arg36_r2 arg37_r2 k0_hw11 k0_h19)).WholeWords (EltTy.packing .bf16) := fun k0_t3 arg33_r2 arg34_r2 arg35_r2 arg36_r2 arg37_r2 k0_hw11 k0_h19 => k0_hw11.2.2.2.2.2.2.2.2.2.2.2.2.2.1 k0_h19 (k0_off51_inb k0_t3 arg33_r2 arg34_r2 arg35_r2 arg36_r2 arg37_r2 k0_hw11 k0_h19)
theorem k0_off50_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h19 : k0_cond19 k0_t3 arg37_r2 = 1#1), (Rect.unit (s := S300x19968) (k0_off50 arg37_r2) S300x3328.size (k0_off50_inb k0_t3 arg33_r2 arg34_r2 arg35_r2 arg36_r2 arg37_r2 k0_hw11 k0_h19)).WholeWords (EltTy.packing .bf16) := fun k0_t3 arg33_r2 arg34_r2 arg35_r2 arg36_r2 arg37_r2 k0_hw11 k0_h19 => k0_hw11.2.2.2.2.2.2.2.2.2.2.2.2.2.2.1 k0_h19 (k0_off50_inb k0_t3 arg33_r2 arg34_r2 arg35_r2 arg36_r2 arg37_r2 k0_hw11 k0_h19)
theorem k0_off52_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h21 : k0_cond21 k0_t3 arg37_r2 = 1#1), ∀ a, (k0_off52 arg36_r2) a + S1.size a ≤ S2.size a := fun k0_t3 arg33_r2 arg34_r2 arg35_r2 arg36_r2 arg37_r2 k0_hw11 k0_h21 => k0_hw11.2.2.2.2.2.2.2.2.2.2.2.2.2.2.2.1 k0_h21
theorem k0_off53_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h21 : k0_cond21 k0_t3 arg37_r2 = 1#1), ∀ a, (k0_off53 arg37_r2) a + S300x3328.size a ≤ S300x19968.size a := fun k0_t3 arg33_r2 arg34_r2 arg35_r2 arg36_r2 arg37_r2 k0_hw11 k0_h21 => k0_hw11.2.2.2.2.2.2.2.2.2.2.2.2.2.2.2.2.1 k0_h21
theorem k0_off54_inb : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h21 : k0_cond21 k0_t3 arg37_r2 = 1#1), ∀ a, (k0_off54 arg36_r2) a + S1x300x3328.size a ≤ S2x300x3328.size a := fun k0_t3 arg33_r2 arg34_r2 arg35_r2 arg36_r2 arg37_r2 k0_hw11 k0_h21 => k0_hw11.2.2.2.2.2.2.2.2.2.2.2.2.2.2.2.2.2.1 k0_h21
theorem k0_off54_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h21 : k0_cond21 k0_t3 arg37_r2 = 1#1), (Rect.unit (s := S2x300x3328) (k0_off54 arg36_r2) S1x300x3328.size (k0_off54_inb k0_t3 arg33_r2 arg34_r2 arg35_r2 arg36_r2 arg37_r2 k0_hw11 k0_h21)).WholeWords (EltTy.packing .bf16) := fun k0_t3 arg33_r2 arg34_r2 arg35_r2 arg36_r2 arg37_r2 k0_hw11 k0_h21 => k0_hw11.2.2.2.2.2.2.2.2.2.2.2.2.2.2.2.2.2.2.1 k0_h21 (k0_off54_inb k0_t3 arg33_r2 arg34_r2 arg35_r2 arg36_r2 arg37_r2 k0_hw11 k0_h21)
theorem k0_off53_wordsbf16 : ∀ (k0_t3 : Fin k0_t3_loop.trips) (arg33_r2 : BitVec 32) (arg34_r2 : BitVec 32) (arg35_r2 : BitVec 32) (arg36_r2 : BitVec 32) (arg37_r2 : BitVec 32) (k0_hw11 : k0_chk11 k0_t3 arg33_r2 arg34_r2 arg35_r2 arg36_r2 arg37_r2), ∀ (k0_h21 : k0_cond21 k0_t3 arg37_r2 = 1#1), (Rect.unit (s := S300x19968) (k0_off53 arg37_r2) S300x3328.size (k0_off53_inb k0_t3 arg33_r2 arg34_r2 arg35_r2 arg36_r2 arg37_r2 k0_hw11 k0_h21)).WholeWords (EltTy.packing .bf16) := fun k0_t3 arg33_r2 arg34_r2 arg35_r2 arg36_r2 arg37_r2 k0_hw11 k0_h21 => k0_hw11.2.2.2.2.2.2.2.2.2.2.2.2.2.2.2.2.2.2.2 k0_h21 (k0_off53_inb k0_t3 arg33_r2 arg34_r2 arg35_r2 arg36_r2 arg37_r2 k0_hw11 k0_h21)

def k0_off55 (v200_3_r2 : BitVec 32) : Fin 1 → Nat :=
  let c2_i32_165_r2 : BitVec 32 := 2#32
  let v221_r2 : BitVec 32 := Scalar.remui v200_3_r2 c2_i32_165_r2
  ![v221_r2.toNat]

def k0_off56 (v200_4_r2 : BitVec 32) : Fin 2 → Nat :=
  let c0_i32_166_r2 : BitVec 32 := 0#32
  let c3328_i32_r2 : BitVec 32 := 3328#32
  let true_146_r2 : BitVec 1 := 1#1
  let c1_i32_145_r2 : BitVec 32 := 1#32
  let v201_r2 : BitVec 32 := Scalar.subi v200_4_r2 c1_i32_145_r2
  let v202_r2 : BitVec 32 := Scalar.select true_146_r2 v201_r2 v200_4_r2
  let c_m1_i32_147_r2 : BitVec 32 := 4294967295#32
  let v203_r2 : BitVec 1 := Scalar.cmpi .eq v202_r2 c_m1_i32_147_r2
  let c5_i32_148_r2 : BitVec 32 := 5#32
  let v204_r2 : BitVec 32 := Scalar.select v203_r2 c5_i32_148_r2 v202_r2
  let c0_i32_149_r2 : BitVec 32 := 0#32
  let v205_r2 : BitVec 32 := Scalar.addi v204_r2 c0_i32_149_r2
  let v222_r2 : BitVec 32 := Scalar.muli c3328_i32_r2 v205_r2
  ![0, v222_r2.toNat]

def k0_off57 (v200_3_r2 : BitVec 32) : Fin 3 → Nat :=
  let c2_i32_165_r2 : BitVec 32 := 2#32
  let v221_r2 : BitVec 32 := Scalar.remui v200_3_r2 c2_i32_165_r2
  let c0_i32_167_r2 : BitVec 32 := 0#32
  let c0_i32_168_r2 : BitVec 32 := 0#32
  ![v221_r2.toNat, 0, 0]

def k0_chk14 (v200_3_r2 : BitVec 32) : Prop :=
  (∀ a, (k0_off55 v200_3_r2) a + S1.size a ≤ S2.size a) ∧
  (∀ a, (k0_off57 v200_3_r2) a + S1x300x3328.size a ≤ S2x300x3328.size a) ∧
  (∀ (hinb : ∀ a, (k0_off57 v200_3_r2) a + S1x300x3328.size a ≤ S2x300x3328.size a), (Rect.unit (s := S2x300x3328) (k0_off57 v200_3_r2) S1x300x3328.size hinb).WholeWords (EltTy.packing .bf16))
theorem k0_off55_inb : ∀ (v200_3_r2 : BitVec 32) (k0_hw14 : k0_chk14 v200_3_r2), ∀ a, (k0_off55 v200_3_r2) a + S1.size a ≤ S2.size a := fun v200_3_r2 k0_hw14 => k0_hw14.1
theorem k0_off57_inb : ∀ (v200_3_r2 : BitVec 32) (k0_hw14 : k0_chk14 v200_3_r2), ∀ a, (k0_off57 v200_3_r2) a + S1x300x3328.size a ≤ S2x300x3328.size a := fun v200_3_r2 k0_hw14 => k0_hw14.2.1
theorem k0_off57_wordsbf16 : ∀ (v200_3_r2 : BitVec 32) (k0_hw14 : k0_chk14 v200_3_r2), (Rect.unit (s := S2x300x3328) (k0_off57 v200_3_r2) S1x300x3328.size (k0_off57_inb v200_3_r2 k0_hw14)).WholeWords (EltTy.packing .bf16) := fun v200_3_r2 k0_hw14 => k0_hw14.2.2 (k0_off57_inb v200_3_r2 k0_hw14)

def k0_chk15 (v200_4_r2 : BitVec 32) : Prop :=
  (∀ a, (k0_off56 v200_4_r2) a + S300x3328.size a ≤ S300x19968.size a) ∧
  (∀ (hinb : ∀ a, (k0_off56 v200_4_r2) a + S300x3328.size a ≤ S300x19968.size a), (Rect.unit (s := S300x19968) (k0_off56 v200_4_r2) S300x3328.size hinb).WholeWords (EltTy.packing .bf16))
theorem k0_off56_inb : ∀ (v200_4_r2 : BitVec 32) (k0_hw15 : k0_chk15 v200_4_r2), ∀ a, (k0_off56 v200_4_r2) a + S300x3328.size a ≤ S300x19968.size a := fun v200_4_r2 k0_hw15 => k0_hw15.1
theorem k0_off56_wordsbf16 : ∀ (v200_4_r2 : BitVec 32) (k0_hw15 : k0_chk15 v200_4_r2), (Rect.unit (s := S300x19968) (k0_off56 v200_4_r2) S300x3328.size (k0_off56_inb v200_4_r2 k0_hw15)).WholeWords (EltTy.packing .bf16) := fun v200_4_r2 k0_hw15 => k0_hw15.2 (k0_off56_inb v200_4_r2 k0_hw15)

def k0_off58 : Fin 1 → Nat :=
  let c0_i32_130_r3 : BitVec 32 := 0#32
  let c2_i32_r3 : BitVec 32 := 2#32
  let v192_r3 : BitVec 32 := Scalar.remui c0_i32_130_r3 c2_i32_r3
  ![v192_r3.toNat]
def k0_off59 : Fin 3 → Nat :=
  let c0_i32_130_r3 : BitVec 32 := 0#32
  let c2_i32_r3 : BitVec 32 := 2#32
  let v192_r3 : BitVec 32 := Scalar.remui c0_i32_130_r3 c2_i32_r3
  let c0_i32_131_r3 : BitVec 32 := 0#32
  let c0_i32_132_r3 : BitVec 32 := 0#32
  ![v192_r3.toNat, 0, 0]
@[reducible] def k0_t4_loop : Scf.Loop 32 :=
  let c0_i32_141_r3 : BitVec 32 := 0#32
  let c6_i32_142_r3 : BitVec 32 := 6#32
  let v199_r3 : BitVec 32 := Scalar.addi c0_i32_141_r3 c6_i32_142_r3
  let c1_i32_143_r3 : BitVec 32 := 1#32
  ⟨c0_i32_141_r3, v199_r3, c1_i32_143_r3⟩
def k0_off60 (arg33_r3 : BitVec 32) : Fin 1 → Nat :=
  let c2_i32_235_r3 : BitVec 32 := 2#32
  let v340_r3 : BitVec 32 := Scalar.remui arg33_r3 c2_i32_235_r3
  ![v340_r3.toNat]
def k0_cond22 (k0_t4 : Fin k0_t4_loop.trips) (arg37_r3 : BitVec 32) : BitVec 1 :=
  let c0_i32_171_r3 : BitVec 32 := 0#32
  let v230_r3 : BitVec 32 := Scalar.addi arg37_r3 c0_i32_171_r3
  let true_178_r3 : BitVec 1 := 1#1
  let c1_i32_177_r3 : BitVec 32 := 1#32
  let v236_r3 : BitVec 32 := Scalar.addi arg37_r3 c1_i32_177_r3
  let v237_r3 : BitVec 32 := Scalar.select true_178_r3 v236_r3 arg37_r3
  let c6_i32_179_r3 : BitVec 32 := 6#32
  let v238_r3 : BitVec 1 := Scalar.cmpi .eq v237_r3 c6_i32_179_r3
  let c0_i32_180_r3 : BitVec 32 := 0#32
  let v239_r3 : BitVec 32 := Scalar.select v238_r3 c0_i32_180_r3 v237_r3
  let c0_i32_181_r3 : BitVec 32 := 0#32
  let v240_r3 : BitVec 32 := Scalar.addi v239_r3 c0_i32_181_r3
  let v246_r3 : BitVec 1 := Scalar.cmpi .ne v230_r3 v240_r3
  let c0_i32_141_r3 : BitVec 32 := 0#32
  let c1_i32_143_r3 : BitVec 32 := 1#32
  let arg32_r3 : BitVec 32 := Scf.iv c0_i32_141_r3 c1_i32_143_r3 k0_t4
  let c5_i32_187_r3 : BitVec 32 := 5#32
  let v247_r3 : BitVec 1 := Scalar.cmpi .sge arg32_r3 c5_i32_187_r3
  let true_188_r3 : BitVec 1 := 1#1
  let v248_r3 : BitVec 1 := Scalar.xori v247_r3 true_188_r3
  let v249_r3 : BitVec 1 := Scalar.andi v246_r3 v248_r3
  let true_189_r3 : BitVec 1 := 1#1
  let v250_r3 : BitVec 1 := Scalar.andi v249_r3 true_189_r3
  let v251_r3 : BitVec 32 := Scalar.extui v250_r3
  let c0_i32_190_r3 : BitVec 32 := 0#32
  let v252_r3 : BitVec 1 := Scalar.cmpi .ne v251_r3 c0_i32_190_r3
  v252_r3

def k0_off61 (arg33_r3 : BitVec 32) : Fin 3 → Nat :=
  let c2_i32_235_r3 : BitVec 32 := 2#32
  let v340_r3 : BitVec 32 := Scalar.remui arg33_r3 c2_i32_235_r3
  let c0_i32_237_r3 : BitVec 32 := 0#32
  let c0_i32_238_r3 : BitVec 32 := 0#32
  ![v340_r3.toNat, 0, 0]
def k0_off62 (arg37_r3 : BitVec 32) : Fin 2 → Nat :=
  let c0_i32_239_r3 : BitVec 32 := 0#32
  let c3328_i32_236_r3 : BitVec 32 := 3328#32
  let true_178_r3 : BitVec 1 := 1#1
  let c1_i32_177_r3 : BitVec 32 := 1#32
  let v236_r3 : BitVec 32 := Scalar.addi arg37_r3 c1_i32_177_r3
  let v237_r3 : BitVec 32 := Scalar.select true_178_r3 v236_r3 arg37_r3
  let c6_i32_179_r3 : BitVec 32 := 6#32
  let v238_r3 : BitVec 1 := Scalar.cmpi .eq v237_r3 c6_i32_179_r3
  let c0_i32_180_r3 : BitVec 32 := 0#32
  let v239_r3 : BitVec 32 := Scalar.select v238_r3 c0_i32_180_r3 v237_r3
  let c0_i32_181_r3 : BitVec 32 := 0#32
  let v240_r3 : BitVec 32 := Scalar.addi v239_r3 c0_i32_181_r3
  let v341_r3 : BitVec 32 := Scalar.muli c3328_i32_236_r3 v240_r3
  ![0, v341_r3.toNat]
def k0_off63 (arg34_r3 : BitVec 32) : Fin 1 → Nat :=
  let c2_i32_236_r3 : BitVec 32 := 2#32
  let v341_r3 : BitVec 32 := Scalar.remui arg34_r3 c2_i32_236_r3
  ![v341_r3.toNat]
def k0_cond23 (k0_t4 : Fin k0_t4_loop.trips) (arg37_r3 : BitVec 32) : BitVec 1 :=
  let c0_i32_171_r3 : BitVec 32 := 0#32
  let v230_r3 : BitVec 32 := Scalar.addi arg37_r3 c0_i32_171_r3
  let true_173_r3 : BitVec 1 := 1#1
  let c1_i32_172_r3 : BitVec 32 := 1#32
  let v231_r3 : BitVec 32 := Scalar.subi arg37_r3 c1_i32_172_r3
  let v232_r3 : BitVec 32 := Scalar.select true_173_r3 v231_r3 arg37_r3
  let c_m1_i32_174_r3 : BitVec 32 := 4294967295#32
  let v233_r3 : BitVec 1 := Scalar.cmpi .eq v232_r3 c_m1_i32_174_r3
  let c5_i32_175_r3 : BitVec 32 := 5#32
  let v234_r3 : BitVec 32 := Scalar.select v233_r3 c5_i32_175_r3 v232_r3
  let c0_i32_176_r3 : BitVec 32 := 0#32
  let v235_r3 : BitVec 32 := Scalar.addi v234_r3 c0_i32_176_r3
  let v260_r3 : BitVec 1 := Scalar.cmpi .ne v230_r3 v235_r3
  let c0_i32_141_r3 : BitVec 32 := 0#32
  let c1_i32_143_r3 : BitVec 32 := 1#32
  let arg32_r3 : BitVec 32 := Scf.iv c0_i32_141_r3 c1_i32_143_r3 k0_t4
  let c0_i32_169_r3 : BitVec 32 := 0#32
  let v228_r3 : BitVec 1 := Scalar.cmpi .eq arg32_r3 c0_i32_169_r3
  let v261_r3 : BitVec 1 := Scalar.ori v260_r3 v228_r3
  let c0_i32_195_r3 : BitVec 32 := 0#32
  let v262_r3 : BitVec 1 := Scalar.cmpi .sge arg32_r3 c0_i32_195_r3
  let v263_r3 : BitVec 1 := Scalar.andi v261_r3 v262_r3
  let v264_r3 : BitVec 32 := Scalar.extui v263_r3
  let c0_i32_196_r3 : BitVec 32 := 0#32
  let v265_r3 : BitVec 1 := Scalar.cmpi .ne v264_r3 c0_i32_196_r3
  v265_r3

def k0_off64 (arg34_r3 : BitVec 32) : Fin 3 → Nat :=
  let c2_i32_236_r3 : BitVec 32 := 2#32
  let v341_r3 : BitVec 32 := Scalar.remui arg34_r3 c2_i32_236_r3
  let c0_i32_237_r3 : BitVec 32 := 0#32
  let c0_i32_238_r3 : BitVec 32 := 0#32
  ![v341_r3.toNat, 0, 0]
def k0_off65 (arg37_r3 : BitVec 32) : Fin 2 → Nat :=
  let c0_i32_239_r3 : BitVec 32 := 0#32
  let c3328_i32_235_r3 : BitVec 32 := 3328#32
  let c0_i32_171_r3 : BitVec 32 := 0#32
  let v230_r3 : BitVec 32 := Scalar.addi arg37_r3 c0_i32_171_r3
  let v340_r3 : BitVec 32 := Scalar.muli c3328_i32_235_r3 v230_r3
  ![0, v340_r3.toNat]
def k0_off66 (arg34_r3 : BitVec 32) : Fin 3 → Nat :=
  let c2_i32_199_r3 : BitVec 32 := 2#32
  let v272_r3 : BitVec 32 := Scalar.remui arg34_r3 c2_i32_199_r3
  let v274_r3 : Index := Scalar.indexCast v272_r3
  let c0_201_r3 : Index := 0#32
  let c0_202_r3 : Index := 0#32
  ![v274_r3.toNat, 0, 0]

def k0_chk17 (arg34_r3 : BitVec 32) : Prop :=
  (∀ a, (k0_off66 arg34_r3) a + S1x300x3328.size a ≤ S2x300x3328.size a)
theorem k0_off66_inb : ∀ (arg34_r3 : BitVec 32) (k0_hw17 : k0_chk17 arg34_r3), ∀ a, (k0_off66 arg34_r3) a + S1x300x3328.size a ≤ S2x300x3328.size a := fun arg34_r3 k0_hw17 => k0_hw17

def k0_off67 (arg35_r3 : BitVec 32) : Fin 3 → Nat :=
  let c2_i32_200_r3 : BitVec 32 := 2#32
  let v273_r3 : BitVec 32 := Scalar.remui arg35_r3 c2_i32_200_r3
  let v295_r3 : Index := Scalar.indexCast v273_r3
  let c0_212_r3 : Index := 0#32
  let c0_213_r3 : Index := 0#32
  ![v295_r3.toNat, 0, 0]

def k0_chk18 (arg35_r3 : BitVec 32) : Prop :=
  (∀ a, (k0_off67 arg35_r3) a + S1x1x3328.size a ≤ S2x1x3328.size a)
theorem k0_off67_inb : ∀ (arg35_r3 : BitVec 32) (k0_hw18 : k0_chk18 arg35_r3), ∀ a, (k0_off67 arg35_r3) a + S1x1x3328.size a ≤ S2x1x3328.size a := fun arg35_r3 k0_hw18 => k0_hw18

def k0_off68 (arg35_r3 : BitVec 32) : Fin 1 → Nat :=
  let c2_i32_235_r3 : BitVec 32 := 2#32
  let v340_r3 : BitVec 32 := Scalar.remui arg35_r3 c2_i32_235_r3
  ![v340_r3.toNat]
def k0_cond26 (k0_t4 : Fin k0_t4_loop.trips) (arg37_r3 : BitVec 32) : BitVec 1 :=
  let c0_i32_171_r3 : BitVec 32 := 0#32
  let v230_r3 : BitVec 32 := Scalar.addi arg37_r3 c0_i32_171_r3
  let true_178_r3 : BitVec 1 := 1#1
  let c1_i32_177_r3 : BitVec 32 := 1#32
  let v236_r3 : BitVec 32 := Scalar.addi arg37_r3 c1_i32_177_r3
  let v237_r3 : BitVec 32 := Scalar.select true_178_r3 v236_r3 arg37_r3
  let c6_i32_179_r3 : BitVec 32 := 6#32
  let v238_r3 : BitVec 1 := Scalar.cmpi .eq v237_r3 c6_i32_179_r3
  let c0_i32_180_r3 : BitVec 32 := 0#32
  let v239_r3 : BitVec 32 := Scalar.select v238_r3 c0_i32_180_r3 v237_r3
  let c0_i32_181_r3 : BitVec 32 := 0#32
  let v240_r3 : BitVec 32 := Scalar.addi v239_r3 c0_i32_181_r3
  let v311_r3 : BitVec 1 := Scalar.cmpi .ne v230_r3 v240_r3
  let c0_i32_141_r3 : BitVec 32 := 0#32
  let c1_i32_143_r3 : BitVec 32 := 1#32
  let arg32_r3 : BitVec 32 := Scf.iv c0_i32_141_r3 c1_i32_143_r3 k0_t4
  let c5_i32_170_r3 : BitVec 32 := 5#32
  let v229_r3 : BitVec 1 := Scalar.cmpi .eq arg32_r3 c5_i32_170_r3
  let v312_r3 : BitVec 1 := Scalar.ori v311_r3 v229_r3
  let v313_r3 : BitVec 32 := Scalar.extui v312_r3
  let c0_i32_220_r3 : BitVec 32 := 0#32
  let v314_r3 : BitVec 1 := Scalar.cmpi .ne v313_r3 c0_i32_220_r3
  v314_r3

def k0_off69 (arg37_r3 : BitVec 32) : Fin 2 → Nat :=
  let c0_i32_237_r3 : BitVec 32 := 0#32
  let c3328_i32_236_r3 : BitVec 32 := 3328#32
  let c0_i32_171_r3 : BitVec 32 := 0#32
  let v230_r3 : BitVec 32 := Scalar.addi arg37_r3 c0_i32_171_r3
  let v341_r3 : BitVec 32 := Scalar.muli c3328_i32_236_r3 v230_r3
  ![0, v341_r3.toNat]
def k0_off70 (arg35_r3 : BitVec 32) : Fin 3 → Nat :=
  let c2_i32_235_r3 : BitVec 32 := 2#32
  let v340_r3 : BitVec 32 := Scalar.remui arg35_r3 c2_i32_235_r3
  let c0_i32_238_r3 : BitVec 32 := 0#32
  let c0_i32_239_r3 : BitVec 32 := 0#32
  ![v340_r3.toNat, 0, 0]
def k0_off71 (arg36_r3 : BitVec 32) : Fin 1 → Nat :=
  let c2_i32_235_r3 : BitVec 32 := 2#32
  let v340_r3 : BitVec 32 := Scalar.remui arg36_r3 c2_i32_235_r3
  ![v340_r3.toNat]
def k0_cond28 (k0_t4 : Fin k0_t4_loop.trips) (arg37_r3 : BitVec 32) : BitVec 1 :=
  let c0_i32_171_r3 : BitVec 32 := 0#32
  let v230_r3 : BitVec 32 := Scalar.addi arg37_r3 c0_i32_171_r3
  let true_173_r3 : BitVec 1 := 1#1
  let c1_i32_172_r3 : BitVec 32 := 1#32
  let v231_r3 : BitVec 32 := Scalar.subi arg37_r3 c1_i32_172_r3
  let v232_r3 : BitVec 32 := Scalar.select true_173_r3 v231_r3 arg37_r3
  let c_m1_i32_174_r3 : BitVec 32 := 4294967295#32
  let v233_r3 : BitVec 1 := Scalar.cmpi .eq v232_r3 c_m1_i32_174_r3
  let c5_i32_175_r3 : BitVec 32 := 5#32
  let v234_r3 : BitVec 32 := Scalar.select v233_r3 c5_i32_175_r3 v232_r3
  let c0_i32_176_r3 : BitVec 32 := 0#32
  let v235_r3 : BitVec 32 := Scalar.addi v234_r3 c0_i32_176_r3
  let v324_r3 : BitVec 1 := Scalar.cmpi .ne v230_r3 v235_r3
  let c0_i32_141_r3 : BitVec 32 := 0#32
  let c1_i32_143_r3 : BitVec 32 := 1#32
  let arg32_r3 : BitVec 32 := Scf.iv c0_i32_141_r3 c1_i32_143_r3 k0_t4
  let c0_i32_169_r3 : BitVec 32 := 0#32
  let v228_r3 : BitVec 1 := Scalar.cmpi .eq arg32_r3 c0_i32_169_r3
  let true_226_r3 : BitVec 1 := 1#1
  let v325_r3 : BitVec 1 := Scalar.xori v228_r3 true_226_r3
  let v326_r3 : BitVec 1 := Scalar.andi v324_r3 v325_r3
  let v327_r3 : BitVec 32 := Scalar.extui v326_r3
  let c0_i32_227_r3 : BitVec 32 := 0#32
  let v328_r3 : BitVec 1 := Scalar.cmpi .ne v327_r3 c0_i32_227_r3
  v328_r3

def k0_off72 (arg37_r3 : BitVec 32) : Fin 2 → Nat :=
  let c0_i32_237_r3 : BitVec 32 := 0#32
  let c3328_i32_236_r3 : BitVec 32 := 3328#32
  let true_173_r3 : BitVec 1 := 1#1
  let c1_i32_172_r3 : BitVec 32 := 1#32
  let v231_r3 : BitVec 32 := Scalar.subi arg37_r3 c1_i32_172_r3
  let v232_r3 : BitVec 32 := Scalar.select true_173_r3 v231_r3 arg37_r3
  let c_m1_i32_174_r3 : BitVec 32 := 4294967295#32
  let v233_r3 : BitVec 1 := Scalar.cmpi .eq v232_r3 c_m1_i32_174_r3
  let c5_i32_175_r3 : BitVec 32 := 5#32
  let v234_r3 : BitVec 32 := Scalar.select v233_r3 c5_i32_175_r3 v232_r3
  let c0_i32_176_r3 : BitVec 32 := 0#32
  let v235_r3 : BitVec 32 := Scalar.addi v234_r3 c0_i32_176_r3
  let v341_r3 : BitVec 32 := Scalar.muli c3328_i32_236_r3 v235_r3
  ![0, v341_r3.toNat]
def k0_off73 (arg36_r3 : BitVec 32) : Fin 3 → Nat :=
  let c2_i32_235_r3 : BitVec 32 := 2#32
  let v340_r3 : BitVec 32 := Scalar.remui arg36_r3 c2_i32_235_r3
  let c0_i32_238_r3 : BitVec 32 := 0#32
  let c0_i32_239_r3 : BitVec 32 := 0#32
  ![v340_r3.toNat, 0, 0]

def k0_chk16 (k0_t4 : Fin k0_t4_loop.trips) (arg33_r3 : BitVec 32) (arg34_r3 : BitVec 32) (arg35_r3 : BitVec 32) (arg36_r3 : BitVec 32) (arg37_r3 : BitVec 32) : Prop :=
  (∀ (k0_h22 : k0_cond22 k0_t4 arg37_r3 = 1#1), ∀ a, (k0_off60 arg33_r3) a + S1.size a ≤ S2.size a) ∧
  (∀ (k0_h22 : k0_cond22 k0_t4 arg37_r3 = 1#1), ∀ a, (k0_off61 arg33_r3) a + S1x300x3328.size a ≤ S2x300x3328.size a) ∧
  (∀ (k0_h22 : k0_cond22 k0_t4 arg37_r3 = 1#1), ∀ a, (k0_off62 arg37_r3) a + S300x3328.size a ≤ S300x19968.size a) ∧
  (∀ (k0_h22 : k0_cond22 k0_t4 arg37_r3 = 1#1), ∀ (hinb : ∀ a, (k0_off62 arg37_r3) a + S300x3328.size a ≤ S300x19968.size a), (Rect.unit (s := S300x19968) (k0_off62 arg37_r3) S300x3328.size hinb).WholeWords (EltTy.packing .bf16)) ∧
  (∀ (k0_h22 : k0_cond22 k0_t4 arg37_r3 = 1#1), ∀ (hinb : ∀ a, (k0_off61 arg33_r3) a + S1x300x3328.size a ≤ S2x300x3328.size a), (Rect.unit (s := S2x300x3328) (k0_off61 arg33_r3) S1x300x3328.size hinb).WholeWords (EltTy.packing .bf16)) ∧
  (∀ (k0_h23 : k0_cond23 k0_t4 arg37_r3 = 1#1), ∀ a, (k0_off63 arg34_r3) a + S1.size a ≤ S2.size a) ∧
  (∀ (k0_h23 : k0_cond23 k0_t4 arg37_r3 = 1#1), ∀ a, (k0_off64 arg34_r3) a + S1x300x3328.size a ≤ S2x300x3328.size a) ∧
  (∀ (k0_h23 : k0_cond23 k0_t4 arg37_r3 = 1#1), ∀ a, (k0_off65 arg37_r3) a + S300x3328.size a ≤ S300x19968.size a) ∧
  (∀ (k0_h23 : k0_cond23 k0_t4 arg37_r3 = 1#1), ∀ (hinb : ∀ a, (k0_off65 arg37_r3) a + S300x3328.size a ≤ S300x19968.size a), (Rect.unit (s := S300x19968) (k0_off65 arg37_r3) S300x3328.size hinb).WholeWords (EltTy.packing .bf16)) ∧
  (∀ (k0_h23 : k0_cond23 k0_t4 arg37_r3 = 1#1), ∀ (hinb : ∀ a, (k0_off64 arg34_r3) a + S1x300x3328.size a ≤ S2x300x3328.size a), (Rect.unit (s := S2x300x3328) (k0_off64 arg34_r3) S1x300x3328.size hinb).WholeWords (EltTy.packing .bf16)) ∧
  (∀ (k0_h26 : k0_cond26 k0_t4 arg37_r3 = 1#1), ∀ a, (k0_off68 arg35_r3) a + S1.size a ≤ S2.size a) ∧
  (∀ (k0_h26 : k0_cond26 k0_t4 arg37_r3 = 1#1), ∀ a, (k0_off69 arg37_r3) a + S1x3328.size a ≤ S1x19968.size a) ∧
  (∀ (k0_h26 : k0_cond26 k0_t4 arg37_r3 = 1#1), ∀ a, (k0_off70 arg35_r3) a + S1x1x3328.size a ≤ S2x1x3328.size a) ∧
  (∀ (k0_h28 : k0_cond28 k0_t4 arg37_r3 = 1#1), ∀ a, (k0_off71 arg36_r3) a + S1.size a ≤ S2.size a) ∧
  (∀ (k0_h28 : k0_cond28 k0_t4 arg37_r3 = 1#1), ∀ a, (k0_off72 arg37_r3) a + S1x3328.size a ≤ S1x19968.size a) ∧
  (∀ (k0_h28 : k0_cond28 k0_t4 arg37_r3 = 1#1), ∀ a, (k0_off73 arg36_r3) a + S1x1x3328.size a ≤ S2x1x3328.size a)
theorem k0_off60_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h22 : k0_cond22 k0_t4 arg37_r3 = 1#1), ∀ a, (k0_off60 arg33_r3) a + S1.size a ≤ S2.size a := fun k0_t4 arg33_r3 arg34_r3 arg35_r3 arg36_r3 arg37_r3 k0_hw16 k0_h22 => k0_hw16.1 k0_h22
theorem k0_off61_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h22 : k0_cond22 k0_t4 arg37_r3 = 1#1), ∀ a, (k0_off61 arg33_r3) a + S1x300x3328.size a ≤ S2x300x3328.size a := fun k0_t4 arg33_r3 arg34_r3 arg35_r3 arg36_r3 arg37_r3 k0_hw16 k0_h22 => k0_hw16.2.1 k0_h22
theorem k0_off62_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h22 : k0_cond22 k0_t4 arg37_r3 = 1#1), ∀ a, (k0_off62 arg37_r3) a + S300x3328.size a ≤ S300x19968.size a := fun k0_t4 arg33_r3 arg34_r3 arg35_r3 arg36_r3 arg37_r3 k0_hw16 k0_h22 => k0_hw16.2.2.1 k0_h22
theorem k0_off62_wordsbf16 : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h22 : k0_cond22 k0_t4 arg37_r3 = 1#1), (Rect.unit (s := S300x19968) (k0_off62 arg37_r3) S300x3328.size (k0_off62_inb k0_t4 arg33_r3 arg34_r3 arg35_r3 arg36_r3 arg37_r3 k0_hw16 k0_h22)).WholeWords (EltTy.packing .bf16) := fun k0_t4 arg33_r3 arg34_r3 arg35_r3 arg36_r3 arg37_r3 k0_hw16 k0_h22 => k0_hw16.2.2.2.1 k0_h22 (k0_off62_inb k0_t4 arg33_r3 arg34_r3 arg35_r3 arg36_r3 arg37_r3 k0_hw16 k0_h22)
theorem k0_off61_wordsbf16 : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h22 : k0_cond22 k0_t4 arg37_r3 = 1#1), (Rect.unit (s := S2x300x3328) (k0_off61 arg33_r3) S1x300x3328.size (k0_off61_inb k0_t4 arg33_r3 arg34_r3 arg35_r3 arg36_r3 arg37_r3 k0_hw16 k0_h22)).WholeWords (EltTy.packing .bf16) := fun k0_t4 arg33_r3 arg34_r3 arg35_r3 arg36_r3 arg37_r3 k0_hw16 k0_h22 => k0_hw16.2.2.2.2.1 k0_h22 (k0_off61_inb k0_t4 arg33_r3 arg34_r3 arg35_r3 arg36_r3 arg37_r3 k0_hw16 k0_h22)
theorem k0_off63_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h23 : k0_cond23 k0_t4 arg37_r3 = 1#1), ∀ a, (k0_off63 arg34_r3) a + S1.size a ≤ S2.size a := fun k0_t4 arg33_r3 arg34_r3 arg35_r3 arg36_r3 arg37_r3 k0_hw16 k0_h23 => k0_hw16.2.2.2.2.2.1 k0_h23
theorem k0_off64_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h23 : k0_cond23 k0_t4 arg37_r3 = 1#1), ∀ a, (k0_off64 arg34_r3) a + S1x300x3328.size a ≤ S2x300x3328.size a := fun k0_t4 arg33_r3 arg34_r3 arg35_r3 arg36_r3 arg37_r3 k0_hw16 k0_h23 => k0_hw16.2.2.2.2.2.2.1 k0_h23
theorem k0_off65_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h23 : k0_cond23 k0_t4 arg37_r3 = 1#1), ∀ a, (k0_off65 arg37_r3) a + S300x3328.size a ≤ S300x19968.size a := fun k0_t4 arg33_r3 arg34_r3 arg35_r3 arg36_r3 arg37_r3 k0_hw16 k0_h23 => k0_hw16.2.2.2.2.2.2.2.1 k0_h23
theorem k0_off65_wordsbf16 : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h23 : k0_cond23 k0_t4 arg37_r3 = 1#1), (Rect.unit (s := S300x19968) (k0_off65 arg37_r3) S300x3328.size (k0_off65_inb k0_t4 arg33_r3 arg34_r3 arg35_r3 arg36_r3 arg37_r3 k0_hw16 k0_h23)).WholeWords (EltTy.packing .bf16) := fun k0_t4 arg33_r3 arg34_r3 arg35_r3 arg36_r3 arg37_r3 k0_hw16 k0_h23 => k0_hw16.2.2.2.2.2.2.2.2.1 k0_h23 (k0_off65_inb k0_t4 arg33_r3 arg34_r3 arg35_r3 arg36_r3 arg37_r3 k0_hw16 k0_h23)
theorem k0_off64_wordsbf16 : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h23 : k0_cond23 k0_t4 arg37_r3 = 1#1), (Rect.unit (s := S2x300x3328) (k0_off64 arg34_r3) S1x300x3328.size (k0_off64_inb k0_t4 arg33_r3 arg34_r3 arg35_r3 arg36_r3 arg37_r3 k0_hw16 k0_h23)).WholeWords (EltTy.packing .bf16) := fun k0_t4 arg33_r3 arg34_r3 arg35_r3 arg36_r3 arg37_r3 k0_hw16 k0_h23 => k0_hw16.2.2.2.2.2.2.2.2.2.1 k0_h23 (k0_off64_inb k0_t4 arg33_r3 arg34_r3 arg35_r3 arg36_r3 arg37_r3 k0_hw16 k0_h23)
theorem k0_off68_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h26 : k0_cond26 k0_t4 arg37_r3 = 1#1), ∀ a, (k0_off68 arg35_r3) a + S1.size a ≤ S2.size a := fun k0_t4 arg33_r3 arg34_r3 arg35_r3 arg36_r3 arg37_r3 k0_hw16 k0_h26 => k0_hw16.2.2.2.2.2.2.2.2.2.2.1 k0_h26
theorem k0_off69_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h26 : k0_cond26 k0_t4 arg37_r3 = 1#1), ∀ a, (k0_off69 arg37_r3) a + S1x3328.size a ≤ S1x19968.size a := fun k0_t4 arg33_r3 arg34_r3 arg35_r3 arg36_r3 arg37_r3 k0_hw16 k0_h26 => k0_hw16.2.2.2.2.2.2.2.2.2.2.2.1 k0_h26
theorem k0_off70_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h26 : k0_cond26 k0_t4 arg37_r3 = 1#1), ∀ a, (k0_off70 arg35_r3) a + S1x1x3328.size a ≤ S2x1x3328.size a := fun k0_t4 arg33_r3 arg34_r3 arg35_r3 arg36_r3 arg37_r3 k0_hw16 k0_h26 => k0_hw16.2.2.2.2.2.2.2.2.2.2.2.2.1 k0_h26
theorem k0_off71_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h28 : k0_cond28 k0_t4 arg37_r3 = 1#1), ∀ a, (k0_off71 arg36_r3) a + S1.size a ≤ S2.size a := fun k0_t4 arg33_r3 arg34_r3 arg35_r3 arg36_r3 arg37_r3 k0_hw16 k0_h28 => k0_hw16.2.2.2.2.2.2.2.2.2.2.2.2.2.1 k0_h28
theorem k0_off72_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h28 : k0_cond28 k0_t4 arg37_r3 = 1#1), ∀ a, (k0_off72 arg37_r3) a + S1x3328.size a ≤ S1x19968.size a := fun k0_t4 arg33_r3 arg34_r3 arg35_r3 arg36_r3 arg37_r3 k0_hw16 k0_h28 => k0_hw16.2.2.2.2.2.2.2.2.2.2.2.2.2.2.1 k0_h28
theorem k0_off73_inb : ∀ (k0_t4 : Fin k0_t4_loop.trips) (arg33_r3 : BitVec 32) (arg34_r3 : BitVec 32) (arg35_r3 : BitVec 32) (arg36_r3 : BitVec 32) (arg37_r3 : BitVec 32) (k0_hw16 : k0_chk16 k0_t4 arg33_r3 arg34_r3 arg35_r3 arg36_r3 arg37_r3), ∀ (k0_h28 : k0_cond28 k0_t4 arg37_r3 = 1#1), ∀ a, (k0_off73 arg36_r3) a + S1x1x3328.size a ≤ S2x1x3328.size a := fun k0_t4 arg33_r3 arg34_r3 arg35_r3 arg36_r3 arg37_r3 k0_hw16 k0_h28 => k0_hw16.2.2.2.2.2.2.2.2.2.2.2.2.2.2.2 k0_h28

def k0_off74 (v200_3_r3 : BitVec 32) : Fin 1 → Nat :=
  let c2_i32_165_r3 : BitVec 32 := 2#32
  let v221_r3 : BitVec 32 := Scalar.remui v200_3_r3 c2_i32_165_r3
  ![v221_r3.toNat]

def k0_off75 (v200_4_r3 : BitVec 32) : Fin 2 → Nat :=
  let c0_i32_166_r3 : BitVec 32 := 0#32
  let c3328_i32_r3 : BitVec 32 := 3328#32
  let true_146_r3 : BitVec 1 := 1#1
  let c1_i32_145_r3 : BitVec 32 := 1#32
  let v201_r3 : BitVec 32 := Scalar.subi v200_4_r3 c1_i32_145_r3
  let v202_r3 : BitVec 32 := Scalar.select true_146_r3 v201_r3 v200_4_r3
  let c_m1_i32_147_r3 : BitVec 32 := 4294967295#32
  let v203_r3 : BitVec 1 := Scalar.cmpi .eq v202_r3 c_m1_i32_147_r3
  let c5_i32_148_r3 : BitVec 32 := 5#32
  let v204_r3 : BitVec 32 := Scalar.select v203_r3 c5_i32_148_r3 v202_r3
  let c0_i32_149_r3 : BitVec 32 := 0#32
  let v205_r3 : BitVec 32 := Scalar.addi v204_r3 c0_i32_149_r3
  let v222_r3 : BitVec 32 := Scalar.muli c3328_i32_r3 v205_r3
  ![0, v222_r3.toNat]

def k0_chk20 (v200_4_r3 : BitVec 32) : Prop :=
  (∀ a, (k0_off75 v200_4_r3) a + S1x3328.size a ≤ S1x19968.size a)
theorem k0_off75_inb : ∀ (v200_4_r3 : BitVec 32) (k0_hw20 : k0_chk20 v200_4_r3), ∀ a, (k0_off75 v200_4_r3) a + S1x3328.size a ≤ S1x19968.size a := fun v200_4_r3 k0_hw20 => k0_hw20

def k0_off76 (v200_3_r3 : BitVec 32) : Fin 3 → Nat :=
  let c2_i32_165_r3 : BitVec 32 := 2#32
  let v221_r3 : BitVec 32 := Scalar.remui v200_3_r3 c2_i32_165_r3
  let c0_i32_167_r3 : BitVec 32 := 0#32
  let c0_i32_168_r3 : BitVec 32 := 0#32
  ![v221_r3.toNat, 0, 0]

def k0_chk19 (v200_3_r3 : BitVec 32) : Prop :=
  (∀ a, (k0_off74 v200_3_r3) a + S1.size a ≤ S2.size a) ∧
  (∀ a, (k0_off76 v200_3_r3) a + S1x1x3328.size a ≤ S2x1x3328.size a)
theorem k0_off74_inb : ∀ (v200_3_r3 : BitVec 32) (k0_hw19 : k0_chk19 v200_3_r3), ∀ a, (k0_off74 v200_3_r3) a + S1.size a ≤ S2.size a := fun v200_3_r3 k0_hw19 => k0_hw19.1
theorem k0_off76_inb : ∀ (v200_3_r3 : BitVec 32) (k0_hw19 : k0_chk19 v200_3_r3), ∀ a, (k0_off76 v200_3_r3) a + S1x1x3328.size a ≤ S2x1x3328.size a := fun v200_3_r3 k0_hw19 => k0_hw19.2

def k0_off77 : Fin 1 → Nat :=
  let c0_i32_130_r4 : BitVec 32 := 0#32
  let c2_i32_r4 : BitVec 32 := 2#32
  let v192_r4 : BitVec 32 := Scalar.remui c0_i32_130_r4 c2_i32_r4
  ![v192_r4.toNat]
def k0_off78 : Fin 3 → Nat :=
  let c0_i32_130_r4 : BitVec 32 := 0#32
  let c2_i32_r4 : BitVec 32 := 2#32
  let v192_r4 : BitVec 32 := Scalar.remui c0_i32_130_r4 c2_i32_r4
  let c0_i32_131_r4 : BitVec 32 := 0#32
  let c0_i32_132_r4 : BitVec 32 := 0#32
  ![v192_r4.toNat, 0, 0]
@[reducible] def k0_t5_loop : Scf.Loop 32 :=
  let c0_i32_141_r4 : BitVec 32 := 0#32
  let c6_i32_142_r4 : BitVec 32 := 6#32
  let v199_r4 : BitVec 32 := Scalar.addi c0_i32_141_r4 c6_i32_142_r4
  let c1_i32_143_r4 : BitVec 32 := 1#32
  ⟨c0_i32_141_r4, v199_r4, c1_i32_143_r4⟩
def k0_off79 (arg33_r4 : BitVec 32) : Fin 1 → Nat :=
  let c2_i32_225_r4 : BitVec 32 := 2#32
  let v324_r4 : BitVec 32 := Scalar.remui arg33_r4 c2_i32_225_r4
  ![v324_r4.toNat]
def k0_cond29 (k0_t5 : Fin k0_t5_loop.trips) (arg37_r4 : BitVec 32) : BitVec 1 :=
  let c0_i32_171_r4 : BitVec 32 := 0#32
  let v230_r4 : BitVec 32 := Scalar.addi arg37_r4 c0_i32_171_r4
  let true_178_r4 : BitVec 1 := 1#1
  let c1_i32_177_r4 : BitVec 32 := 1#32
  let v236_r4 : BitVec 32 := Scalar.addi arg37_r4 c1_i32_177_r4
  let v237_r4 : BitVec 32 := Scalar.select true_178_r4 v236_r4 arg37_r4
  let c6_i32_179_r4 : BitVec 32 := 6#32
  let v238_r4 : BitVec 1 := Scalar.cmpi .eq v237_r4 c6_i32_179_r4
  let c0_i32_180_r4 : BitVec 32 := 0#32
  let v239_r4 : BitVec 32 := Scalar.select v238_r4 c0_i32_180_r4 v237_r4
  let c0_i32_181_r4 : BitVec 32 := 0#32
  let v240_r4 : BitVec 32 := Scalar.addi v239_r4 c0_i32_181_r4
  let v246_r4 : BitVec 1 := Scalar.cmpi .ne v230_r4 v240_r4
  let c0_i32_141_r4 : BitVec 32 := 0#32
  let c1_i32_143_r4 : BitVec 32 := 1#32
  let arg32_r4 : BitVec 32 := Scf.iv c0_i32_141_r4 c1_i32_143_r4 k0_t5
  let c5_i32_187_r4 : BitVec 32 := 5#32
  let v247_r4 : BitVec 1 := Scalar.cmpi .sge arg32_r4 c5_i32_187_r4
  let true_188_r4 : BitVec 1 := 1#1
  let v248_r4 : BitVec 1 := Scalar.xori v247_r4 true_188_r4
  let v249_r4 : BitVec 1 := Scalar.andi v246_r4 v248_r4
  let true_189_r4 : BitVec 1 := 1#1
  let v250_r4 : BitVec 1 := Scalar.andi v249_r4 true_189_r4
  let v251_r4 : BitVec 32 := Scalar.extui v250_r4
  let c0_i32_190_r4 : BitVec 32 := 0#32
  let v252_r4 : BitVec 1 := Scalar.cmpi .ne v251_r4 c0_i32_190_r4
  v252_r4

def k0_off80 (arg33_r4 : BitVec 32) : Fin 3 → Nat :=
  let c2_i32_225_r4 : BitVec 32 := 2#32
  let v324_r4 : BitVec 32 := Scalar.remui arg33_r4 c2_i32_225_r4
  let c0_i32_227_r4 : BitVec 32 := 0#32
  let c0_i32_228_r4 : BitVec 32 := 0#32
  ![v324_r4.toNat, 0, 0]
def k0_off81 (arg37_r4 : BitVec 32) : Fin 2 → Nat :=
  let c0_i32_229_r4 : BitVec 32 := 0#32
  let c3328_i32_226_r4 : BitVec 32 := 3328#32
  let true_178_r4 : BitVec 1 := 1#1
  let c1_i32_177_r4 : BitVec 32 := 1#32
  let v236_r4 : BitVec 32 := Scalar.addi arg37_r4 c1_i32_177_r4
  let v237_r4 : BitVec 32 := Scalar.select true_178_r4 v236_r4 arg37_r4
  let c6_i32_179_r4 : BitVec 32 := 6#32
  let v238_r4 : BitVec 1 := Scalar.cmpi .eq v237_r4 c6_i32_179_r4
  let c0_i32_180_r4 : BitVec 32 := 0#32
  let v239_r4 : BitVec 32 := Scalar.select v238_r4 c0_i32_180_r4 v237_r4
  let c0_i32_181_r4 : BitVec 32 := 0#32
  let v240_r4 : BitVec 32 := Scalar.addi v239_r4 c0_i32_181_r4
  let v325_r4 : BitVec 32 := Scalar.muli c3328_i32_226_r4 v240_r4
  ![0, v325_r4.toNat]
def k0_off82 (arg34_r4 : BitVec 32) : Fin 1 → Nat :=
  let c2_i32_226_r4 : BitVec 32 := 2#32
  let v325_r4 : BitVec 32 := Scalar.remui arg34_r4 c2_i32_226_r4
  ![v325_r4.toNat]
def k0_cond30 (k0_t5 : Fin k0_t5_loop.trips) (arg37_r4 : BitVec 32) : BitVec 1 :=
  let c0_i32_171_r4 : BitVec 32 := 0#32
  let v230_r4 : BitVec 32 := Scalar.addi arg37_r4 c0_i32_171_r4
  let true_173_r4 : BitVec 1 := 1#1
  let c1_i32_172_r4 : BitVec 32 := 1#32
  let v231_r4 : BitVec 32 := Scalar.subi arg37_r4 c1_i32_172_r4
  let v232_r4 : BitVec 32 := Scalar.select true_173_r4 v231_r4 arg37_r4
  let c_m1_i32_174_r4 : BitVec 32 := 4294967295#32
  let v233_r4 : BitVec 1 := Scalar.cmpi .eq v232_r4 c_m1_i32_174_r4
  let c5_i32_175_r4 : BitVec 32 := 5#32
  let v234_r4 : BitVec 32 := Scalar.select v233_r4 c5_i32_175_r4 v232_r4
  let c0_i32_176_r4 : BitVec 32 := 0#32
  let v235_r4 : BitVec 32 := Scalar.addi v234_r4 c0_i32_176_r4
  let v260_r4 : BitVec 1 := Scalar.cmpi .ne v230_r4 v235_r4
  let c0_i32_141_r4 : BitVec 32 := 0#32
  let c1_i32_143_r4 : BitVec 32 := 1#32
  let arg32_r4 : BitVec 32 := Scf.iv c0_i32_141_r4 c1_i32_143_r4 k0_t5
  let c0_i32_169_r4 : BitVec 32 := 0#32
  let v228_r4 : BitVec 1 := Scalar.cmpi .eq arg32_r4 c0_i32_169_r4
  let v261_r4 : BitVec 1 := Scalar.ori v260_r4 v228_r4
  let c0_i32_195_r4 : BitVec 32 := 0#32
  let v262_r4 : BitVec 1 := Scalar.cmpi .sge arg32_r4 c0_i32_195_r4
  let v263_r4 : BitVec 1 := Scalar.andi v261_r4 v262_r4
  let v264_r4 : BitVec 32 := Scalar.extui v263_r4
  let c0_i32_196_r4 : BitVec 32 := 0#32
  let v265_r4 : BitVec 1 := Scalar.cmpi .ne v264_r4 c0_i32_196_r4
  v265_r4

def k0_off83 (arg34_r4 : BitVec 32) : Fin 3 → Nat :=
  let c2_i32_226_r4 : BitVec 32 := 2#32
  let v325_r4 : BitVec 32 := Scalar.remui arg34_r4 c2_i32_226_r4
  let c0_i32_227_r4 : BitVec 32 := 0#32
  let c0_i32_228_r4 : BitVec 32 := 0#32
  ![v325_r4.toNat, 0, 0]
def k0_off84 (arg37_r4 : BitVec 32) : Fin 2 → Nat :=
  let c0_i32_229_r4 : BitVec 32 := 0#32
  let c3328_i32_225_r4 : BitVec 32 := 3328#32
  let c0_i32_171_r4 : BitVec 32 := 0#32
  let v230_r4 : BitVec 32 := Scalar.addi arg37_r4 c0_i32_171_r4
  let v324_r4 : BitVec 32 := Scalar.muli c3328_i32_225_r4 v230_r4
  ![0, v324_r4.toNat]
def k0_off85 (arg34_r4 : BitVec 32) : Fin 3 → Nat :=
  let c2_i32_199_r4 : BitVec 32 := 2#32
  let v272_r4 : BitVec 32 := Scalar.remui arg34_r4 c2_i32_199_r4
  let v274_r4 : Index := Scalar.indexCast v272_r4
  let c0_201_r4 : Index := 0#32
  let c0_202_r4 : Index := 0#32
  ![v274_r4.toNat, 0, 0]

def k0_chk22 (arg34_r4 : BitVec 32) : Prop :=
  (∀ a, (k0_off85 arg34_r4) a + S1x1x3328.size a ≤ S2x1x3328.size a)
theorem k0_off85_inb : ∀ (arg34_r4 : BitVec 32) (k0_hw22 : k0_chk22 arg34_r4), ∀ a, (k0_off85 arg34_r4) a + S1x1x3328.size a ≤ S2x1x3328.size a := fun arg34_r4 k0_hw22 => k0_hw22

def k0_off86 (arg35_r4 : BitVec 32) : Fin 3 → Nat :=
  let c2_i32_200_r4 : BitVec 32 := 2#32
  let v273_r4 : BitVec 32 := Scalar.remui arg35_r4 c2_i32_200_r4
  let v286_r4 : Index := Scalar.indexCast v273_r4
  let c0_207_r4 : Index := 0#32
  let c0_208_r4 : Index := 0#32
  ![v286_r4.toNat, 0, 0]

def k0_chk23 (arg35_r4 : BitVec 32) : Prop :=
  (∀ a, (k0_off86 arg35_r4) a + S1x1x3328.size a ≤ S2x1x3328.size a)
theorem k0_off86_inb : ∀ (arg35_r4 : BitVec 32) (k0_hw23 : k0_chk23 arg35_r4), ∀ a, (k0_off86 arg35_r4) a + S1x1x3328.size a ≤ S2x1x3328.size a := fun arg35_r4 k0_hw23 => k0_hw23

def k0_off87 (arg35_r4 : BitVec 32) : Fin 1 → Nat :=
  let c2_i32_225_r4 : BitVec 32 := 2#32
  let v324_r4 : BitVec 32 := Scalar.remui arg35_r4 c2_i32_225_r4
  ![v324_r4.toNat]
def k0_cond33 (k0_t5 : Fin k0_t5_loop.trips) (arg37_r4 : BitVec 32) : BitVec 1 :=
  let c0_i32_171_r4 : BitVec 32 := 0#32
  let v230_r4 : BitVec 32 := Scalar.addi arg37_r4 c0_i32_171_r4
  let true_178_r4 : BitVec 1 := 1#1
  let c1_i32_177_r4 : BitVec 32 := 1#32
  let v236_r4 : BitVec 32 := Scalar.addi arg37_r4 c1_i32_177_r4
  let v237_r4 : BitVec 32 := Scalar.select true_178_r4 v236_r4 arg37_r4
  let c6_i32_179_r4 : BitVec 32 := 6#32
  let v238_r4 : BitVec 1 := Scalar.cmpi .eq v237_r4 c6_i32_179_r4
  let c0_i32_180_r4 : BitVec 32 := 0#32
  let v239_r4 : BitVec 32 := Scalar.select v238_r4 c0_i32_180_r4 v237_r4
  let c0_i32_181_r4 : BitVec 32 := 0#32
  let v240_r4 : BitVec 32 := Scalar.addi v239_r4 c0_i32_181_r4
  let v295_r4 : BitVec 1 := Scalar.cmpi .ne v230_r4 v240_r4
  let c0_i32_141_r4 : BitVec 32 := 0#32
  let c1_i32_143_r4 : BitVec 32 := 1#32
  let arg32_r4 : BitVec 32 := Scf.iv c0_i32_141_r4 c1_i32_143_r4 k0_t5
  let c5_i32_170_r4 : BitVec 32 := 5#32
  let v229_r4 : BitVec 1 := Scalar.cmpi .eq arg32_r4 c5_i32_170_r4
  let v296_r4 : BitVec 1 := Scalar.ori v295_r4 v229_r4
  let v297_r4 : BitVec 32 := Scalar.extui v296_r4
  let c0_i32_210_r4 : BitVec 32 := 0#32
  let v298_r4 : BitVec 1 := Scalar.cmpi .ne v297_r4 c0_i32_210_r4
  v298_r4

def k0_off88 (arg37_r4 : BitVec 32) : Fin 2 → Nat :=
  let c0_i32_227_r4 : BitVec 32 := 0#32
  let c3328_i32_226_r4 : BitVec 32 := 3328#32
  let c0_i32_171_r4 : BitVec 32 := 0#32
  let v230_r4 : BitVec 32 := Scalar.addi arg37_r4 c0_i32_171_r4
  let v325_r4 : BitVec 32 := Scalar.muli c3328_i32_226_r4 v230_r4
  ![0, v325_r4.toNat]
def k0_off89 (arg35_r4 : BitVec 32) : Fin 3 → Nat :=
  let c2_i32_225_r4 : BitVec 32 := 2#32
  let v324_r4 : BitVec 32 := Scalar.remui arg35_r4 c2_i32_225_r4
  let c0_i32_228_r4 : BitVec 32 := 0#32
  let c0_i32_229_r4 : BitVec 32 := 0#32
  ![v324_r4.toNat, 0, 0]
def k0_off90 (arg36_r4 : BitVec 32) : Fin 1 → Nat :=
  let c2_i32_225_r4 : BitVec 32 := 2#32
  let v324_r4 : BitVec 32 := Scalar.remui arg36_r4 c2_i32_225_r4
  ![v324_r4.toNat]
def k0_cond35 (k0_t5 : Fin k0_t5_loop.trips) (arg37_r4 : BitVec 32) : BitVec 1 :=
  let c0_i32_171_r4 : BitVec 32 := 0#32
  let v230_r4 : BitVec 32 := Scalar.addi arg37_r4 c0_i32_171_r4
  let true_173_r4 : BitVec 1 := 1#1
  let c1_i32_172_r4 : BitVec 32 := 1#32
  let v231_r4 : BitVec 32 := Scalar.subi arg37_r4 c1_i32_172_r4
  let v232_r4 : BitVec 32 := Scalar.select true_173_r4 v231_r4 arg37_r4
  let c_m1_i32_174_r4 : BitVec 32 := 4294967295#32
  let v233_r4 : BitVec 1 := Scalar.cmpi .eq v232_r4 c_m1_i32_174_r4
  let c5_i32_175_r4 : BitVec 32 := 5#32
  let v234_r4 : BitVec 32 := Scalar.select v233_r4 c5_i32_175_r4 v232_r4
  let c0_i32_176_r4 : BitVec 32 := 0#32
  let v235_r4 : BitVec 32 := Scalar.addi v234_r4 c0_i32_176_r4
  let v308_r4 : BitVec 1 := Scalar.cmpi .ne v230_r4 v235_r4
  let c0_i32_141_r4 : BitVec 32 := 0#32
  let c1_i32_143_r4 : BitVec 32 := 1#32
  let arg32_r4 : BitVec 32 := Scf.iv c0_i32_141_r4 c1_i32_143_r4 k0_t5
  let c0_i32_169_r4 : BitVec 32 := 0#32
  let v228_r4 : BitVec 1 := Scalar.cmpi .eq arg32_r4 c0_i32_169_r4
  let true_216_r4 : BitVec 1 := 1#1
  let v309_r4 : BitVec 1 := Scalar.xori v228_r4 true_216_r4
  let v310_r4 : BitVec 1 := Scalar.andi v308_r4 v309_r4
  let v311_r4 : BitVec 32 := Scalar.extui v310_r4
  let c0_i32_217_r4 : BitVec 32 := 0#32
  let v312_r4 : BitVec 1 := Scalar.cmpi .ne v311_r4 c0_i32_217_r4
  v312_r4

def k0_off91 (arg37_r4 : BitVec 32) : Fin 2 → Nat :=
  let c0_i32_227_r4 : BitVec 32 := 0#32
  let c3328_i32_226_r4 : BitVec 32 := 3328#32
  let true_173_r4 : BitVec 1 := 1#1
  let c1_i32_172_r4 : BitVec 32 := 1#32
  let v231_r4 : BitVec 32 := Scalar.subi arg37_r4 c1_i32_172_r4
  let v232_r4 : BitVec 32 := Scalar.select true_173_r4 v231_r4 arg37_r4
  let c_m1_i32_174_r4 : BitVec 32 := 4294967295#32
  let v233_r4 : BitVec 1 := Scalar.cmpi .eq v232_r4 c_m1_i32_174_r4
  let c5_i32_175_r4 : BitVec 32 := 5#32
  let v234_r4 : BitVec 32 := Scalar.select v233_r4 c5_i32_175_r4 v232_r4
  let c0_i32_176_r4 : BitVec 32 := 0#32
  let v235_r4 : BitVec 32 := Scalar.addi v234_r4 c0_i32_176_r4
  let v325_r4 : BitVec 32 := Scalar.muli c3328_i32_226_r4 v235_r4
  ![0, v325_r4.toNat]
def k0_off92 (arg36_r4 : BitVec 32) : Fin 3 → Nat :=
  let c2_i32_225_r4 : BitVec 32 := 2#32
  let v324_r4 : BitVec 32 := Scalar.remui arg36_r4 c2_i32_225_r4
  let c0_i32_228_r4 : BitVec 32 := 0#32
  let c0_i32_229_r4 : BitVec 32 := 0#32
  ![v324_r4.toNat, 0, 0]

def k0_chk21 (k0_t5 : Fin k0_t5_loop.trips) (arg33_r4 : BitVec 32) (arg34_r4 : BitVec 32) (arg35_r4 : BitVec 32) (arg36_r4 : BitVec 32) (arg37_r4 : BitVec 32) : Prop :=
  (∀ (k0_h29 : k0_cond29 k0_t5 arg37_r4 = 1#1), ∀ a, (k0_off79 arg33_r4) a + S1.size a ≤ S2.size a) ∧
  (∀ (k0_h29 : k0_cond29 k0_t5 arg37_r4 = 1#1), ∀ a, (k0_off80 arg33_r4) a + S1x1x3328.size a ≤ S2x1x3328.size a) ∧
  (∀ (k0_h29 : k0_cond29 k0_t5 arg37_r4 = 1#1), ∀ a, (k0_off81 arg37_r4) a + S1x3328.size a ≤ S1x19968.size a) ∧
  (∀ (k0_h30 : k0_cond30 k0_t5 arg37_r4 = 1#1), ∀ a, (k0_off82 arg34_r4) a + S1.size a ≤ S2.size a) ∧
  (∀ (k0_h30 : k0_cond30 k0_t5 arg37_r4 = 1#1), ∀ a, (k0_off83 arg34_r4) a + S1x1x3328.size a ≤ S2x1x3328.size a) ∧
  (∀ (k0_h30 : k0_cond30 k0_t5 arg37_r4 = 1#1), ∀ a, (k0_off84 arg37_r4) a + S1x3328.size a ≤ S1x19968.size a) ∧
  (∀ (k0_h33 : k0_cond33 k0_t5 arg37_r4 = 1#1), ∀ a, (k0_off87 arg35_r4) a + S1.size a ≤ S2.size a) ∧
  (∀ (k0_h33 : k0_cond33 k0_t5 arg37_r4 = 1#1), ∀ a, (k0_off88 arg37_r4) a + S1x3328.size a ≤ S1x19968.size a) ∧
  (∀ (k0_h33 : k0_cond33 k0_t5 arg37_r4 = 1#1), ∀ a, (k0_off89 arg35_r4) a + S1x1x3328.size a ≤ S2x1x3328.size a) ∧
  (∀ (k0_h35 : k0_cond35 k0_t5 arg37_r4 = 1#1), ∀ a, (k0_off90 arg36_r4) a + S1.size a ≤ S2.size a) ∧
  (∀ (k0_h35 : k0_cond35 k0_t5 arg37_r4 = 1#1), ∀ a, (k0_off91 arg37_r4) a + S1x3328.size a ≤ S1x19968.size a) ∧
  (∀ (k0_h35 : k0_cond35 k0_t5 arg37_r4 = 1#1), ∀ a, (k0_off92 arg36_r4) a + S1x1x3328.size a ≤ S2x1x3328.size a)
theorem k0_off79_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h29 : k0_cond29 k0_t5 arg37_r4 = 1#1), ∀ a, (k0_off79 arg33_r4) a + S1.size a ≤ S2.size a := fun k0_t5 arg33_r4 arg34_r4 arg35_r4 arg36_r4 arg37_r4 k0_hw21 k0_h29 => k0_hw21.1 k0_h29
theorem k0_off80_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h29 : k0_cond29 k0_t5 arg37_r4 = 1#1), ∀ a, (k0_off80 arg33_r4) a + S1x1x3328.size a ≤ S2x1x3328.size a := fun k0_t5 arg33_r4 arg34_r4 arg35_r4 arg36_r4 arg37_r4 k0_hw21 k0_h29 => k0_hw21.2.1 k0_h29
theorem k0_off81_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h29 : k0_cond29 k0_t5 arg37_r4 = 1#1), ∀ a, (k0_off81 arg37_r4) a + S1x3328.size a ≤ S1x19968.size a := fun k0_t5 arg33_r4 arg34_r4 arg35_r4 arg36_r4 arg37_r4 k0_hw21 k0_h29 => k0_hw21.2.2.1 k0_h29
theorem k0_off82_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h30 : k0_cond30 k0_t5 arg37_r4 = 1#1), ∀ a, (k0_off82 arg34_r4) a + S1.size a ≤ S2.size a := fun k0_t5 arg33_r4 arg34_r4 arg35_r4 arg36_r4 arg37_r4 k0_hw21 k0_h30 => k0_hw21.2.2.2.1 k0_h30
theorem k0_off83_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h30 : k0_cond30 k0_t5 arg37_r4 = 1#1), ∀ a, (k0_off83 arg34_r4) a + S1x1x3328.size a ≤ S2x1x3328.size a := fun k0_t5 arg33_r4 arg34_r4 arg35_r4 arg36_r4 arg37_r4 k0_hw21 k0_h30 => k0_hw21.2.2.2.2.1 k0_h30
theorem k0_off84_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h30 : k0_cond30 k0_t5 arg37_r4 = 1#1), ∀ a, (k0_off84 arg37_r4) a + S1x3328.size a ≤ S1x19968.size a := fun k0_t5 arg33_r4 arg34_r4 arg35_r4 arg36_r4 arg37_r4 k0_hw21 k0_h30 => k0_hw21.2.2.2.2.2.1 k0_h30
theorem k0_off87_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h33 : k0_cond33 k0_t5 arg37_r4 = 1#1), ∀ a, (k0_off87 arg35_r4) a + S1.size a ≤ S2.size a := fun k0_t5 arg33_r4 arg34_r4 arg35_r4 arg36_r4 arg37_r4 k0_hw21 k0_h33 => k0_hw21.2.2.2.2.2.2.1 k0_h33
theorem k0_off88_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h33 : k0_cond33 k0_t5 arg37_r4 = 1#1), ∀ a, (k0_off88 arg37_r4) a + S1x3328.size a ≤ S1x19968.size a := fun k0_t5 arg33_r4 arg34_r4 arg35_r4 arg36_r4 arg37_r4 k0_hw21 k0_h33 => k0_hw21.2.2.2.2.2.2.2.1 k0_h33
theorem k0_off89_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h33 : k0_cond33 k0_t5 arg37_r4 = 1#1), ∀ a, (k0_off89 arg35_r4) a + S1x1x3328.size a ≤ S2x1x3328.size a := fun k0_t5 arg33_r4 arg34_r4 arg35_r4 arg36_r4 arg37_r4 k0_hw21 k0_h33 => k0_hw21.2.2.2.2.2.2.2.2.1 k0_h33
theorem k0_off90_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h35 : k0_cond35 k0_t5 arg37_r4 = 1#1), ∀ a, (k0_off90 arg36_r4) a + S1.size a ≤ S2.size a := fun k0_t5 arg33_r4 arg34_r4 arg35_r4 arg36_r4 arg37_r4 k0_hw21 k0_h35 => k0_hw21.2.2.2.2.2.2.2.2.2.1 k0_h35
theorem k0_off91_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h35 : k0_cond35 k0_t5 arg37_r4 = 1#1), ∀ a, (k0_off91 arg37_r4) a + S1x3328.size a ≤ S1x19968.size a := fun k0_t5 arg33_r4 arg34_r4 arg35_r4 arg36_r4 arg37_r4 k0_hw21 k0_h35 => k0_hw21.2.2.2.2.2.2.2.2.2.2.1 k0_h35
theorem k0_off92_inb : ∀ (k0_t5 : Fin k0_t5_loop.trips) (arg33_r4 : BitVec 32) (arg34_r4 : BitVec 32) (arg35_r4 : BitVec 32) (arg36_r4 : BitVec 32) (arg37_r4 : BitVec 32) (k0_hw21 : k0_chk21 k0_t5 arg33_r4 arg34_r4 arg35_r4 arg36_r4 arg37_r4), ∀ (k0_h35 : k0_cond35 k0_t5 arg37_r4 = 1#1), ∀ a, (k0_off92 arg36_r4) a + S1x1x3328.size a ≤ S2x1x3328.size a := fun k0_t5 arg33_r4 arg34_r4 arg35_r4 arg36_r4 arg37_r4 k0_hw21 k0_h35 => k0_hw21.2.2.2.2.2.2.2.2.2.2.2 k0_h35

def k0_off93 (v200_3_r4 : BitVec 32) : Fin 1 → Nat :=
  let c2_i32_165_r4 : BitVec 32 := 2#32
  let v221_r4 : BitVec 32 := Scalar.remui v200_3_r4 c2_i32_165_r4
  ![v221_r4.toNat]

def k0_off94 (v200_4_r4 : BitVec 32) : Fin 2 → Nat :=
  let c0_i32_166_r4 : BitVec 32 := 0#32
  let c3328_i32_r4 : BitVec 32 := 3328#32
  let true_146_r4 : BitVec 1 := 1#1
  let c1_i32_145_r4 : BitVec 32 := 1#32
  let v201_r4 : BitVec 32 := Scalar.subi v200_4_r4 c1_i32_145_r4
  let v202_r4 : BitVec 32 := Scalar.select true_146_r4 v201_r4 v200_4_r4
  let c_m1_i32_147_r4 : BitVec 32 := 4294967295#32
  let v203_r4 : BitVec 1 := Scalar.cmpi .eq v202_r4 c_m1_i32_147_r4
  let c5_i32_148_r4 : BitVec 32 := 5#32
  let v204_r4 : BitVec 32 := Scalar.select v203_r4 c5_i32_148_r4 v202_r4
  let c0_i32_149_r4 : BitVec 32 := 0#32
  let v205_r4 : BitVec 32 := Scalar.addi v204_r4 c0_i32_149_r4
  let v222_r4 : BitVec 32 := Scalar.muli c3328_i32_r4 v205_r4
  ![0, v222_r4.toNat]

def k0_chk25 (v200_4_r4 : BitVec 32) : Prop :=
  (∀ a, (k0_off94 v200_4_r4) a + S1x3328.size a ≤ S1x19968.size a)
theorem k0_off94_inb : ∀ (v200_4_r4 : BitVec 32) (k0_hw25 : k0_chk25 v200_4_r4), ∀ a, (k0_off94 v200_4_r4) a + S1x3328.size a ≤ S1x19968.size a := fun v200_4_r4 k0_hw25 => k0_hw25

def k0_off95 (v200_3_r4 : BitVec 32) : Fin 3 → Nat :=
  let c2_i32_165_r4 : BitVec 32 := 2#32
  let v221_r4 : BitVec 32 := Scalar.remui v200_3_r4 c2_i32_165_r4
  let c0_i32_167_r4 : BitVec 32 := 0#32
  let c0_i32_168_r4 : BitVec 32 := 0#32
  ![v221_r4.toNat, 0, 0]

def k0_chk24 (v200_3_r4 : BitVec 32) : Prop :=
  (∀ a, (k0_off93 v200_3_r4) a + S1.size a ≤ S2.size a) ∧
  (∀ a, (k0_off95 v200_3_r4) a + S1x1x3328.size a ≤ S2x1x3328.size a)
theorem k0_off93_inb : ∀ (v200_3_r4 : BitVec 32) (k0_hw24 : k0_chk24 v200_3_r4), ∀ a, (k0_off93 v200_3_r4) a + S1.size a ≤ S2.size a := fun v200_3_r4 k0_hw24 => k0_hw24.1
theorem k0_off95_inb : ∀ (v200_3_r4 : BitVec 32) (k0_hw24 : k0_chk24 v200_3_r4), ∀ a, (k0_off95 v200_3_r4) a + S1x1x3328.size a ≤ S2x1x3328.size a := fun v200_3_r4 k0_hw24 => k0_hw24.2

abbrev stage0_0 : Fin 1 → Memref sig .tc .vmem S1033x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x1033 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S600x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S300x600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x300 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1000x1033 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S600x1000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S300x600 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x300 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1000x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S600x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S300x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelIdeal.lean ====
variable {F : FTy → Type} [FloatOps F] [Named F]
def κ : String → Option EReal := fun
  | "inv_n" => some ((20000⁻¹ : ℝ) : EReal)
  | _ => none
-- ==== ReferenceIdeal.lean ====
abbrev S20000x1033 : Shape := ⟨2, ![20000, 1033]⟩
abbrev S1000x1033 : Shape := ⟨2, ![1000, 1033]⟩
abbrev S1000 : Shape := ⟨1, ![1000]⟩
abbrev S600x1000 : Shape := ⟨2, ![600, 1000]⟩
abbrev S600 : Shape := ⟨1, ![600]⟩
abbrev S300x600 : Shape := ⟨2, ![300, 600]⟩
abbrev S300 : Shape := ⟨1, ![300]⟩
abbrev S1x300 : Shape := ⟨2, ![1, 300]⟩
abbrev S1 : Shape := ⟨1, ![1]⟩
abbrev S_ : Shape := ⟨0, ![]⟩
abbrev S1033 : Shape := ⟨1, ![1033]⟩
abbrev S1x1033 : Shape := ⟨2, ![1, 1033]⟩
abbrev S1033x1000 : Shape := ⟨2, ![1033, 1000]⟩
abbrev S1x1000 : Shape := ⟨2, ![1, 1000]⟩
abbrev S20000x1000 : Shape := ⟨2, ![20000, 1000]⟩
abbrev S1000x600 : Shape := ⟨2, ![1000, 600]⟩
abbrev S1x600 : Shape := ⟨2, ![1, 600]⟩
abbrev S20000x600 : Shape := ⟨2, ![20000, 600]⟩
abbrev S600x300 : Shape := ⟨2, ![600, 300]⟩
abbrev S20000x300 : Shape := ⟨2, ![20000, 300]⟩
abbrev S300x1 : Shape := ⟨2, ![300, 1]⟩
abbrev S1x1 : Shape := ⟨2, ![1, 1]⟩
abbrev S20000x1 : Shape := ⟨2, ![20000, 1]⟩

abbrev nBuf : Space → Nat
  | .hbm => 133
  | .vmem => 0
  | .smem => 0
  | _ => 0

abbrev hbmTy0_0 (i : Nat) : BufTy := match i % 128 with
  | 0 => ⟨S20000x1033, .f32⟩
  | 1 => ⟨S1000x1033, .f32⟩
  | 2 => ⟨S1000, .f32⟩
  | 3 => ⟨S1000x1033, .f32⟩
  | 4 => ⟨S600x1000, .f32⟩
  | 5 => ⟨S600, .f32⟩
  | 6 => ⟨S600x1000, .f32⟩
  | 7 => ⟨S300x600, .f32⟩
  | 8 => ⟨S300, .f32⟩
  | 9 => ⟨S300x600, .f32⟩
  | 10 => ⟨S1x300, .f32⟩
  | 11 => ⟨S1, .f32⟩
  | 12 => ⟨S1x300, .f32⟩
  | 13 => ⟨S_, .f32⟩
  | 14 => ⟨S1033, .f32⟩
  | 15 => ⟨S1x1033, .f32⟩
  | 16 => ⟨S_, .f32⟩
  | 17 => ⟨S1x1033, .f32⟩
  | 18 => ⟨S1x1033, .f32⟩
  | 19 => ⟨S1033x1000, .f32⟩
  | 20 => ⟨S1x1000, .f32⟩
  | 21 => ⟨S1033x1000, .f32⟩
  | 22 => ⟨S20000x1000, .f32⟩
  | 23 => ⟨S1x1000, .f32⟩
  | 24 => ⟨S20000x1000, .f32⟩
  | 25 => ⟨S20000x1000, .f32⟩
  | 26 => ⟨S20000x1000, .f32⟩
  | 27 => ⟨S20000x1000, .f32⟩
  | 28 => ⟨S_, .f32⟩
  | 29 => ⟨S20000x1000, .f32⟩
  | 30 => ⟨S20000x1000, .i1⟩
  | 31 => ⟨S_, .f32⟩
  | 32 => ⟨S20000x1000, .f32⟩
  | 33 => ⟨S20000x1000, .i1⟩
  | 34 => ⟨S_, .f32⟩
  | 35 => ⟨S_, .f32⟩
  | 36 => ⟨S20000x1000, .f32⟩
  | 37 => ⟨S20000x1000, .f32⟩
  | 38 => ⟨S20000x1000, .f32⟩
  | 39 => ⟨S_, .f32⟩
  | 40 => ⟨S20000x1000, .f32⟩
  | 41 => ⟨S20000x1000, .f32⟩
  | 42 => ⟨S20000x1000, .f32⟩
  | 43 => ⟨S_, .f32⟩
  | 44 => ⟨S1000, .f32⟩
  | 45 => ⟨S1x1000, .f32⟩
  | 46 => ⟨S_, .f32⟩
  | 47 => ⟨S1x1000, .f32⟩
  | 48 => ⟨S1x1000, .f32⟩
  | 49 => ⟨S1000x600, .f32⟩
  | 50 => ⟨S1x600, .f32⟩
  | 51 => ⟨S1000x600, .f32⟩
  | 52 => ⟨S20000x600, .f32⟩
  | 53 => ⟨S1x600, .f32⟩
  | 54 => ⟨S20000x600, .f32⟩
  | 55 => ⟨S20000x600, .f32⟩
  | 56 => ⟨S20000x600, .f32⟩
  | 57 => ⟨S20000x600, .f32⟩
  | 58 => ⟨S_, .f32⟩
  | 59 => ⟨S20000x600, .f32⟩
  | 60 => ⟨S20000x600, .i1⟩
  | 61 => ⟨S_, .f32⟩
  | 62 => ⟨S20000x600, .f32⟩
  | 63 => ⟨S20000x600, .i1⟩
  | 64 => ⟨S_, .f32⟩
  | 65 => ⟨S_, .f32⟩
  | 66 => ⟨S20000x600, .f32⟩
  | 67 => ⟨S20000x600, .f32⟩
  | 68 => ⟨S20000x600, .f32⟩
  | 69 => ⟨S_, .f32⟩
  | 70 => ⟨S20000x600, .f32⟩
  | 71 => ⟨S20000x600, .f32⟩
  | 72 => ⟨S20000x600, .f32⟩
  | 73 => ⟨S_, .f32⟩
  | 74 => ⟨S600, .f32⟩
  | 75 => ⟨S1x600, .f32⟩
  | 76 => ⟨S_, .f32⟩
  | 77 => ⟨S1x600, .f32⟩
  | 78 => ⟨S1x600, .f32⟩
  | 79 => ⟨S600x300, .f32⟩
  | 80 => ⟨S1x300, .f32⟩
  | 81 => ⟨S600x300, .f32⟩
  | 82 => ⟨S20000x300, .f32⟩
  | 83 => ⟨S1x300, .f32⟩
  | 84 => ⟨S20000x300, .f32⟩
  | 85 => ⟨S20000x300, .f32⟩
  | 86 => ⟨S20000x300, .f32⟩
  | 87 => ⟨S20000x300, .f32⟩
  | 88 => ⟨S_, .f32⟩
  | 89 => ⟨S20000x300, .f32⟩
  | 90 => ⟨S20000x300, .i1⟩
  | 91 => ⟨S_, .f32⟩
  | 92 => ⟨S20000x300, .f32⟩
  | 93 => ⟨S20000x300, .i1⟩
  | 94 => ⟨S_, .f32⟩
  | 95 => ⟨S_, .f32⟩
  | 96 => ⟨S20000x300, .f32⟩
  | 97 => ⟨S20000x300, .f32⟩
  | 98 => ⟨S20000x300, .f32⟩
  | 99 => ⟨S_, .f32⟩
  | 100 => ⟨S20000x300, .f32⟩
  | 101 => ⟨S20000x300, .f32⟩
  | 102 => ⟨S20000x300, .f32⟩
  | 103 => ⟨S_, .f32⟩
  | 104 => ⟨S300, .f32⟩
  | 105 => ⟨S1x300, .f32⟩
  | 106 => ⟨S_, .f32⟩
  | 107 => ⟨S1x300, .f32⟩
  | 108 => ⟨S1x300, .f32⟩
  | 109 => ⟨S300x1, .f32⟩
  | 110 => ⟨S1x1, .f32⟩
  | 111 => ⟨S300x1, .f32⟩
  | 112 => ⟨S20000x1, .f32⟩
  | 113 => ⟨S1x1, .f32⟩
  | 114 => ⟨S20000x1, .f32⟩
  | 115 => ⟨S20000x1, .f32⟩
  | 116 => ⟨S20000x1, .f32⟩
  | 117 => ⟨S20000x1, .f32⟩
  | 118 => ⟨S_, .f32⟩
  | 119 => ⟨S20000x1, .f32⟩
  | 120 => ⟨S20000x1, .i1⟩
  | 121 => ⟨S_, .f32⟩
  | 122 => ⟨S20000x1, .f32⟩
  | 123 => ⟨S20000x1, .i1⟩
  | 124 => ⟨S_, .f32⟩
  | 125 => ⟨S_, .f32⟩
  | 126 => ⟨S20000x1, .f32⟩
  | 127 => ⟨S20000x1, .f32⟩
  | _ => ⟨S20000x1033, .f32⟩

abbrev hbmTy0_1 (i : Nat) : BufTy := match i % 128 with
  | 0 => ⟨S20000x1, .f32⟩
  | 1 => ⟨S_, .f32⟩
  | 2 => ⟨S20000x1, .f32⟩
  | 3 => ⟨S20000x1, .f32⟩
  | 4 => ⟨S20000x1, .f32⟩
  | _ => ⟨S20000x1033, .f32⟩

abbrev hbmTy (i : Nat) : BufTy := match i / 128 with
  | 0 => hbmTy0_0 i
  | 1 => hbmTy0_1 i
  | _ => ⟨S20000x1033, .f32⟩

abbrev bufTy : (tb : Table) → Fin (tcTables nBuf tb) → BufTy
  | .hbm, ⟨i, _⟩ => hbmTy i
  | _, _ => ⟨S20000x1033, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_cst_1 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v4 : Ref sig .tc := ⟨.hbm, 37, rfl⟩
abbrev main_call0_v5 : Ref sig .tc := ⟨.hbm, 38, rfl⟩
abbrev main_call0_cst_2 : Ref sig .tc := ⟨.hbm, 39, rfl⟩
abbrev main_call0_v6 : Ref sig .tc := ⟨.hbm, 40, rfl⟩
abbrev main_call0_v7 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_cst_1 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_v4 : Ref sig .tc := ⟨.hbm, 67, rfl⟩
abbrev main_call1_v5 : Ref sig .tc := ⟨.hbm, 68, rfl⟩
abbrev main_call1_cst_2 : Ref sig .tc := ⟨.hbm, 69, rfl⟩
abbrev main_call1_v6 : Ref sig .tc := ⟨.hbm, 70, rfl⟩
abbrev main_call1_v7 : Ref sig .tc := ⟨.hbm, 71, rfl⟩
abbrev main_v27 : Ref sig .tc := ⟨.hbm, 72, rfl⟩
abbrev main_cst_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_cst_1 : Ref sig .tc := ⟨.hbm, 94, rfl⟩
abbrev main_call2_call0_v0 : Ref sig .tc := ⟨.hbm, 95, rfl⟩
abbrev main_call2_call0_v1 : Ref sig .tc := ⟨.hbm, 96, rfl⟩
abbrev main_call2_v4 : Ref sig .tc := ⟨.hbm, 97, rfl⟩
abbrev main_call2_v5 : Ref sig .tc := ⟨.hbm, 98, rfl⟩
abbrev main_call2_cst_2 : Ref sig .tc := ⟨.hbm, 99, rfl⟩
abbrev main_call2_v6 : Ref sig .tc := ⟨.hbm, 100, rfl⟩
abbrev main_call2_v7 : Ref sig .tc := ⟨.hbm, 101, rfl⟩
abbrev main_v41 : Ref sig .tc := ⟨.hbm, 102, rfl⟩
abbrev main_cst_5 : Ref sig .tc := ⟨.hbm, 103, rfl⟩
abbrev main_v42 : Ref sig .tc := ⟨.hbm, 104, rfl⟩
abbrev main_v43 : Ref sig .tc := ⟨.hbm, 105, rfl⟩
abbrev main_cst_6 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_cst_1 : Ref sig .tc := ⟨.hbm, 124, rfl⟩
abbrev main_call3_call0_v0 : Ref sig .tc := ⟨.hbm, 125, rfl⟩
abbrev main_call3_call0_v1 : Ref sig .tc := ⟨.hbm, 126, rfl⟩
abbrev main_call3_v4 : Ref sig .tc := ⟨.hbm, 127, rfl⟩
abbrev main_call3_v5 : Ref sig .tc := ⟨.hbm, 128, rfl⟩
abbrev main_call3_cst_2 : Ref sig .tc := ⟨.hbm, 129, rfl⟩
abbrev main_call3_v6 : Ref sig .tc := ⟨.hbm, 130, rfl⟩
abbrev main_call3_v7 : Ref sig .tc := ⟨.hbm, 131, rfl⟩
abbrev main_v55 : Ref sig .tc := ⟨.hbm, 132, rfl⟩

abbrev nD : Nat := 1
abbrev τ : Topo := Topo.v7x

variable {F : FTy → Type} [FloatOps F]
-- ==== Proof.Ops.lean ====
/-
  The memory operations of a double-buffered pipeline, each as one rule over the predicate `holds`: a memref held at a
  share, reading a stated block. A load yields the block, a store replaces it, a transfer started on a cell at zero
  becomes a `flight` that delivers, at its wait, the destination reading what the source reads and the source back.
-/
module

public import Idealize.ShloMosaic.Lib.Ring
public import Idealize.ShloMosaic.Lib.Tactic
public import Idealize.ShloMosaic.Lib.Transfers
public import Idealize.ShloMosaic.Lib.Pipeline.FrameSuffixV

@[expose] public section

noncomputable section

namespace Cert.Ops

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {defs : Defs nD τ sig Val Λ}

local notation "𝕄" => MT nD τ sig Unit Val ℕ (Pipeline.UD sig nD τ) ℕ

/-- The transfers' counters in the algebra. -/
abbrev EC : UEmb Counters 𝕄 := countersEmb (U := Pipeline.UD sig nD τ)

/-- The memref `m` at share `q`, reading `v`. -/
def holds (c : Dev nD) {sp : Space} {s : Shape} {e : EltTy} (m : Memref sig .tc sp s e) (q : PosShare TreeShare)
    (v : s.Idx → Val e) : sProp 𝕄 :=
  iprop(∃ f, (m.view.loc (c : Thread nD τ) ↦[m.view.set]{q} f) ∗ ⌜m.view.read Val f = v⌝)

/-- A transfer in flight on the cell `sm`, delivering `D`. -/
abbrev flight (c : Dev nD) (sm : DmaSem sig) (N : ℕ) (D : sProp 𝕄) : sProp 𝕄 :=
  Transfers.Flight EC (c : Thread nD τ) (.dma sm) () N D

variable (𝒱 : Variants) (c : Dev nD) (bd : Option 𝒱.V) {sp sp' : Space} {s s' : Shape} {e : EltTy}

/-- A block with an axis of size one added. -/
def expand {s s' : Shape} {α : Type} (h : s'.numel = s.numel) (v : s'.Idx → α) : s.Idx → α :=
  fun i => v ((Shape.reshapeEquiv h).symm i)

/-- A block with its axes of size one dropped. -/
def drop1 {s s' : Shape} {α : Type} (h : s'.numel = s.numel) (v : s.Idx → α) : s'.Idx → α :=
  fun i => v (Shape.reshapeEquiv h i)

theorem drop1_expand {s s' : Shape} {α : Type} (h : s'.numel = s.numel) (v : s'.Idx → α) : drop1 h (expand h v) = v :=
  funext fun i => congrArg v (Equiv.symm_apply_apply _ i)

theorem expand_drop1 {s s' : Shape} {α : Type} (h : s'.numel = s.numel) (v : s.Idx → α) : expand h (drop1 h v) = v :=
  funext fun i => congrArg v (Equiv.apply_symm_apply _ i)

/-- Loading the rectangle `r` of a buffer of which the slot over `r` is held. -/
theorem wp_load_slot {cs : CoreSpace} {m : Memref sig .tc cs s e} {r : Rect s} {hl : m.view.LoadsAt r.toLoadRect}
    {q : PosShare TreeShare} {v : s'.Idx → Val e} (hr : ∀ a, r.stride a = 1) (hq : r.shape.Squeezes s')
    {w : Memref sig .tc cs s' e} (hw : (m.slice r hr).squeeze s' hq = w) :
    (holds c w q v : sProp 𝕄)
      ⊢ wp frame (wpE defs 𝒱 (c : Thread nD τ) bd) Set.univ (Prog.lift (.load m r.toLoadRect hl))
          (fun u => iprop(⌜u = expand hq.numel_eq v⌝ ∗ holds c w q v)) := by
  subst hw
  unfold holds
  have hset : ((m.slice r hr).squeeze s' hq).view.set = (m.access r).set := View.set_reshape _ _
  rw [hset]
  iintro ⟨%f, H, %hf⟩
  iapply (Idealize.ShloMosaic.wp_load_rect 𝒱 (c : Thread nD τ) bd Set.univ (m := m) (r := r) subset_rfl) $$ [H]
  · iexact H
  iintro H
  rw [wp_ret]
  imodintro
  isplitr
  · ipureintro
    subst hf
    exact (expand_drop1 hq.numel_eq ((m.access r).read Val f)).symm
  · iexists f
    isplitl [H]; · iexact H
    ipureintro; exact hf

/-- Storing at the rectangle `r` of a buffer of which the slot over `r` is held. -/
theorem wp_store_slot {cs : CoreSpace} {m : Memref sig .tc cs s e} {r : Rect s} {x : r.shape.Idx → Val e}
    {hx : (m.access r).Stores Finset.univ} {hm : (Finset.univ : Finset r.shape.Idx) = Finset.univ ∨ ∀ a, r.stride a = 1}
    (hr : ∀ a, r.stride a = 1) (hq : r.shape.Squeezes s') {w : Memref sig .tc cs s' e}
    (hw : (m.slice r hr).squeeze s' hq = w) {v : s'.Idx → Val e} :
    (holds c w fullShare v : sProp 𝕄)
      ⊢ wp frame (wpE defs 𝒱 (c : Thread nD τ) bd) Set.univ (Prog.lift (.store m r x Finset.univ hx hm))
          (fun _ => holds c w fullShare (drop1 hq.numel_eq x)) := by
  subst hw
  unfold holds
  have hset : ((m.slice r hr).squeeze s' hq).view.set = (m.access r).set := View.set_reshape _ _
  rw [hset]
  iintro ⟨%f, H, %hf⟩
  iapply (Idealize.ShloMosaic.wp_store 𝒱 (c : Thread nD τ) bd Set.univ (m := m) (r := r) (hx := hx) (hm := hm) (S := (m.access r).set) subset_rfl) $$ [H]
  · iexact H
  iintro H
  rw [wp_ret]
  imodintro
  iexists _
  isplitl [H]; · iexact H
  ipureintro
  exact congrArg (drop1 hq.numel_eq) (View.read_write_univ (v := m.access r) f x)

/-- The rectangle of a shape's own size. -/
theorem unit_emb {s : Shape} {off : Fin s.rank → ℕ} (h0 : ∀ a, off a = 0) (inb : ∀ a, off a + s.size a ≤ s.size a)
    (i : s.Idx) : (Rect.unit (s := s) off s.size inb).emb i = i := by
  funext a
  apply Fin.ext
  simp [Rect.emb, Rect.unit, h0]

theorem unit_set {s : Shape} {off : Fin s.rank → ℕ} (h0 : ∀ a, off a = 0) (inb : ∀ a, off a + s.size a ≤ s.size a)
    (v : View sig .tc sp s e) : (v.slice (Rect.unit (s := s) off s.size inb)).set = v.set := by
  refine Finset.Subset.antisymm (View.set_slice_subset (v := v) _) fun i hi => ?_
  obtain ⟨x, -, rfl⟩ := Finset.mem_map.mp hi
  refine Finset.mem_map.mpr ⟨x, Finset.mem_univ _, ?_⟩
  exact congrArg v.emb (unit_emb h0 inb x)

/-- Loading a memref whole. -/
theorem wp_load_all {cs : CoreSpace} {m : Memref sig .tc cs s e} {off : Fin s.rank → ℕ} {inb : ∀ a, off a + s.size a ≤ s.size a}
    {hl : m.view.LoadsAt (Rect.unit (s := s) off s.size inb).toLoadRect} (h0 : ∀ a, off a = 0)
    {q : PosShare TreeShare} {v : s.Idx → Val e} :
    (holds c m q v : sProp 𝕄)
      ⊢ wp frame (wpE defs 𝒱 (c : Thread nD τ) bd) Set.univ (Prog.lift (.load m (Rect.unit (s := s) off s.size inb).toLoadRect hl))
          (fun u => iprop(⌜v = u⌝ ∗ holds c m q v)) := by
  unfold holds
  iintro ⟨%f, H, %hf⟩
  iapply (Idealize.ShloMosaic.wp_load_rect 𝒱 (c : Thread nD τ) bd Set.univ (m := m) (r := Rect.unit (s := s) off s.size inb)
    (S := m.view.set) (View.set_slice_subset (v := m.view) _)) $$ [H]
  · iexact H
  iintro H
  rw [wp_ret]
  imodintro
  isplitr
  · ipureintro
    subst hf
    funext i
    exact (congrArg (m.view.read Val f) (unit_emb h0 inb i)).symm
  · iexists f
    isplitl [H]; · iexact H
    ipureintro; exact hf

/-- Storing a memref whole. -/
theorem wp_store_all {cs : CoreSpace} {m : Memref sig .tc cs s e} {off : Fin s.rank → ℕ} {inb : ∀ a, off a + s.size a ≤ s.size a}
    {x : s.Idx → Val e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    (h0 : ∀ a, off a = 0) {v : s.Idx → Val e} :
    (holds c m fullShare v : sProp 𝕄)
      ⊢ wp frame (wpE defs 𝒱 (c : Thread nD τ) bd) Set.univ (Prog.lift (.store m (Rect.unit (s := s) off s.size inb) x Finset.univ hx hm))
          (fun _ => holds c m fullShare x) := by
  unfold holds
  iintro ⟨%f, H, %hf⟩
  iapply (Idealize.ShloMosaic.wp_store 𝒱 (c : Thread nD τ) bd Set.univ (m := m) (r := Rect.unit (s := s) off s.size inb) (hx := hx) (hm := hm)
    (S := m.view.set) (View.set_slice_subset (v := m.view) _)) $$ [H]
  · iexact H
  iintro H
  rw [wp_ret]
  imodintro
  iexists _
  isplitl [H]; · iexact H
  ipureintro
  refine Eq.trans ?_ (View.read_write_univ (v := m.access (Rect.unit (s := s) off s.size inb)) f x)
  funext i
  exact (congrArg (m.view.read Val _) (unit_emb h0 inb i)).symm

/-- Starting a transfer on a cell at zero. -/
theorem wp_start {src : Memref sig .tc sp s e} {dst : Memref sig .tc sp' s e} {sm : DmaSem sig}
    {hsrc : src.view.WordExact} {hdst : dst.view.WordExact} {hsem : DmaTarget.Typed (nD := nD) (p := Proc.tc) sp (.dma sm) (.here dst)}
    {q : PosShare TreeShare} {v w : s.Idx → Val e} {N : ℕ} (hN : dst.view.dmaCredit = N) (hN0 : 0 < N) :
    iprop(holds c src q v ∗ holds c dst fullShare w ∗ semVal ((c : Thread nD τ), SemLoc.dma sm) 0 : sProp 𝕄)
      ⊢ wp frame (wpE defs 𝒱 (c : Thread nD τ) bd) Set.univ (Prog.lift (.enqueueDma src (.here dst) (.dma sm) hsrc hdst hsem))
          (fun _ => flight c sm N iprop(holds c dst fullShare v ∗ holds c src q v)) := by
  unfold holds
  iintro ⟨⟨%f, Hs, %hf⟩, ⟨%g, Hd, %hg⟩, Hv⟩
  iapply (Transfers.wp_dmaLocal EC 𝒱 (c : Thread nD τ) bd () N (show dst.view.amount (.dma sm) = N from hN) hN0 (src := src) (dst := dst) subset_rfl) $$ [Hs Hd Hv]
  · isplitl [Hs]; · iexact Hs
    isplitl [Hd] <;> iassumption
  iintro Hf
  rw [wp_ret]
  imodintro
  iapply (Transfers.Flight_mono EC (c : Thread nD τ) ?_) $$ Hf
  iintro ⟨Hd, Hs⟩
  isplitl [Hd]
  · iexists _
    isplitl [Hd]; · iexact Hd
    ipureintro
    rw [View.read_write_univ]; exact hf
  · iexists _
    isplitl [Hs]; · iexact Hs
    ipureintro; exact hf

/-- Waiting for a transfer in flight. -/
theorem wp_finish {src : Memref sig .tc sp s e} {dst : Memref sig .tc sp' s e} {sm : DmaSem sig}
    {hsrc : src.view.WordExact} {hdst : dst.view.WordExact} {D : sProp 𝕄} {N : ℕ} (hN : dst.view.dmaCredit = N) :
    iprop(flight c sm N D ∗ (∃ W, owes (c : Thread nD τ) 0 W))
      ⊢ wp frame (wpE defs 𝒱 (c : Thread nD τ) bd) Set.univ (Prog.lift (.waitDma2 sm src dst hsrc hdst))
          (fun _ => iprop(D ∗ semVal ((c : Thread nD τ), SemLoc.dma sm) 0 ∗ (∃ W, owes (c : Thread nD τ) 0 W))) := by
  iintro ⟨Hf, %W, Ho⟩
  iapply (Transfers.wp_waitLocal EC 𝒱 (c : Thread nD τ) bd () (srcw := src) (dstw := dst) hN) $$ [Hf Ho]
  · isplitl [Hf] <;> iassumption
  iintro ⟨HD, Hv, Ho⟩
  rw [wp_ret]
  imodintro
  isplitl [HD]; · iexact HD
  isplitl [Hv]; · iexact Hv
  iexists _; iexact Ho

end Cert.Ops
-- ==== Proof.Tiles.lean ====
/-
  A memref cut along one axis into tiles: the memref held is its tiles held, and the contents pasted from the tiles'.
-/
module

public import proofs.«01_k».proof.Proof.Ops

@[expose] public section

noncomputable section

namespace Cert.Ops

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {defs : Defs nD τ sig Val Λ}

local notation "𝕄" => MT nD τ sig Unit Val ℕ (Pipeline.UD sig nD τ) ℕ

theorem ent_of_eq {P Q : sProp 𝕄} (h : P = Q) : P ⊢ Q := h ▸ .rfl

variable (c : Dev nD) {sp : Space} {s s' : Shape} {e : EltTy}

/-- A buffer that reads `v` through the view stands for all of them. -/
theorem holds_eq {m : Memref sig .tc sp s e} {q : PosShare TreeShare} {v : s.Idx → Val e} {G : Buf Val (m.view.loc (c : Thread nD τ))}
    (h : m.view.read Val G = v) : (holds c m q v : sProp 𝕄) = (m.view.loc (c : Thread nD τ) ↦[m.view.set]{q} G) := by
  have h1 : (holds c m q v : sProp 𝕄) ⊢ (m.view.loc (c : Thread nD τ) ↦[m.view.set]{q} G) := by
    unfold holds
    iintro ⟨%f, H, %hf⟩
    iapply (ent_of_eq (pointsTo_congr ?_)) $$ H
    intro i hi
    obtain ⟨x, -, rfl⟩ := Finset.mem_map.mp hi
    have := congrFun (hf.trans h.symm) x
    exact (cast_bijective _).injective this
  have h2 : (m.view.loc (c : Thread nD τ) ↦[m.view.set]{q} G) ⊢ (holds c m q v : sProp 𝕄) := by
    unfold holds
    iintro H
    iexists G
    isplitl [H]; · iexact H
    ipureintro; exact h
  exact BI.equiv_iff.mp ⟨h1, h2⟩

/-- A squeezed memref is held with the block squeezed. -/
theorem holds_squeeze [∀ e, Nonempty (Val e)] {m : Memref sig .tc sp s e} (hq : s.Squeezes s') {q : PosShare TreeShare} {v : s.Idx → Val e} :
    (holds c (m.squeeze s' hq) q (drop1 hq.numel_eq v) : sProp 𝕄) = holds c m q v := by
  let f : Buf Val (m.view.loc (c : Thread nD τ)) := fun _ => Classical.arbitrary _
  have h1 : m.view.read Val (m.view.write Val f v Finset.univ) = v := View.read_write_univ f v
  rw [holds_eq c h1]
  refine (holds_eq c (m := m.squeeze s' hq) (G := m.view.write Val f v Finset.univ) ?_).trans ?_
  · exact congrArg (drop1 hq.numel_eq) h1
  · have : (m.squeeze s' hq).view.set = m.view.set := View.set_reshape _ _
    rw [this]

section Tile

variable (n : ℕ) (a₀ : Fin s.rank) (R : ℕ) (off : ℕ → Fin s.rank → ℕ) (size : Fin s.rank → ℕ)
  (inb : ∀ j a, off j a + size a ≤ s.size a)

/-- The contents whose tile `j` is `y j`. -/
def paste {α : Type} [Nonempty α] (y : ℕ → (⟨s.rank, size⟩ : Shape).Idx → α) : s.Idx → α := fun i =>
  open Classical in
  if h : ∃ x, (Rect.unit (off ((i a₀).val / R)) size (inb _)).emb x = i then y ((i a₀).val / R) h.choose else Classical.arbitrary _

variable (hoff₀ : ∀ j < n, off j a₀ = R * j) (hoff : ∀ j a, a ≠ a₀ → off j a = 0)
  (hsz₀ : size a₀ = R) (hsz : ∀ a, a ≠ a₀ → size a = s.size a) (hN : n * R = s.size a₀)

include hoff₀ hsz₀ in
theorem tile_index {j : ℕ} (hj : j < n) (x : (⟨s.rank, size⟩ : Shape).Idx) :
    (((Rect.unit (off j) size (inb j)).emb x) a₀).val / R = j := by
  have h1 : (((Rect.unit (off j) size (inb j)).emb x) a₀).val = R * j + (x a₀).val := by
    simp [Rect.emb, Rect.unit, hoff₀ j hj]
  have h2 : (x a₀).val < R := lt_of_lt_of_eq (x a₀).isLt hsz₀
  rw [h1, Nat.mul_add_div (by omega), Nat.div_eq_of_lt h2, Nat.add_zero]

include hoff₀ hsz₀ in
theorem paste_emb {α : Type} [Nonempty α] (y : ℕ → (⟨s.rank, size⟩ : Shape).Idx → α) {j : ℕ} (hj : j < n) (x : (⟨s.rank, size⟩ : Shape).Idx) :
    paste a₀ R off size inb y ((Rect.unit (off j) size (inb j)).emb x) = y j x := by
  have key : ∀ k, k = j → ∀ h : ∃ x', (Rect.unit (off k) size (inb k)).emb x' = (Rect.unit (off j) size (inb j)).emb x,
      y k h.choose = y j x := by
    rintro k rfl h
    exact congrArg (y k) ((Rect.unit (off k) size (inb k)).emb.injective h.choose_spec)
  have key' : ∀ k, k = j → ∃ x', (Rect.unit (off k) size (inb k)).emb x' = (Rect.unit (off j) size (inb j)).emb x := by
    rintro k rfl; exact ⟨x, rfl⟩
  have hk := tile_index n a₀ R off size inb hoff₀ hsz₀ hj x
  unfold paste
  rw [dif_pos (key' _ hk)]
  exact key _ hk _

include hoff₀ hsz₀ in
theorem tile_disjoint {A : Memref sig .tc sp s e} : ∀ j ∈ Finset.range n, ∀ k ∈ Finset.range n, j ≠ k →
    Disjoint (A.slice (Rect.unit (off j) size (inb j)) (fun _ => rfl)).view.set (A.slice (Rect.unit (off k) size (inb k)) (fun _ => rfl)).view.set := by
  intro j hj k hk hjk
  rw [Finset.disjoint_left]
  intro i hi hi'
  obtain ⟨x, -, hx⟩ := Finset.mem_map.mp hi
  obtain ⟨y, -, hy⟩ := Finset.mem_map.mp hi'
  have hxy : (Rect.unit (off j) size (inb j)).emb x = (Rect.unit (off k) size (inb k)).emb y := A.view.emb.injective (hx.trans hy.symm)
  have h1 := tile_index n a₀ R off size inb hoff₀ hsz₀ (Finset.mem_range.mp hj) x
  rw [hxy, tile_index n a₀ R off size inb hoff₀ hsz₀ (Finset.mem_range.mp hk) y] at h1
  exact hjk h1.symm

include hoff₀ hoff hsz₀ hsz hN in
/-- Every index lies in a tile. -/
theorem tile_of (i : s.Idx) : ∃ j < n, ∃ x, (Rect.unit (off j) size (inb j)).emb x = i := by
  have hi := (i a₀).isLt
  have hR : 0 < R := Nat.pos_of_ne_zero fun h0 => by rw [h0, Nat.mul_zero] at hN; omega
  have hb : (i a₀).val / R < n := by rw [Nat.div_lt_iff_lt_mul hR, hN]; exact hi
  refine ⟨_, hb, ?_⟩
  have hm : i ∈ (Rect.unit (off ((i a₀).val / R)) size (inb _)).set := Rect.mem_set_unit.mpr fun a => by
    by_cases ha : a = a₀
    · rw [ha, hoff₀ _ hb, hsz₀]
      have := Nat.div_add_mod (i a₀).val R
      have := Nat.mod_lt (i a₀).val hR
      omega
    · rw [hoff _ _ ha, hsz _ ha]; exact ⟨Nat.zero_le _, by have := (i a).isLt; omega⟩
  rw [← Rect.map_emb_univ] at hm
  obtain ⟨x, -, hx⟩ := Finset.mem_map.mp hm
  exact ⟨x, hx⟩

include hoff₀ hoff hsz₀ hsz hN in
/-- A memref held is its tiles held. -/
theorem holds_tiles [∀ e, Nonempty (Val e)] {A : Memref sig .tc sp s e} {q : PosShare TreeShare} {g : s.Idx → Val e} :
    (holds c A q g : sProp 𝕄) = bigSep (Finset.range n) fun j =>
      holds c (A.slice (Rect.unit (off j) size (inb j)) (fun _ => rfl)) q (fun x => g ((Rect.unit (off j) size (inb j)).emb x)) := by
  obtain ⟨G, h1⟩ : ∃ G : Buf Val (A.view.loc (c : Thread nD τ)), A.view.read Val G = g :=
    ⟨_, View.read_write_univ (fun _ => Classical.arbitrary _) g⟩
  rw [holds_eq c h1]
  have hset : A.view.set = (Finset.range n).biUnion fun j => (A.slice (Rect.unit (off j) size (inb j)) (fun _ => rfl)).view.set := by
    refine Finset.Subset.antisymm (fun i hi => ?_) (Finset.biUnion_subset.mpr fun j _ => View.set_slice_subset (v := A.view) _)
    obtain ⟨x, -, rfl⟩ := Finset.mem_map.mp hi
    obtain ⟨j, hj, y, rfl⟩ := tile_of n a₀ R off size inb hoff₀ hoff hsz₀ hsz hN x
    exact Finset.mem_biUnion.mpr ⟨j, Finset.mem_range.mpr hj, Finset.mem_map.mpr ⟨y, Finset.mem_univ _, rfl⟩⟩
  refine (congrArg (fun S => (A.view.loc (c : Thread nD τ) ↦[S]{q} G : sProp 𝕄)) hset).trans ?_
  refine (pointsTo_biUnion _ _ (tile_disjoint n a₀ R off size inb hoff₀ hsz₀)).trans ?_
  refine bigSep_congr fun j _ => ?_
  have h2 : (A.slice (Rect.unit (off j) size (inb j)) (fun _ => rfl)).view.read Val G = fun x => g ((Rect.unit (off j) size (inb j)).emb x) :=
    funext fun x => congrFun h1 _
  exact (holds_eq c h2).symm

include hoff₀ hoff hsz₀ hsz hN in
/-- Tiles held are the memref held, reading the tiles pasted. -/
theorem holds_paste [∀ e, Nonempty (Val e)] {A : Memref sig .tc sp s e} {q : PosShare TreeShare}
    (y : ℕ → (⟨s.rank, size⟩ : Shape).Idx → Val e) :
    (holds c A q (paste a₀ R off size inb y) : sProp 𝕄) = bigSep (Finset.range n) fun j =>
      holds c (A.slice (Rect.unit (off j) size (inb j)) (fun _ => rfl)) q (y j) := by
  rw [holds_tiles c n a₀ R off size inb hoff₀ hoff hsz₀ hsz hN]
  refine bigSep_congr fun j hj => ?_
  congr 1
  funext x
  exact paste_emb n a₀ R off size inb hoff₀ hsz₀ y (Finset.mem_range.mp hj) x

end Tile

end Cert.Ops
-- ==== Proof.Pipe.lean ====
/-
  A pipeline over the `n` column blocks of an array in HBM through two slots of VMEM, each slot with a cell of its own:
  what is held before step `k` of the way in (`Inward`) and of the way out (`Outward`), and what each transfer does to it.
-/
module

public import proofs.«01_k».proof.Proof.Tiles

@[expose] public section

noncomputable section

namespace Cert.Ops

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {defs : Defs nD τ sig Val Λ}

local notation "𝕄" => MT nD τ sig Unit Val ℕ (Pipeline.UD sig nD τ) ℕ

theorem bigSep_take {I : Type} [DecidableEq I] {s : Finset I} {i : I} (hi : i ∈ s) {Φ : I → sProp 𝕄} :
    bigSep s Φ = iprop(Φ i ∗ bigSep (s.erase i) Φ) := bigSep_erase hi

/-! ## Slots, cells and blocks -/

section Ends

variable {A B W : ℕ} {e : EltTy}

theorem slot_inb (k : ℕ) : ∀ a, (![k % 2, 0, 0] : Fin 3 → ℕ) a + (![1, A, B] : Fin 3 → ℕ) a ≤ (⟨3, ![2, A, B]⟩ : Shape).size a := by
  intro a
  fin_cases a
  · show k % 2 + 1 ≤ 2; omega
  · show 0 + A ≤ A; omega
  · show 0 + B ≤ B; omega

/-- Slot `k mod 2`. -/
def slotOf (m : Memref sig .tc .vmem ⟨3, ![2, A, B]⟩ e) (sq : (⟨3, ![1, A, B]⟩ : Shape).Squeezes ⟨2, ![A, B]⟩) (k : ℕ) :
    Memref sig .tc .vmem ⟨2, ![A, B]⟩ e :=
  (m.slice (Rect.unit (s := ⟨3, ![2, A, B]⟩) ![k % 2, 0, 0] ![1, A, B] (slot_inb k)) (fun _ => rfl)).squeeze ⟨2, ![A, B]⟩ sq

theorem slotOf_eq {m : Memref sig .tc .vmem ⟨3, ![2, A, B]⟩ e} {sq : (⟨3, ![1, A, B]⟩ : Shape).Squeezes ⟨2, ![A, B]⟩} {off : Fin 3 → ℕ} {k : ℕ}
    (ho : off = ![k % 2, 0, 0]) (inb : ∀ a, off a + (![1, A, B] : Fin 3 → ℕ) a ≤ (⟨3, ![2, A, B]⟩ : Shape).size a) :
    (m.slice (Rect.unit (s := ⟨3, ![2, A, B]⟩) off ![1, A, B] inb) (fun _ => rfl)).squeeze ⟨2, ![A, B]⟩ sq = slotOf m sq k := by
  subst ho; rfl

theorem slotOf_add {m : Memref sig .tc .vmem ⟨3, ![2, A, B]⟩ e} {sq : (⟨3, ![1, A, B]⟩ : Shape).Squeezes ⟨2, ![A, B]⟩} (k : ℕ) :
    slotOf m sq (k + 2) = slotOf m sq k := slotOf_eq (by rw [Nat.add_mod_right]) _

theorem slotOf_back {m : Memref sig .tc .vmem ⟨3, ![2, A, B]⟩ e} {sq : (⟨3, ![1, A, B]⟩ : Shape).Squeezes ⟨2, ![A, B]⟩} (k : ℕ) :
    slotOf m sq (k + 1) = slotOf m sq (k - 1) ∨ k = 0 := by
  cases k with
  | zero => exact .inr rfl
  | succ k => exact .inl (slotOf_add k)

theorem cell_inb (k : ℕ) : ∀ a, (![k % 2] : Fin 1 → ℕ) a + (![1] : Fin 1 → ℕ) a ≤ (⟨1, ![2]⟩ : Shape).size a := by
  intro a
  fin_cases a
  show k % 2 + 1 ≤ 2; omega

/-- The cell of slot `k mod 2`. -/
def cellOf (m : DmaSems sig ⟨1, ![2]⟩) (sq : (⟨1, ![1]⟩ : Shape).Squeezes ⟨0, ![]⟩) (k : ℕ) : DmaSem sig :=
  ((m.slice (Rect.unit (s := ⟨1, ![2]⟩) ![k % 2] ![1] (cell_inb k))).squeeze ⟨0, ![]⟩ sq).sem

theorem cellOf_eq {m : DmaSems sig ⟨1, ![2]⟩} {sq : (⟨1, ![1]⟩ : Shape).Squeezes ⟨0, ![]⟩} {off : Fin 1 → ℕ} {k : ℕ}
    (ho : off = ![k % 2]) (inb : ∀ a, off a + (![1] : Fin 1 → ℕ) a ≤ (⟨1, ![2]⟩ : Shape).size a) :
    ((m.slice (Rect.unit (s := ⟨1, ![2]⟩) off ![1] inb)).squeeze ⟨0, ![]⟩ sq).sem = cellOf m sq k := by
  subst ho; rfl

theorem cellOf_add {m : DmaSems sig ⟨1, ![2]⟩} {sq : (⟨1, ![1]⟩ : Shape).Squeezes ⟨0, ![]⟩} (k : ℕ) :
    cellOf m sq (k + 2) = cellOf m sq k := cellOf_eq (by rw [Nat.add_mod_right]) _

theorem cellOf_back {m : DmaSems sig ⟨1, ![2]⟩} {sq : (⟨1, ![1]⟩ : Shape).Squeezes ⟨0, ![]⟩} (k : ℕ) :
    cellOf m sq (k + 1) = cellOf m sq (k - 1) ∨ k = 0 := by
  cases k with
  | zero => exact .inr rfl
  | succ k => exact .inl (cellOf_add k)

theorem block_inb {n : ℕ} (hW : n * B = W) (hn : 0 < n) (k : ℕ) :
    ∀ a, (![0, B * (k % n)] : Fin 2 → ℕ) a + (![A, B] : Fin 2 → ℕ) a ≤ (⟨2, ![A, W]⟩ : Shape).size a := by
  intro a
  fin_cases a
  · show 0 + A ≤ A; omega
  · show B * (k % n) + B ≤ W
    have := Nat.mul_le_mul_left B (Nat.succ_le_of_lt (Nat.mod_lt k hn))
    rw [Nat.mul_succ] at this
    rw [← hW, Nat.mul_comm n]; exact this

/-- Column block `k` of `n`. -/
def blockOf {n : ℕ} (hW : n * B = W) (hn : 0 < n) (m : Memref sig .tc .hbm ⟨2, ![A, W]⟩ e) (k : ℕ) : Memref sig .tc .hbm ⟨2, ![A, B]⟩ e :=
  m.slice (Rect.unit (s := ⟨2, ![A, W]⟩) ![0, B * (k % n)] ![A, B] (block_inb hW hn k)) (fun _ => rfl)

theorem blockOf_eq {n : ℕ} {hW : n * B = W} {hn : 0 < n} {m : Memref sig .tc .hbm ⟨2, ![A, W]⟩ e} {off : Fin 2 → ℕ} {k : ℕ}
    (ho : off = ![0, B * (k % n)]) (inb : ∀ a, off a + (![A, B] : Fin 2 → ℕ) a ≤ (⟨2, ![A, W]⟩ : Shape).size a) :
    m.slice (Rect.unit (s := ⟨2, ![A, W]⟩) off ![A, B] inb) (fun _ => rfl) = blockOf hW hn m k := by
  subst ho; rfl

/-- Block `k` of contents. -/
def colBlock {α : Type} {n : ℕ} (hW : n * B = W) (hn : 0 < n) (g : (⟨2, ![A, W]⟩ : Shape).Idx → α) (k : ℕ) : (⟨2, ![A, B]⟩ : Shape).Idx → α :=
  fun x => g ((Rect.unit (s := ⟨2, ![A, W]⟩) ![0, B * (k % n)] ![A, B] (block_inb hW hn k)).emb x)

/-- The contents of which block `k` is `y k`. -/
def ofBlocks {α : Type} [Nonempty α] {n : ℕ} (hW : n * B = W) (hn : 0 < n) (y : ℕ → (⟨2, ![A, B]⟩ : Shape).Idx → α) :
    (⟨2, ![A, W]⟩ : Shape).Idx → α :=
  paste (s := ⟨2, ![A, W]⟩) 1 B (fun k => ![0, B * (k % n)]) ![A, B] (block_inb hW hn) y

variable (c : Dev nD) [∀ e, Nonempty (Val e)]

theorem block_off₀ {n : ℕ} : ∀ j < n, (fun k => (![0, B * (k % n)] : Fin 2 → ℕ)) j 1 = B * j := fun j hj => by
  show B * (j % n) = B * j
  rw [Nat.mod_eq_of_lt hj]

theorem colBlock_ofBlocks {α : Type} [Nonempty α] {n : ℕ} (hW : n * B = W) (hn : 0 < n) (y : ℕ → (⟨2, ![A, B]⟩ : Shape).Idx → α) {k : ℕ} (hk : k < n) :
    colBlock hW hn (ofBlocks hW hn y) k = y k :=
  funext fun x => paste_emb (s := ⟨2, ![A, W]⟩) n 1 B (fun k => ![0, B * (k % n)]) ![A, B] (block_inb hW hn) block_off₀ rfl y hk x

/-- An array held is its column blocks held. -/
theorem holds_blocks {n : ℕ} (hW : n * B = W) (hn : 0 < n) {m : Memref sig .tc .hbm ⟨2, ![A, W]⟩ e} {q : PosShare TreeShare}
    {g : (⟨2, ![A, W]⟩ : Shape).Idx → Val e} :
    (holds c m q g : sProp 𝕄) = bigSep (Finset.range n) fun j => holds c (blockOf hW hn m j) q (colBlock hW hn g j) :=
  holds_tiles (s := ⟨2, ![A, W]⟩) c n 1 B (fun k => ![0, B * (k % n)]) ![A, B] (block_inb hW hn) block_off₀
    (fun j a ha => by fin_cases a; exacts [rfl, absurd rfl ha]) rfl (fun a ha => by fin_cases a; exacts [rfl, absurd rfl ha]) hW

theorem holds_ofBlocks {n : ℕ} (hW : n * B = W) (hn : 0 < n) {m : Memref sig .tc .hbm ⟨2, ![A, W]⟩ e} {q : PosShare TreeShare}
    (y : ℕ → (⟨2, ![A, B]⟩ : Shape).Idx → Val e) :
    (holds c m q (ofBlocks hW hn y) : sProp 𝕄) = bigSep (Finset.range n) fun j => holds c (blockOf hW hn m j) q (y j) := by
  rw [holds_blocks c hW hn]
  refine bigSep_congr fun j hj => ?_
  rw [colBlock_ofBlocks hW hn y (Finset.mem_range.mp hj)]

theorem range_two (Φ : ℕ → sProp 𝕄) : bigSep (Finset.range 2) Φ = iprop(Φ 0 ∗ Φ 1) := by
  rw [bigSep_erase (i := 0) (by simp), show (Finset.range 2).erase 0 = {1} from rfl, bigSep_singleton]; rfl

/-- A buffer of two slots held is its slots held, -/
theorem slots_split {m : Memref sig .tc .vmem ⟨3, ![2, A, B]⟩ e} (sq : (⟨3, ![1, A, B]⟩ : Shape).Squeezes ⟨2, ![A, B]⟩) :
    (iprop(∃ v, holds c m fullShare v) : sProp 𝕄)
      ⊢ iprop((∃ v, holds c (slotOf m sq 0) fullShare v) ∗ ∃ v, holds c (slotOf m sq 1) fullShare v) := by
  iintro ⟨%v, H⟩
  ihave H := (ent_of_eq ((holds_tiles (s := ⟨3, ![2, A, B]⟩) c 2 0 1 (fun k => ![k % 2, 0, 0]) ![1, A, B] slot_inb
    (fun j hj => by show j % 2 = 1 * j; omega) (fun j a ha => by fin_cases a; exacts [absurd rfl ha, rfl, rfl]) rfl
    (fun a ha => by fin_cases a; exacts [absurd rfl ha, rfl, rfl]) rfl (A := m) (q := fullShare) (g := v)).trans (range_two _))) $$ H
  icases H with ⟨H0, H1⟩
  isplitl [H0]
  · iexists _; iapply (ent_of_eq (holds_squeeze c sq).symm); iexact H0
  · iexists _; iapply (ent_of_eq (holds_squeeze c sq).symm); iexact H1

/-- and back. -/
theorem slots_join {m : Memref sig .tc .vmem ⟨3, ![2, A, B]⟩ e} (sq : (⟨3, ![1, A, B]⟩ : Shape).Squeezes ⟨2, ![A, B]⟩) :
    (iprop((∃ v, holds c (slotOf m sq 0) fullShare v) ∗ ∃ v, holds c (slotOf m sq 1) fullShare v) : sProp 𝕄)
      ⊢ iprop(∃ v, holds c m fullShare v) := by
  iintro ⟨⟨%v0, H0⟩, %v1, H1⟩
  iexists _
  iapply (ent_of_eq ((holds_paste (s := ⟨3, ![2, A, B]⟩) c 2 0 1 (fun k => ![k % 2, 0, 0]) ![1, A, B] slot_inb
    (fun j hj => by show j % 2 = 1 * j; omega) (fun j a ha => by fin_cases a; exacts [absurd rfl ha, rfl, rfl]) rfl
    (fun a ha => by fin_cases a; exacts [absurd rfl ha, rfl, rfl]) rfl (A := m) (q := fullShare)
    (fun j => if j = 0 then expand sq.numel_eq v0 else expand sq.numel_eq v1)).trans (range_two _)).symm)
  isplitl [H0]
  · iapply (ent_of_eq (holds_squeeze c sq))
    rw [if_pos rfl]
    iapply (ent_of_eq (congrArg (holds c (slotOf m sq 0) fullShare) (drop1_expand sq.numel_eq v0).symm)) $$ H0
  · iapply (ent_of_eq (holds_squeeze c sq))
    rw [if_neg (by decide)]
    iapply (ent_of_eq (congrArg (holds c (slotOf m sq 1) fullShare) (drop1_expand sq.numel_eq v1).symm)) $$ H1

end Ends

/-! ## The ways in and out -/

variable (𝒱 : Variants) (c : Dev nD) (bd : Option 𝒱.V) {s : Shape} {e : EltTy} {sp sp' : Space}

/-- `wp_start` and `wp_finish` at memrefs known by equations. -/
theorem wp_start_at {src src' : Memref sig .tc sp s e} {dst dst' : Memref sig .tc sp' s e} {sm sm' : DmaSem sig}
    {hsrc : src.view.WordExact} {hdst : dst.view.WordExact} {hsem : DmaTarget.Typed (nD := nD) (p := Proc.tc) sp (.dma sm) (.here dst)}
    (e1 : src = src') (e2 : dst = dst') (e3 : sm = sm')
    {q : PosShare TreeShare} {v w : s.Idx → Val e} (hN0 : 0 < s.numel) :
    iprop(holds c src' q v ∗ holds c dst' fullShare w ∗ semVal ((c : Thread nD τ), SemLoc.dma sm') 0 : sProp 𝕄)
      ⊢ wp frame (wpE defs 𝒱 (c : Thread nD τ) bd) Set.univ (Prog.lift (.enqueueDma src (.here dst) (.dma sm) hsrc hdst hsem))
          (fun _ => flight c sm' dst'.view.dmaCredit iprop(holds c dst' fullShare v ∗ holds c src' q v)) := by
  subst e1 e2 e3
  exact wp_start 𝒱 c bd rfl (View.dmaCredit_pos _ hN0)

theorem wp_finish_at {src : Memref sig .tc sp s e} {dst dst' : Memref sig .tc sp' s e} {sm sm' : DmaSem sig}
    {hsrc : src.view.WordExact} {hdst : dst.view.WordExact} (e2 : dst = dst') (e3 : sm = sm') {D : sProp 𝕄} :
    iprop(flight c sm' dst'.view.dmaCredit D ∗ (∃ W, owes (c : Thread nD τ) 0 W))
      ⊢ wp frame (wpE defs 𝒱 (c : Thread nD τ) bd) Set.univ (Prog.lift (.waitDma2 sm src dst hsrc hdst))
          (fun _ => iprop(D ∗ semVal ((c : Thread nD τ), SemLoc.dma sm') 0 ∗ (∃ W, owes (c : Thread nD τ) 0 W))) := by
  subst e2 e3
  exact wp_finish 𝒱 c bd rfl

/-! ## The operations at a slot, a cell and a column block, from their offsets -/

section At

variable {A B W n k : ℕ} {e : EltTy} {m : Memref sig .tc .vmem ⟨3, ![2, A, B]⟩ e} {sq : (⟨3, ![1, A, B]⟩ : Shape).Squeezes ⟨2, ![A, B]⟩}
  {ms : DmaSems sig ⟨1, ![2]⟩} {sq1 : (⟨1, ![1]⟩ : Shape).Squeezes ⟨0, ![]⟩} {g : Memref sig .tc .hbm ⟨2, ![A, W]⟩ e} {hW : n * B = W} {hn : 0 < n}
  {off : Fin 3 → ℕ} {inb : ∀ a, off a + (![1, A, B] : Fin 3 → ℕ) a ≤ (⟨3, ![2, A, B]⟩ : Shape).size a}
  {offc : Fin 1 → ℕ} {inbc : ∀ a, offc a + (![1] : Fin 1 → ℕ) a ≤ (⟨1, ![2]⟩ : Shape).size a}
  {offb : Fin 2 → ℕ} {inbb : ∀ a, offb a + (![A, B] : Fin 2 → ℕ) a ≤ (⟨2, ![A, W]⟩ : Shape).size a}

theorem start_in (hc : offc = ![k % 2]) (ho : off = ![k % 2, 0, 0]) (hb : offb = ![0, B * (k % n)]) (h0 : 0 < (⟨2, ![A, B]⟩ : Shape).numel)
    {hsrc : (g.slice (Rect.unit (s := ⟨2, ![A, W]⟩) offb ![A, B] inbb) (fun _ => rfl)).view.WordExact}
    {hdst : ((m.slice (Rect.unit (s := ⟨3, ![2, A, B]⟩) off ![1, A, B] inb) (fun _ => rfl)).squeeze ⟨2, ![A, B]⟩ sq).view.WordExact}
    {hsem : DmaTarget.Typed (nD := nD) (p := Proc.tc) .hbm (.dma ((ms.slice (Rect.unit (s := ⟨1, ![2]⟩) offc ![1] inbc)).squeeze ⟨0, ![]⟩ sq1).sem)
      (.here ((m.slice (Rect.unit (s := ⟨3, ![2, A, B]⟩) off ![1, A, B] inb) (fun _ => rfl)).squeeze ⟨2, ![A, B]⟩ sq))}
    {q : PosShare TreeShare} {v w : (⟨2, ![A, B]⟩ : Shape).Idx → Val e} :
    iprop(holds c (blockOf hW hn g k) q v ∗ holds c (slotOf m sq k) fullShare w ∗ semVal ((c : Thread nD τ), SemLoc.dma (cellOf ms sq1 k)) 0 : sProp 𝕄)
      ⊢ wp frame (wpE defs 𝒱 (c : Thread nD τ) bd) Set.univ (Prog.lift (.enqueueDma _ (.here _) (.dma _) hsrc hdst hsem))
          (fun _ => flight c (cellOf ms sq1 k) (slotOf m sq k).view.dmaCredit iprop(holds c (slotOf m sq k) fullShare v ∗ holds c (blockOf hW hn g k) q v)) :=
  wp_start_at 𝒱 c bd (blockOf_eq hb _) (slotOf_eq ho _) (cellOf_eq hc _) h0

theorem wait_in (hc : offc = ![k % 2]) (ho : off = ![k % 2, 0, 0]) {src : Memref sig .tc sp ⟨2, ![A, B]⟩ e} {hsrc : src.view.WordExact}
    {hdst : ((m.slice (Rect.unit (s := ⟨3, ![2, A, B]⟩) off ![1, A, B] inb) (fun _ => rfl)).squeeze ⟨2, ![A, B]⟩ sq).view.WordExact} {D : sProp 𝕄} :
    iprop(flight c (cellOf ms sq1 k) (slotOf m sq k).view.dmaCredit D ∗ (∃ W, owes (c : Thread nD τ) 0 W))
      ⊢ wp frame (wpE defs 𝒱 (c : Thread nD τ) bd) Set.univ
          (Prog.lift (.waitDma2 ((ms.slice (Rect.unit (s := ⟨1, ![2]⟩) offc ![1] inbc)).squeeze ⟨0, ![]⟩ sq1).sem src _ hsrc hdst))
          (fun _ => iprop(D ∗ semVal ((c : Thread nD τ), SemLoc.dma (cellOf ms sq1 k)) 0 ∗ (∃ W, owes (c : Thread nD τ) 0 W))) :=
  wp_finish_at 𝒱 c bd (slotOf_eq ho _) (cellOf_eq hc _)

theorem start_out (hc : offc = ![k % 2]) (ho : off = ![k % 2, 0, 0]) (hb : offb = ![0, B * (k % n)]) (h0 : 0 < (⟨2, ![A, B]⟩ : Shape).numel)
    {hdst : (g.slice (Rect.unit (s := ⟨2, ![A, W]⟩) offb ![A, B] inbb) (fun _ => rfl)).view.WordExact}
    {hsrc : ((m.slice (Rect.unit (s := ⟨3, ![2, A, B]⟩) off ![1, A, B] inb) (fun _ => rfl)).squeeze ⟨2, ![A, B]⟩ sq).view.WordExact}
    {hsem : DmaTarget.Typed (nD := nD) (p := Proc.tc) .vmem (.dma ((ms.slice (Rect.unit (s := ⟨1, ![2]⟩) offc ![1] inbc)).squeeze ⟨0, ![]⟩ sq1).sem)
      (.here (g.slice (Rect.unit (s := ⟨2, ![A, W]⟩) offb ![A, B] inbb) (fun _ => rfl)))}
    {v w : (⟨2, ![A, B]⟩ : Shape).Idx → Val e} :
    iprop(holds c (slotOf m sq k) fullShare v ∗ holds c (blockOf hW hn g k) fullShare w ∗ semVal ((c : Thread nD τ), SemLoc.dma (cellOf ms sq1 k)) 0 : sProp 𝕄)
      ⊢ wp frame (wpE defs 𝒱 (c : Thread nD τ) bd) Set.univ (Prog.lift (.enqueueDma _ (.here _) (.dma _) hsrc hdst hsem))
          (fun _ => flight c (cellOf ms sq1 k) (blockOf hW hn g k).view.dmaCredit iprop(holds c (blockOf hW hn g k) fullShare v ∗ holds c (slotOf m sq k) fullShare v)) :=
  wp_start_at 𝒱 c bd (slotOf_eq ho _) (blockOf_eq hb _) (cellOf_eq hc _) h0

theorem wait_out (hc : offc = ![k % 2]) (hb : offb = ![0, B * (k % n)]) {src : Memref sig .tc sp ⟨2, ![A, B]⟩ e} {hsrc : src.view.WordExact}
    {hdst : (g.slice (Rect.unit (s := ⟨2, ![A, W]⟩) offb ![A, B] inbb) (fun _ => rfl)).view.WordExact} {D : sProp 𝕄} :
    iprop(flight c (cellOf ms sq1 k) (blockOf hW hn g k).view.dmaCredit D ∗ (∃ W, owes (c : Thread nD τ) 0 W))
      ⊢ wp frame (wpE defs 𝒱 (c : Thread nD τ) bd) Set.univ
          (Prog.lift (.waitDma2 ((ms.slice (Rect.unit (s := ⟨1, ![2]⟩) offc ![1] inbc)).squeeze ⟨0, ![]⟩ sq1).sem src _ hsrc hdst))
          (fun _ => iprop(D ∗ semVal ((c : Thread nD τ), SemLoc.dma (cellOf ms sq1 k)) 0 ∗ (∃ W, owes (c : Thread nD τ) 0 W))) :=
  wp_finish_at 𝒱 c bd (blockOf_eq hb _) (cellOf_eq hc _)

theorem load_slot (ho : off = ![k % 2, 0, 0]) {hl : m.view.LoadsAt (Rect.unit (s := ⟨3, ![2, A, B]⟩) off ![1, A, B] inb).toLoadRect}
    {q : PosShare TreeShare} {v : (⟨2, ![A, B]⟩ : Shape).Idx → Val e} :
    (holds c (slotOf m sq k) q v : sProp 𝕄)
      ⊢ wp frame (wpE defs 𝒱 (c : Thread nD τ) bd) Set.univ (Prog.lift (.load m (Rect.unit (s := ⟨3, ![2, A, B]⟩) off ![1, A, B] inb).toLoadRect hl))
          (fun u => iprop(⌜u = expand (s := ⟨3, ![1, A, B]⟩) sq.numel_eq v⌝ ∗ holds c (slotOf m sq k) q v)) :=
  wp_load_slot 𝒱 c bd (fun _ => rfl) sq (slotOf_eq ho _)

theorem store_slot (ho : off = ![k % 2, 0, 0]) {x : (⟨3, ![1, A, B]⟩ : Shape).Idx → Val e}
    {hx : (m.access (Rect.unit (s := ⟨3, ![2, A, B]⟩) off ![1, A, B] inb)).Stores Finset.univ}
    {hm : (Finset.univ : Finset (Rect.unit (s := ⟨3, ![2, A, B]⟩) off ![1, A, B] inb).shape.Idx) = Finset.univ
      ∨ ∀ a, (Rect.unit (s := ⟨3, ![2, A, B]⟩) off ![1, A, B] inb).stride a = 1} {v : (⟨2, ![A, B]⟩ : Shape).Idx → Val e} :
    (holds c (slotOf m sq k) fullShare v : sProp 𝕄)
      ⊢ wp frame (wpE defs 𝒱 (c : Thread nD τ) bd) Set.univ (Prog.lift (.store m (Rect.unit (s := ⟨3, ![2, A, B]⟩) off ![1, A, B] inb) x Finset.univ hx hm))
          (fun _ => holds c (slotOf m sq k) fullShare (drop1 (s := ⟨3, ![1, A, B]⟩) sq.numel_eq x)) :=
  wp_store_slot 𝒱 c bd (fun _ => rfl) sq (slotOf_eq ho _)

end At

section Ways

variable (slot : ℕ → Memref sig .tc .vmem s e) (cell : ℕ → DmaSem sig) (blk : ℕ → Memref sig .tc .hbm s e) (n : ℕ)

/-- A slot free and its cell at zero. -/
def free (k : ℕ) : sProp 𝕄 := iprop(semVal ((c : Thread nD τ), SemLoc.dma (cell k)) 0 ∗ ∃ v, holds c (slot k) fullShare v)

/-- Block `k` on its way into its slot. -/
abbrev coming (q : PosShare TreeShare) (X : ℕ → s.Idx → Val e) (k : ℕ) : sProp 𝕄 :=
  flight c (cell k) (slot k).view.dmaCredit iprop(holds c (slot k) fullShare (X k) ∗ holds c (blk k) q (X k))

/-- The slot of step `k` before the step: a block on its way in, free after the last. -/
def next (q : PosShare TreeShare) (X : ℕ → s.Idx → Val e) (k : ℕ) : sProp 𝕄 :=
  if k < n then coming c slot cell blk q X k else free c slot cell k

/-- The way in before step `k`. -/
def Inward (q : PosShare TreeShare) (X : ℕ → s.Idx → Val e) (k : ℕ) : sProp 𝕄 :=
  iprop(next c slot cell blk n q X k ∗ free c slot cell (k + 1) ∗ bigSep ((Finset.range n).erase k) fun j => holds c (blk j) q (X j))

/-- Block `k` on its way out of its slot. -/
abbrev leaving (Y : ℕ → s.Idx → Val e) (k : ℕ) : sProp 𝕄 :=
  flight c (cell k) (blk k).view.dmaCredit iprop(holds c (blk k) fullShare (Y k) ∗ holds c (slot k) fullShare (Y k))

/-- The slot of the step before `k`: a block on its way out, free before the first. -/
def last (Y : ℕ → s.Idx → Val e) : ℕ → sProp 𝕄
  | 0 => free c slot cell 1
  | k + 1 => leaving c slot cell blk Y k

/-- The way out before step `k`, but for the slot of step `k`. -/
def Outward (Y : ℕ → s.Idx → Val e) (k : ℕ) : sProp 𝕄 :=
  iprop(last c slot cell blk Y k ∗ (bigSep (Finset.range (k - 1)) fun j => holds c (blk j) fullShare (Y j))
    ∗ bigSep (Finset.Ico k n) fun j => iprop(∃ v, holds c (blk j) fullShare v))

variable {slot cell blk n} {q : PosShare TreeShare} {X Y : ℕ → s.Idx → Val e} {k : ℕ}

theorem free_open : (free c slot cell k : sProp 𝕄) ⊢ iprop(semVal ((c : Thread nD τ), SemLoc.dma (cell k)) 0 ∗ ∃ v, holds c (slot k) fullShare v) := by
  unfold free; exact .rfl

theorem outward_open : (Outward c slot cell blk n Y k : sProp 𝕄)
    ⊢ iprop(last c slot cell blk Y k ∗ (bigSep (Finset.range (k - 1)) fun j => holds c (blk j) fullShare (Y j))
        ∗ bigSep (Finset.Ico k n) fun j => iprop(∃ v, holds c (blk j) fullShare v)) := by
  unfold Outward; exact .rfl

theorem outward_close : iprop(leaving c slot cell blk Y k ∗ (bigSep (Finset.range k) fun j => holds c (blk j) fullShare (Y j))
        ∗ bigSep (Finset.Ico (k + 1) n) fun j => iprop(∃ v, holds c (blk j) fullShare v))
    ⊢ (Outward c slot cell blk n Y (k + 1) : sProp 𝕄) := by
  unfold Outward; exact .rfl

/-- The blocks at rest while step `k` has block `k` out and block `k + 1` out. -/
abbrev atRest (blk : ℕ → Memref sig .tc .hbm s e) (n : ℕ) (q : PosShare TreeShare) (X : ℕ → s.Idx → Val e) (k : ℕ) : sProp 𝕄 :=
  bigSep (((Finset.range n).erase k).erase (k + 1)) fun j => holds c (blk j) q (X j)

/-- The start of the next block's transfer in, where there is a next block. -/
theorem inward_start (hk : k < n) {cnd : Prop} [Decidable cnd] (hc : cnd ↔ k + 1 < n) {p : cnd → Prog (TpuEff nD τ sig Val Λ (Proc.tc (τ := τ))) PUnit}
    (hp : ∀ h v, iprop(holds c (blk (k + 1)) q (X (k + 1)) ∗ holds c (slot (k + 1)) fullShare v ∗ semVal ((c : Thread nD τ), SemLoc.dma (cell (k + 1))) 0 : sProp 𝕄)
      ⊢ wp frame (wpE defs 𝒱 (c : Thread nD τ) bd) Set.univ (p h) (fun _ => coming c slot cell blk q X (k + 1))) :
    (Inward c slot cell blk n q X k : sProp 𝕄)
      ⊢ wp frame (wpE defs 𝒱 (c : Thread nD τ) bd) Set.univ (if h : cnd then p h else pure ⟨⟩)
          (fun _ => iprop(coming c slot cell blk q X k ∗ next c slot cell blk n q X (k + 1) ∗ atRest c blk n q X k)) := by
  unfold Inward next atRest
  rw [if_pos hk]
  by_cases h : cnd
  · rw [dif_pos h, if_pos (hc.mp h), bigSep_take (i := k + 1) (s := (Finset.range n).erase k) (by
      have := hc.mp h
      simp only [Finset.mem_erase, Finset.mem_range]; omega)]
    unfold free
    iintro ⟨Hc, ⟨Hs, %v, Hv⟩, Hb, Hr⟩
    iapply (wp_frame_l _ _ _ (R := coming c slot cell blk q X k))
    isplitl [Hc]; · iexact Hc
    iapply (wp_frame_r _ _ _ (R := bigSep (((Finset.range n).erase k).erase (k + 1)) fun j => holds c (blk j) q (X j)))
    isplitr [Hr]
    · iapply (hp h v)
      isplitl [Hb]; · iexact Hb
      isplitl [Hv] <;> iassumption
    · iexact Hr
  · rw [dif_neg h, if_neg (fun hh => h (hc.mpr hh)), Finset.erase_eq_of_notMem (s := (Finset.range n).erase k) (a := k + 1) (by
      have : ¬ k + 1 < n := fun hh => h (hc.mpr hh)
      simp only [Finset.mem_erase, Finset.mem_range]; omega), wp_pure]
    iintro H
    imodintro
    iexact H

/-- The end of block `k`'s transfer in and of its use. -/
theorem inward_close (hk : k < n) (hs : slot (k + 2) = slot k) (hcl : cell (k + 2) = cell k) {v : s.Idx → Val e} :
    iprop(holds c (slot k) fullShare v ∗ holds c (blk k) q (X k) ∗ semVal ((c : Thread nD τ), SemLoc.dma (cell k)) 0
      ∗ next c slot cell blk n q X (k + 1) ∗ atRest c blk n q X k : sProp 𝕄)
      ⊢ Inward c slot cell blk n q X (k + 1) := by
  unfold Inward free atRest
  rw [show k + 1 + 1 = k + 2 from rfl, hs, hcl, bigSep_take (i := k) (s := (Finset.range n).erase (k + 1)) (by
    simp only [Finset.mem_erase, Finset.mem_range]; omega), Finset.erase_right_comm]
  iintro ⟨Hv, Hb, Hs, Hn, Hr⟩
  isplitl [Hn]; · iexact Hn
  isplitl [Hv Hs]
  · isplitl [Hs]; · iexact Hs
    iexists v; iexact Hv
  isplitl [Hb] <;> iassumption

/-- The way in from its first transfer, -/
theorem inward_first (hn : 0 < n) :
    iprop(coming c slot cell blk q X 0 ∗ free c slot cell 1 ∗ bigSep ((Finset.range n).erase 0) fun j => holds c (blk j) q (X j) : sProp 𝕄)
      ⊢ Inward c slot cell blk n q X 0 := by
  unfold Inward next
  rw [if_pos hn]

/-- and after its last. -/
theorem inward_end : (Inward c slot cell blk n q X n : sProp 𝕄)
      ⊢ iprop(free c slot cell n ∗ free c slot cell (n + 1) ∗ bigSep (Finset.range n) fun j => holds c (blk j) q (X j)) := by
  unfold Inward next
  rw [if_neg (Nat.lt_irrefl n), Finset.erase_eq_of_notMem (by simp)]

/-- Block `k` starts on its way out. -/
theorem outward_start (hk : k < n) {p : Prog (TpuEff nD τ sig Val Λ (Proc.tc (τ := τ))) PUnit}
    (hp : ∀ v, iprop(holds c (slot k) fullShare (Y k) ∗ holds c (blk k) fullShare v ∗ semVal ((c : Thread nD τ), SemLoc.dma (cell k)) 0 : sProp 𝕄)
      ⊢ wp frame (wpE defs 𝒱 (c : Thread nD τ) bd) Set.univ p (fun _ => leaving c slot cell blk Y k)) :
    iprop(holds c (slot k) fullShare (Y k) ∗ semVal ((c : Thread nD τ), SemLoc.dma (cell k)) 0
        ∗ bigSep (Finset.Ico k n) fun j => iprop(∃ v, holds c (blk j) fullShare v) : sProp 𝕄)
      ⊢ wp frame (wpE defs 𝒱 (c : Thread nD τ) bd) Set.univ p
          (fun _ => iprop(leaving c slot cell blk Y k ∗ bigSep (Finset.Ico (k + 1) n) fun j => iprop(∃ v, holds c (blk j) fullShare v))) := by
  rw [bigSep_take (i := k) (s := Finset.Ico k n) (by simp [hk]), show (Finset.Ico k n).erase k = Finset.Ico (k + 1) n by ext; simp; omega]
  iintro ⟨Hs, Hc, ⟨%v, Hb⟩, Hr⟩
  iapply (wp_frame_r _ _ _ (R := bigSep (Finset.Ico (k + 1) n) fun j => iprop(∃ v, holds c (blk j) fullShare v)))
  isplitr [Hr]
  · iapply (hp v)
    isplitl [Hs]; · iexact Hs
    isplitl [Hb] <;> iassumption
  · iexact Hr

/-- The wait for the step before's block on its way out, where there was one: the slot of step `k + 1` is free. -/
theorem outward_wait (hs : slot (k + 1) = slot (k - 1) ∨ k = 0) (hcl : cell (k + 1) = cell (k - 1) ∨ k = 0) {cnd : Prop} [Decidable cnd] (hc : cnd ↔ 0 < k)
    {p : cnd → Prog (TpuEff nD τ sig Val Λ (Proc.tc (τ := τ))) PUnit}
    (hp : ∀ h, ∀ D : sProp 𝕄, iprop(flight c (cell (k - 1)) (blk (k - 1)).view.dmaCredit D ∗ (∃ W, owes (c : Thread nD τ) 0 W))
      ⊢ wp frame (wpE defs 𝒱 (c : Thread nD τ) bd) Set.univ (p h)
          (fun _ => iprop(D ∗ semVal ((c : Thread nD τ), SemLoc.dma (cell (k - 1))) 0 ∗ (∃ W, owes (c : Thread nD τ) 0 W)))) :
    iprop(last c slot cell blk Y k ∗ (bigSep (Finset.range (k - 1)) fun j => holds c (blk j) fullShare (Y j)) ∗ (∃ W, owes (c : Thread nD τ) 0 W) : sProp 𝕄)
      ⊢ wp frame (wpE defs 𝒱 (c : Thread nD τ) bd) Set.univ (if h : cnd then p h else pure ⟨⟩)
          (fun _ => iprop(free c slot cell (k + 1) ∗ (bigSep (Finset.range k) fun j => holds c (blk j) fullShare (Y j)) ∗ (∃ W, owes (c : Thread nD τ) 0 W))) := by
  cases k with
  | zero =>
    rw [dif_neg (fun h => absurd (hc.mp h) (lt_irrefl 0)), wp_pure]
    iintro H
    imodintro
    iexact H
  | succ k =>
    have h : cnd := hc.mpr (Nat.succ_pos k)
    rw [dif_pos h]
    replace hs := hs.resolve_right (Nat.succ_ne_zero k)
    replace hcl := hcl.resolve_right (Nat.succ_ne_zero k)
    rw [Nat.add_sub_cancel] at hs hcl
    unfold last leaving free
    rw [hs, hcl, bigSep_take (i := k) (s := Finset.range (k + 1)) (by simp),
      show (Finset.range (k + 1)).erase k = Finset.range k by ext; simp; omega, Nat.add_sub_cancel]
    iintro ⟨Hf, Hd, Ho⟩
    iapply (wp_mono _ _ _ ?_) $$ [Hf Hd Ho]
    rotate_left
    · iapply (wp_frame_r _ _ _ (R := bigSep (Finset.range k) fun j => holds c (blk j) fullShare (Y j)))
      isplitr [Hd]
      · iapply (hp h)
        isplitl [Hf]; · iexact Hf
        iexact Ho
      · iexact Hd
    · intro _
      iintro ⟨⟨⟨Hb, Hv⟩, Hs, Ho⟩, Hd⟩
      isplitl [Hs Hv]
      · isplitl [Hs]; · iexact Hs
        iexists _; iexact Hv
      isplitl [Hb Hd]
      · isplitl [Hb]; · iexact Hb
        iexact Hd
      · iexact Ho

end Ways

section WaysAt

variable {A B W n k : ℕ} {e e' : EltTy} {m : Memref sig .tc .vmem ⟨3, ![2, A, B]⟩ e} {sq : (⟨3, ![1, A, B]⟩ : Shape).Squeezes ⟨2, ![A, B]⟩}
  {ms : DmaSems sig ⟨1, ![2]⟩} {sq1 : (⟨1, ![1]⟩ : Shape).Squeezes ⟨0, ![]⟩} {g : Memref sig .tc .hbm ⟨2, ![A, W]⟩ e} {hW : n * B = W} {hn : 0 < n}
  {cnd : Prop} [Decidable cnd]
  {off : Fin 3 → ℕ} {offc : Fin 1 → ℕ} {offb : Fin 2 → ℕ}
  {q : PosShare TreeShare} {X Y : ℕ → (⟨2, ![A, B]⟩ : Shape).Idx → Val e}

/-- The start of the next block's transfer in, at its offsets. -/
theorem inward_start_at (hk : k < n) (hc : cnd ↔ k + 1 < n) (h0 : 0 < (⟨2, ![A, B]⟩ : Shape).numel)
    (ho : k + 1 < n → offc = ![(k + 1) % 2] ∧ off = ![(k + 1) % 2, 0, 0] ∧ offb = ![0, B * ((k + 1) % n)])
    {inb : cnd → ∀ a, off a + (![1, A, B] : Fin 3 → ℕ) a ≤ (⟨3, ![2, A, B]⟩ : Shape).size a}
    {inbc : cnd → ∀ a, offc a + (![1] : Fin 1 → ℕ) a ≤ (⟨1, ![2]⟩ : Shape).size a}
    {inbb : cnd → ∀ a, offb a + (![A, B] : Fin 2 → ℕ) a ≤ (⟨2, ![A, W]⟩ : Shape).size a}
    {hsrc : ∀ h : cnd, (g.slice (Rect.unit (s := ⟨2, ![A, W]⟩) offb ![A, B] (inbb h)) (fun _ => rfl)).view.WordExact}
    {hdst : ∀ h : cnd, ((m.slice (Rect.unit (s := ⟨3, ![2, A, B]⟩) off ![1, A, B] (inb h)) (fun _ => rfl)).squeeze ⟨2, ![A, B]⟩ sq).view.WordExact}
    {hsem : ∀ h : cnd, DmaTarget.Typed (nD := nD) (p := Proc.tc) .hbm (.dma ((ms.slice (Rect.unit (s := ⟨1, ![2]⟩) offc ![1] (inbc h))).squeeze ⟨0, ![]⟩ sq1).sem)
      (.here ((m.slice (Rect.unit (s := ⟨3, ![2, A, B]⟩) off ![1, A, B] (inb h)) (fun _ => rfl)).squeeze ⟨2, ![A, B]⟩ sq))} :
    (Inward c (slotOf m sq) (cellOf ms sq1) (blockOf hW hn g) n q X k : sProp 𝕄)
      ⊢ wp frame (wpE defs 𝒱 (c : Thread nD τ) bd) Set.univ
          (if h : cnd then Prog.lift (.enqueueDma _ (.here _) (.dma _) (hsrc h) (hdst h) (hsem h)) else pure ⟨⟩)
          (fun _ => iprop(coming c (slotOf m sq) (cellOf ms sq1) (blockOf hW hn g) q X k
            ∗ next c (slotOf m sq) (cellOf ms sq1) (blockOf hW hn g) n q X (k + 1) ∗ atRest c (blockOf hW hn g) n q X k)) :=
  inward_start 𝒱 c bd hk hc fun h v => by
    obtain ⟨h1, h2, h3⟩ := ho (hc.mp h)
    exact start_in 𝒱 c bd h1 h2 h3 h0

/-- Block `k` starts on its way out, at its offsets. -/
theorem outward_start_at (hk : k < n) (h0 : 0 < (⟨2, ![A, B]⟩ : Shape).numel)
    (hc : offc = ![k % 2]) (ho : off = ![k % 2, 0, 0]) (hb : offb = ![0, B * (k % n)])
    {inb : ∀ a, off a + (![1, A, B] : Fin 3 → ℕ) a ≤ (⟨3, ![2, A, B]⟩ : Shape).size a}
    {inbc : ∀ a, offc a + (![1] : Fin 1 → ℕ) a ≤ (⟨1, ![2]⟩ : Shape).size a}
    {inbb : ∀ a, offb a + (![A, B] : Fin 2 → ℕ) a ≤ (⟨2, ![A, W]⟩ : Shape).size a}
    {hdst : (g.slice (Rect.unit (s := ⟨2, ![A, W]⟩) offb ![A, B] inbb) (fun _ => rfl)).view.WordExact}
    {hsrc : ((m.slice (Rect.unit (s := ⟨3, ![2, A, B]⟩) off ![1, A, B] inb) (fun _ => rfl)).squeeze ⟨2, ![A, B]⟩ sq).view.WordExact}
    {hsem : DmaTarget.Typed (nD := nD) (p := Proc.tc) .vmem (.dma ((ms.slice (Rect.unit (s := ⟨1, ![2]⟩) offc ![1] inbc)).squeeze ⟨0, ![]⟩ sq1).sem)
      (.here (g.slice (Rect.unit (s := ⟨2, ![A, W]⟩) offb ![A, B] inbb) (fun _ => rfl)))} :
    iprop(holds c (slotOf m sq k) fullShare (Y k) ∗ semVal ((c : Thread nD τ), SemLoc.dma (cellOf ms sq1 k)) 0
        ∗ bigSep (Finset.Ico k n) fun j => iprop(∃ v, holds c (blockOf hW hn g j) fullShare v) : sProp 𝕄)
      ⊢ wp frame (wpE defs 𝒱 (c : Thread nD τ) bd) Set.univ (Prog.lift (.enqueueDma _ (.here _) (.dma _) hsrc hdst hsem))
          (fun _ => iprop(leaving c (slotOf m sq) (cellOf ms sq1) (blockOf hW hn g) Y k
            ∗ bigSep (Finset.Ico (k + 1) n) fun j => iprop(∃ v, holds c (blockOf hW hn g j) fullShare v))) :=
  outward_start 𝒱 c bd (slot := slotOf m sq) (cell := cellOf ms sq1) (blk := blockOf hW hn g) (Y := Y) hk fun v => start_out 𝒱 c bd hc ho hb h0

/-- The wait for the step before's block, at its offsets. -/
theorem outward_wait_at (hc : cnd ↔ 0 < k)
    (ho : 0 < k → offc = ![(k - 1) % 2] ∧ offb = ![0, B * ((k - 1) % n)])
    {inbc : cnd → ∀ a, offc a + (![1] : Fin 1 → ℕ) a ≤ (⟨1, ![2]⟩ : Shape).size a}
    {inbb : cnd → ∀ a, offb a + (![A, B] : Fin 2 → ℕ) a ≤ (⟨2, ![A, W]⟩ : Shape).size a}
    {src : cnd → Memref sig .tc .vmem ⟨2, ![A, B]⟩ e} {hsrc : ∀ h, (src h).view.WordExact}
    {hdst : ∀ h : cnd, (g.slice (Rect.unit (s := ⟨2, ![A, W]⟩) offb ![A, B] (inbb h)) (fun _ => rfl)).view.WordExact} :
    iprop(last c (slotOf m sq) (cellOf ms sq1) (blockOf hW hn g) Y k
        ∗ (bigSep (Finset.range (k - 1)) fun j => holds c (blockOf hW hn g j) fullShare (Y j)) ∗ (∃ W, owes (c : Thread nD τ) 0 W) : sProp 𝕄)
      ⊢ wp frame (wpE defs 𝒱 (c : Thread nD τ) bd) Set.univ
          (if h : cnd then Prog.lift (.waitDma2 ((ms.slice (Rect.unit (s := ⟨1, ![2]⟩) offc ![1] (inbc h))).squeeze ⟨0, ![]⟩ sq1).sem (src h) _ (hsrc h) (hdst h)) else pure ⟨⟩)
          (fun _ => iprop(free c (slotOf m sq) (cellOf ms sq1) (k + 1)
            ∗ (bigSep (Finset.range k) fun j => holds c (blockOf hW hn g j) fullShare (Y j)) ∗ (∃ W, owes (c : Thread nD τ) 0 W))) :=
  outward_wait 𝒱 c bd (slotOf_back k) (cellOf_back k) hc fun h D => by
    obtain ⟨h1, h2⟩ := ho (hc.mp h)
    exact wait_out 𝒱 c bd h1 h2

end WaysAt

/-! ## Running a program step by step -/

variable {α β : Type}

local notation "𝕎" => wp (M := 𝕄) frame (wpE defs 𝒱 (c : Thread nD τ) bd) Set.univ

/-- A program by its rule, its result handed on. -/
theorem step {p : Prog (TpuEff nD τ sig Val Λ (Proc.tc (τ := τ))) α} {P : sProp 𝕄} {Q R : α → sProp 𝕄} (h : P ⊢ 𝕎 p Q) :
    P ⊢ iprop((∀ a, Q a -∗ R a) -∗ 𝕎 p R) := by
  iintro HP HQ
  iapply (wp_wand_r _ _ _ (Q := Q))
  isplitl [HP]
  · iapply h $$ HP
  · iexact HQ

/-- A step at the head of a program by its rule. -/
theorem bstep {p : Prog (TpuEff nD τ sig Val Λ (Proc.tc (τ := τ))) α} {k : α → Prog (TpuEff nD τ sig Val Λ (Proc.tc (τ := τ))) β}
    {P : sProp 𝕄} {Q : α → sProp 𝕄} {R : β → sProp 𝕄} (h : P ⊢ 𝕎 p Q) :
    P ⊢ iprop((∀ a, Q a -∗ 𝕎 (k a) R) -∗ 𝕎 (p >>= k) R) := by
  rw [wp_bind]
  exact step 𝒱 c bd h

/-- A check at the head of a program. -/
theorem bcheck {P : Prop} {d : Decidable P} (h : P) {k : PLift P → Prog (TpuEff nD τ sig Val Λ (Proc.tc (τ := τ))) β} {R : β → sProp 𝕄} :
    𝕎 (k ⟨h⟩) R ⊢ 𝕎 (Prog.lift (TpuEff.assume P d) >>= k) R := by
  rw [wp_bind]
  iintro H
  iapply (wp_assume 𝒱 (c : Thread nD τ) bd Set.univ (k := .ret) h)
  rw [wp_ret]
  imodintro
  iexact H

/-- A branch at the head of a program, the program going on the same from both sides. -/
theorem dstep {cnd : Prop} [Decidable cnd] {p : cnd → Prog (TpuEff nD τ sig Val Λ (Proc.tc (τ := τ))) PUnit}
    {K : Prog (TpuEff nD τ sig Val Λ (Proc.tc (τ := τ))) β} {P Q : sProp 𝕄} {R : β → sProp 𝕄}
    (h : P ⊢ 𝕎 (if h : cnd then p h else pure ⟨⟩) (fun _ => Q)) :
    P ⊢ iprop((Q -∗ 𝕎 K R) -∗ 𝕎 (if h : cnd then p h >>= fun _ => K else K) R) := by
  have e : (if h : cnd then p h >>= fun _ => K else K) = (if h : cnd then p h else pure ⟨⟩) >>= fun _ => K := by
    by_cases hc : cnd
    · rw [dif_pos hc, dif_pos hc]
    · rw [dif_neg hc, dif_neg hc]; rfl
  rw [e]
  iintro HP HQ
  iapply (bstep 𝒱 c bd h) $$ [HP]
  · iexact HP
  iintro %_
  iexact HQ

/-- The same where the branch is known to be taken. -/
theorem dstep_pos {cnd : Prop} [Decidable cnd] (hc : cnd) {p : cnd → Prog (TpuEff nD τ sig Val Λ (Proc.tc (τ := τ))) PUnit}
    {K : Prog (TpuEff nD τ sig Val Λ (Proc.tc (τ := τ))) β} {P Q : sProp 𝕄} {R : β → sProp 𝕄} (h : P ⊢ 𝕎 (p hc) (fun _ => Q)) :
    P ⊢ iprop((Q -∗ 𝕎 K R) -∗ 𝕎 (if h : cnd then p h >>= fun _ => K else K) R) :=
  dstep 𝒱 c bd (by rw [dif_pos hc]; exact h)

/-- A branch that does nothing. -/
theorem istep {cnd : Prop} [Decidable cnd] {K : Prog (TpuEff nD τ sig Val Λ (Proc.tc (τ := τ))) β} {R : β → sProp 𝕄} :
    𝕎 K R ⊢ 𝕎 (if cnd then K else K) R := by
  rw [ite_self]

section Heads

variable {s : Shape} {e : EltTy} {β : Type} [∀ e, Nonempty (Val e)]

/-- A load of a whole memref at the head of a program, -/
theorem load_whole {cs : CoreSpace} {m : Memref sig .tc cs s e} {off : Fin s.rank → ℕ} (h0 : ∀ a, off a = 0) {inb : ∀ a, off a + s.size a ≤ s.size a}
    {hl : m.view.LoadsAt (Rect.unit (s := s) off s.size inb).toLoadRect} {q : PosShare TreeShare} {v : s.Idx → Val e}
    {k : (s.Idx → Val e) → Prog (TpuEff nD τ sig Val Λ (Proc.tc (τ := τ))) β} {R : β → sProp 𝕄} :
    (holds c m q v : sProp 𝕄) ⊢ iprop((holds c m q v -∗ 𝕎 (k v) R)
      -∗ 𝕎 (Prog.lift (.load m (Rect.unit (s := s) off s.size inb).toLoadRect hl) >>= k) R) := by
  iintro H HK
  iapply (bstep 𝒱 c bd (wp_load_all 𝒱 c bd h0)) $$ [H]
  · iexact H
  iintro %_ ⟨%hv, H⟩
  subst hv
  iapply HK $$ H

/-- a store of one, -/
theorem store_whole {cs : CoreSpace} {m : Memref sig .tc cs s e} {off : Fin s.rank → ℕ} (h0 : ∀ a, off a = 0) {inb : ∀ a, off a + s.size a ≤ s.size a}
    {x : s.Idx → Val e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {v : s.Idx → Val e} {k : PUnit → Prog (TpuEff nD τ sig Val Λ (Proc.tc (τ := τ))) β} {R : β → sProp 𝕄} :
    (holds c m fullShare v : sProp 𝕄) ⊢ iprop((holds c m fullShare x -∗ 𝕎 (k ⟨⟩) R)
      -∗ 𝕎 (Prog.lift (.store m (Rect.unit (s := s) off s.size inb) x Finset.univ hx hm) >>= k) R) := by
  iintro H HK
  iapply (bstep 𝒱 c bd (wp_store_all 𝒱 c bd h0)) $$ [H]
  · iexact H
  iintro %_ H
  iapply HK $$ H

/-- a load of one and a store over it. -/
theorem restore_whole {cs : CoreSpace} {m : Memref sig .tc cs s e} {off off' : Fin s.rank → ℕ} (h0 : ∀ a, off a = 0) (h0' : ∀ a, off' a = 0)
    {inb : ∀ a, off a + s.size a ≤ s.size a} {inb' : ∀ a, off' a + s.size a ≤ s.size a}
    {hl : m.view.LoadsAt (Rect.unit (s := s) off s.size inb).toLoadRect}
    {x : s.Idx → Val e} {hx : (m.access (Rect.unit (s := s) off' s.size inb')).Stores Finset.univ}
    {hm : (Finset.univ : Finset (Rect.unit (s := s) off' s.size inb').shape.Idx) = Finset.univ ∨ ∀ a, (Rect.unit (s := s) off' s.size inb').stride a = 1}
    {k : PUnit → Prog (TpuEff nD τ sig Val Λ (Proc.tc (τ := τ))) β} {R : β → sProp 𝕄} :
    iprop(∃ v, holds c m fullShare v : sProp 𝕄) ⊢ iprop((holds c m fullShare x -∗ 𝕎 (k ⟨⟩) R)
      -∗ 𝕎 (Prog.lift (.load m (Rect.unit (s := s) off s.size inb).toLoadRect hl)
        >>= fun _ => Prog.lift (.store m (Rect.unit (s := s) off' s.size inb') x Finset.univ hx hm) >>= k) R) := by
  iintro ⟨%v, H⟩ HK
  iapply (load_whole 𝒱 c bd h0) $$ H
  iintro H
  iapply (store_whole 𝒱 c bd h0') $$ H
  iexact HK

variable {A B n' : ℕ} {m : Memref sig .tc .vmem ⟨3, ![2, A, B]⟩ e} {sq : (⟨3, ![1, A, B]⟩ : Shape).Squeezes ⟨2, ![A, B]⟩} {off off' : Fin 3 → ℕ}
  {inb : ∀ a, off a + (![1, A, B] : Fin 3 → ℕ) a ≤ (⟨3, ![2, A, B]⟩ : Shape).size a}
  {inb' : ∀ a, off' a + (![1, A, B] : Fin 3 → ℕ) a ≤ (⟨3, ![2, A, B]⟩ : Shape).size a}

/-- A load of a slot at the head of a program, -/
theorem load_ring (ho : off = ![n' % 2, 0, 0]) {hl : m.view.LoadsAt (Rect.unit (s := ⟨3, ![2, A, B]⟩) off ![1, A, B] inb).toLoadRect}
    {q : PosShare TreeShare} {v : (⟨2, ![A, B]⟩ : Shape).Idx → Val e}
    {k : ((⟨3, ![1, A, B]⟩ : Shape).Idx → Val e) → Prog (TpuEff nD τ sig Val Λ (Proc.tc (τ := τ))) β} {R : β → sProp 𝕄} :
    (holds c (slotOf m sq n') q v : sProp 𝕄) ⊢ iprop((holds c (slotOf m sq n') q v -∗ 𝕎 (k (expand (s := ⟨3, ![1, A, B]⟩) sq.numel_eq v)) R)
      -∗ 𝕎 (Prog.lift (.load m (Rect.unit (s := ⟨3, ![2, A, B]⟩) off ![1, A, B] inb).toLoadRect hl) >>= k) R) := by
  iintro H HK
  iapply (bstep 𝒱 c bd (load_slot 𝒱 c bd ho)) $$ [H]
  · iexact H
  iintro %_ ⟨%hv, H⟩
  subst hv
  iapply HK $$ H

/-- and a load of one and a store over it. -/
theorem restore_ring (ho : off = ![n' % 2, 0, 0]) (ho' : off' = ![n' % 2, 0, 0])
    {hl : m.view.LoadsAt (Rect.unit (s := ⟨3, ![2, A, B]⟩) off ![1, A, B] inb).toLoadRect} {x : (⟨3, ![1, A, B]⟩ : Shape).Idx → Val e}
    {hx : (m.access (Rect.unit (s := ⟨3, ![2, A, B]⟩) off' ![1, A, B] inb')).Stores Finset.univ}
    {hm : (Finset.univ : Finset (Rect.unit (s := ⟨3, ![2, A, B]⟩) off' ![1, A, B] inb').shape.Idx) = Finset.univ
      ∨ ∀ a, (Rect.unit (s := ⟨3, ![2, A, B]⟩) off' ![1, A, B] inb').stride a = 1}
    {k : PUnit → Prog (TpuEff nD τ sig Val Λ (Proc.tc (τ := τ))) β} {R : β → sProp 𝕄} :
    iprop(∃ v, holds c (slotOf m sq n') fullShare v : sProp 𝕄)
      ⊢ iprop((holds c (slotOf m sq n') fullShare (drop1 (s := ⟨3, ![1, A, B]⟩) sq.numel_eq x) -∗ 𝕎 (k ⟨⟩) R)
      -∗ 𝕎 (Prog.lift (.load m (Rect.unit (s := ⟨3, ![2, A, B]⟩) off ![1, A, B] inb).toLoadRect hl)
        >>= fun _ => Prog.lift (.store m (Rect.unit (s := ⟨3, ![2, A, B]⟩) off' ![1, A, B] inb') x Finset.univ hx hm) >>= k) R) := by
  iintro ⟨%v, H⟩ HK
  iapply (load_ring 𝒱 c bd ho) $$ H
  iintro H
  iapply (bstep 𝒱 c bd (store_slot 𝒱 c bd ho')) $$ [H]
  · iexact H
  iintro %_ H
  iapply HK $$ H

end Heads

/-! ## A pipeline: a way in and a way out of the same number of steps -/

section Both

variable {A A' B W n k : ℕ} {e e' : EltTy} [∀ e, Nonempty (Val e)]

section Defs

variable (m : Memref sig .tc .vmem ⟨3, ![2, A, B]⟩ e) (sq : (⟨3, ![1, A, B]⟩ : Shape).Squeezes ⟨2, ![A, B]⟩)
  (ms : DmaSems sig ⟨1, ![2]⟩) (sq1 : (⟨1, ![1]⟩ : Shape).Squeezes ⟨0, ![]⟩) (g : Memref sig .tc .hbm ⟨2, ![A, W]⟩ e) (hW : n * B = W) (hn : 0 < n)
  (m' : Memref sig .tc .vmem ⟨3, ![2, A', B]⟩ e') (sq' : (⟨3, ![1, A', B]⟩ : Shape).Squeezes ⟨2, ![A', B]⟩)
  (ms' : DmaSems sig ⟨1, ![2]⟩) (g' : Memref sig .tc .hbm ⟨2, ![A', W]⟩ e')
  (q : PosShare TreeShare) (X : ℕ → (⟨2, ![A, B]⟩ : Shape).Idx → Val e) (Y : ℕ → (⟨2, ![A', B]⟩ : Shape).Idx → Val e') (k : ℕ)

/-- A buffer of two slots with their cells, idle. -/
def ring : sProp 𝕄 :=
  iprop((∃ v, holds c m fullShare v) ∗ semVal ((c : Thread nD τ), SemLoc.dma (cellOf ms sq1 0)) 0 ∗ semVal ((c : Thread nD τ), SemLoc.dma (cellOf ms sq1 1)) 0)

/-- A pipeline before step `k`, -/
def Both : sProp 𝕄 :=
  iprop(Inward c (slotOf m sq) (cellOf ms sq1) (blockOf hW hn g) n q X k ∗ free c (slotOf m' sq') (cellOf ms' sq1) k
    ∗ Outward c (slotOf m' sq') (cellOf ms' sq1) (blockOf hW hn g') n Y k ∗ ∃ W, owes (c : Thread nD τ) 0 W)

/-- with the next block's transfer in started, -/
def Both1 : sProp 𝕄 :=
  iprop((coming c (slotOf m sq) (cellOf ms sq1) (blockOf hW hn g) q X k
      ∗ next c (slotOf m sq) (cellOf ms sq1) (blockOf hW hn g) n q X (k + 1) ∗ atRest c (blockOf hW hn g) n q X k)
    ∗ free c (slotOf m' sq') (cellOf ms' sq1) k
    ∗ Outward c (slotOf m' sq') (cellOf ms' sq1) (blockOf hW hn g') n Y k ∗ ∃ W, owes (c : Thread nD τ) 0 W)

/-- while block `k` is worked on, but for the two slots of the step, -/
def Both2 : sProp 𝕄 :=
  iprop(holds c (blockOf hW hn g k) q (X k) ∗ semVal ((c : Thread nD τ), SemLoc.dma (cellOf ms sq1 k)) 0
    ∗ next c (slotOf m sq) (cellOf ms sq1) (blockOf hW hn g) n q X (k + 1) ∗ atRest c (blockOf hW hn g) n q X k
    ∗ semVal ((c : Thread nD τ), SemLoc.dma (cellOf ms' sq1 k)) 0
    ∗ Outward c (slotOf m' sq') (cellOf ms' sq1) (blockOf hW hn g') n Y k ∗ ∃ W, owes (c : Thread nD τ) 0 W)

/-- and with block `k` on its way out. -/
def Both3 : sProp 𝕄 :=
  iprop(Inward c (slotOf m sq) (cellOf ms sq1) (blockOf hW hn g) n q X (k + 1)
    ∗ (leaving c (slotOf m' sq') (cellOf ms' sq1) (blockOf hW hn g') Y k
      ∗ bigSep (Finset.Ico (k + 1) n) fun j => iprop(∃ v, holds c (blockOf hW hn g' j) fullShare v))
    ∗ last c (slotOf m' sq') (cellOf ms' sq1) (blockOf hW hn g') Y k
    ∗ (bigSep (Finset.range (k - 1)) fun j => holds c (blockOf hW hn g' j) fullShare (Y j)) ∗ ∃ W, owes (c : Thread nD τ) 0 W)

end Defs

variable {m : Memref sig .tc .vmem ⟨3, ![2, A, B]⟩ e} {sq : (⟨3, ![1, A, B]⟩ : Shape).Squeezes ⟨2, ![A, B]⟩}
  {ms : DmaSems sig ⟨1, ![2]⟩} {sq1 : (⟨1, ![1]⟩ : Shape).Squeezes ⟨0, ![]⟩} {g : Memref sig .tc .hbm ⟨2, ![A, W]⟩ e} {hW : n * B = W} {hn : 0 < n}
  {m' : Memref sig .tc .vmem ⟨3, ![2, A', B]⟩ e'} {sq' : (⟨3, ![1, A', B]⟩ : Shape).Squeezes ⟨2, ![A', B]⟩}
  {ms' : DmaSems sig ⟨1, ![2]⟩} {g' : Memref sig .tc .hbm ⟨2, ![A', W]⟩ e'}
  {q : PosShare TreeShare} {X : ℕ → (⟨2, ![A, B]⟩ : Shape).Idx → Val e} {Y : ℕ → (⟨2, ![A', B]⟩ : Shape).Idx → Val e'} {k : ℕ}
  {cnd : Prop} [Decidable cnd] {off : Fin 3 → ℕ} {offc : Fin 1 → ℕ} {offb : Fin 2 → ℕ}

theorem both_in (hk : k < n) (hc : cnd ↔ k + 1 < n) (h0 : 0 < (⟨2, ![A, B]⟩ : Shape).numel)
    (ho : k + 1 < n → offc = ![(k + 1) % 2] ∧ off = ![(k + 1) % 2, 0, 0] ∧ offb = ![0, B * ((k + 1) % n)])
    {inb : cnd → ∀ a, off a + (![1, A, B] : Fin 3 → ℕ) a ≤ (⟨3, ![2, A, B]⟩ : Shape).size a}
    {inbc : cnd → ∀ a, offc a + (![1] : Fin 1 → ℕ) a ≤ (⟨1, ![2]⟩ : Shape).size a}
    {inbb : cnd → ∀ a, offb a + (![A, B] : Fin 2 → ℕ) a ≤ (⟨2, ![A, W]⟩ : Shape).size a}
    {hsrc : ∀ h : cnd, (g.slice (Rect.unit (s := ⟨2, ![A, W]⟩) offb ![A, B] (inbb h)) (fun _ => rfl)).view.WordExact}
    {hdst : ∀ h : cnd, ((m.slice (Rect.unit (s := ⟨3, ![2, A, B]⟩) off ![1, A, B] (inb h)) (fun _ => rfl)).squeeze ⟨2, ![A, B]⟩ sq).view.WordExact}
    {hsem : ∀ h : cnd, DmaTarget.Typed (nD := nD) (p := Proc.tc) .hbm (.dma ((ms.slice (Rect.unit (s := ⟨1, ![2]⟩) offc ![1] (inbc h))).squeeze ⟨0, ![]⟩ sq1).sem)
      (.here ((m.slice (Rect.unit (s := ⟨3, ![2, A, B]⟩) off ![1, A, B] (inb h)) (fun _ => rfl)).squeeze ⟨2, ![A, B]⟩ sq))} :
    (Both c m sq ms sq1 g hW hn m' sq' ms' g' q X Y k : sProp 𝕄)
      ⊢ wp frame (wpE defs 𝒱 (c : Thread nD τ) bd) Set.univ
          (if h : cnd then Prog.lift (.enqueueDma _ (.here _) (.dma _) (hsrc h) (hdst h) (hsem h)) else pure ⟨⟩)
          (fun _ => Both1 c m sq ms sq1 g hW hn m' sq' ms' g' q X Y k) := by
  unfold Both Both1
  iintro ⟨HI, HR⟩
  iapply (wp_frame_r _ _ _)
  isplitl [HI]
  · iapply (inward_start_at 𝒱 c bd hk hc h0 ho) $$ HI
  · iexact HR

theorem both_wait (hc : offc = ![k % 2]) (ho : off = ![k % 2, 0, 0])
    {inb : ∀ a, off a + (![1, A, B] : Fin 3 → ℕ) a ≤ (⟨3, ![2, A, B]⟩ : Shape).size a}
    {inbc : ∀ a, offc a + (![1] : Fin 1 → ℕ) a ≤ (⟨1, ![2]⟩ : Shape).size a}
    {src : Memref sig .tc sp ⟨2, ![A, B]⟩ e} {hsrc : src.view.WordExact}
    {hdst : ((m.slice (Rect.unit (s := ⟨3, ![2, A, B]⟩) off ![1, A, B] inb) (fun _ => rfl)).squeeze ⟨2, ![A, B]⟩ sq).view.WordExact} :
    (Both1 c m sq ms sq1 g hW hn m' sq' ms' g' q X Y k : sProp 𝕄)
      ⊢ wp frame (wpE defs 𝒱 (c : Thread nD τ) bd) Set.univ
          (Prog.lift (.waitDma2 ((ms.slice (Rect.unit (s := ⟨1, ![2]⟩) offc ![1] inbc)).squeeze ⟨0, ![]⟩ sq1).sem src _ hsrc hdst))
          (fun _ => iprop(holds c (slotOf m sq k) fullShare (X k) ∗ (∃ v, holds c (slotOf m' sq' k) fullShare v)
            ∗ Both2 c m sq ms sq1 g hW hn m' sq' ms' g' q X Y k)) := by
  unfold Both1 Both2 free
  iintro ⟨⟨Hc, Hn, Hr⟩, ⟨Hs, Hv⟩, HO, Ho⟩
  iapply (step 𝒱 c bd (wait_in 𝒱 c bd hc ho)) $$ [Hc Ho]
  · isplitl [Hc]; · iexact Hc
    iexact Ho
  iintro %_ ⟨⟨Hx, Hb⟩, Hxs, Ho⟩
  isplitl [Hx]; · iexact Hx
  isplitl [Hv]; · iexact Hv
  isplitl [Hb]; · iexact Hb
  isplitl [Hxs]; · iexact Hxs
  isplitl [Hn]; · iexact Hn
  isplitl [Hr]; · iexact Hr
  isplitl [Hs]; · iexact Hs
  isplitl [HO]; · iexact HO
  iexact Ho

theorem both_out (hk : k < n) (h0 : 0 < (⟨2, ![A', B]⟩ : Shape).numel) {y : (⟨2, ![A', B]⟩ : Shape).Idx → Val e'} (hy : y = Y k)
    (hc : offc = ![k % 2]) (ho : off = ![k % 2, 0, 0]) (hb : offb = ![0, B * (k % n)])
    {inb : ∀ a, off a + (![1, A', B] : Fin 3 → ℕ) a ≤ (⟨3, ![2, A', B]⟩ : Shape).size a}
    {inbc : ∀ a, offc a + (![1] : Fin 1 → ℕ) a ≤ (⟨1, ![2]⟩ : Shape).size a}
    {inbb : ∀ a, offb a + (![A', B] : Fin 2 → ℕ) a ≤ (⟨2, ![A', W]⟩ : Shape).size a}
    {hdst : (g'.slice (Rect.unit (s := ⟨2, ![A', W]⟩) offb ![A', B] inbb) (fun _ => rfl)).view.WordExact}
    {hsrc : ((m'.slice (Rect.unit (s := ⟨3, ![2, A', B]⟩) off ![1, A', B] inb) (fun _ => rfl)).squeeze ⟨2, ![A', B]⟩ sq').view.WordExact}
    {hsem : DmaTarget.Typed (nD := nD) (p := Proc.tc) .vmem (.dma ((ms'.slice (Rect.unit (s := ⟨1, ![2]⟩) offc ![1] inbc)).squeeze ⟨0, ![]⟩ sq1).sem)
      (.here (g'.slice (Rect.unit (s := ⟨2, ![A', W]⟩) offb ![A', B] inbb) (fun _ => rfl)))} :
    iprop(holds c (slotOf m sq k) fullShare (X k) ∗ holds c (slotOf m' sq' k) fullShare y ∗ Both2 c m sq ms sq1 g hW hn m' sq' ms' g' q X Y k : sProp 𝕄)
      ⊢ wp frame (wpE defs 𝒱 (c : Thread nD τ) bd) Set.univ (Prog.lift (.enqueueDma _ (.here _) (.dma _) hsrc hdst hsem))
          (fun _ => Both3 c m sq ms sq1 g hW hn m' sq' ms' g' q X Y k) := by
  subst hy
  unfold Both2 Both3 Outward
  iintro ⟨Hx, Hy, Hb, Hxs, Hn, Hr, Hs, ⟨Hl, Hd, Ht⟩, Ho⟩
  iapply (step 𝒱 c bd (outward_start_at 𝒱 c bd (Y := Y) hk h0 hc ho hb)) $$ [Hy Hs Ht]
  · isplitl [Hy]; · iexact Hy
    isplitl [Hs]; · iexact Hs
    iexact Ht
  iintro %_ HO
  isplitl [Hx Hb Hxs Hn Hr]
  · iapply (inward_close c hk (slotOf_add _) (cellOf_add _)) $$ [Hx Hb Hxs Hn Hr]
    isplitl [Hx]; · iexact Hx
    isplitl [Hb]; · iexact Hb
    isplitl [Hxs]; · iexact Hxs
    isplitl [Hn] <;> iassumption
  isplitl [HO]; · iexact HO
  isplitl [Hl]; · iexact Hl
  isplitl [Hd]; · iexact Hd
  iexact Ho

theorem both_next (hc : cnd ↔ 0 < k) (ho : 0 < k → offc = ![(k - 1) % 2] ∧ offb = ![0, B * ((k - 1) % n)])
    {inbc : cnd → ∀ a, offc a + (![1] : Fin 1 → ℕ) a ≤ (⟨1, ![2]⟩ : Shape).size a}
    {inbb : cnd → ∀ a, offb a + (![A', B] : Fin 2 → ℕ) a ≤ (⟨2, ![A', W]⟩ : Shape).size a}
    {src : cnd → Memref sig .tc .vmem ⟨2, ![A', B]⟩ e'} {hsrc : ∀ h, (src h).view.WordExact}
    {hdst : ∀ h : cnd, (g'.slice (Rect.unit (s := ⟨2, ![A', W]⟩) offb ![A', B] (inbb h)) (fun _ => rfl)).view.WordExact} :
    (Both3 c m sq ms sq1 g hW hn m' sq' ms' g' q X Y k : sProp 𝕄)
      ⊢ wp frame (wpE defs 𝒱 (c : Thread nD τ) bd) Set.univ
          (if h : cnd then Prog.lift (.waitDma2 ((ms'.slice (Rect.unit (s := ⟨1, ![2]⟩) offc ![1] (inbc h))).squeeze ⟨0, ![]⟩ sq1).sem (src h) _ (hsrc h) (hdst h)) else pure ⟨⟩)
          (fun _ => Both c m sq ms sq1 g hW hn m' sq' ms' g' q X Y (k + 1)) := by
  unfold Both3 Both
  iintro ⟨HI, ⟨Hg, Ht⟩, Hl, Hd, Ho⟩
  iapply (step 𝒱 c bd (outward_wait_at 𝒱 c bd hc ho)) $$ [Hl Hd Ho]
  · isplitl [Hl]; · iexact Hl
    isplitl [Hd]; · iexact Hd
    iexact Ho
  iintro %_ ⟨HF, Hd, Ho⟩
  isplitl [HI]; · iexact HI
  isplitl [HF]; · iexact HF
  isplitl [Hg Hd Ht]
  · iapply (outward_close c) $$ [Hg Hd Ht]
    isplitl [Hg]; · iexact Hg
    isplitl [Hd] <;> iassumption
  iexact Ho

theorem ring_open : (ring c m ms sq1 : sProp 𝕄) ⊢ iprop(free c (slotOf m sq) (cellOf ms sq1) 0 ∗ free c (slotOf m sq) (cellOf ms sq1) 1) := by
  unfold ring free
  iintro ⟨Hm, H0, H1⟩
  ihave Hm := (slots_split c sq) $$ Hm
  icases Hm with ⟨Hm0, Hm1⟩
  isplitl [H0 Hm0]
  · isplitl [H0]; · iexact H0
    iexact Hm0
  · isplitl [H1]; · iexact H1
    iexact Hm1

theorem ring_close : iprop(free c (slotOf m sq) (cellOf ms sq1) 0 ∗ free c (slotOf m sq) (cellOf ms sq1) 1) ⊢ (ring c m ms sq1 : sProp 𝕄) := by
  unfold ring free
  iintro ⟨⟨H0, Hm0⟩, ⟨H1, Hm1⟩⟩
  isplitl [Hm0 Hm1]
  · iapply (slots_join c sq) $$ [Hm0 Hm1]
    isplitl [Hm0]; · iexact Hm0
    iexact Hm1
  isplitl [H0]; · iexact H0
  iexact H1

/-- The pipeline's first transfer in. -/
theorem both_first (h0 : 0 < (⟨2, ![A, B]⟩ : Shape).numel) (hc : offc = ![0 % 2]) (ho : off = ![0 % 2, 0, 0]) (hb : offb = ![0, B * (0 % n)])
    {inb : ∀ a, off a + (![1, A, B] : Fin 3 → ℕ) a ≤ (⟨3, ![2, A, B]⟩ : Shape).size a}
    {inbc : ∀ a, offc a + (![1] : Fin 1 → ℕ) a ≤ (⟨1, ![2]⟩ : Shape).size a}
    {inbb : ∀ a, offb a + (![A, B] : Fin 2 → ℕ) a ≤ (⟨2, ![A, W]⟩ : Shape).size a}
    {hsrc : (g.slice (Rect.unit (s := ⟨2, ![A, W]⟩) offb ![A, B] inbb) (fun _ => rfl)).view.WordExact}
    {hdst : ((m.slice (Rect.unit (s := ⟨3, ![2, A, B]⟩) off ![1, A, B] inb) (fun _ => rfl)).squeeze ⟨2, ![A, B]⟩ sq).view.WordExact}
    {hsem : DmaTarget.Typed (nD := nD) (p := Proc.tc) .hbm (.dma ((ms.slice (Rect.unit (s := ⟨1, ![2]⟩) offc ![1] inbc)).squeeze ⟨0, ![]⟩ sq1).sem)
      (.here ((m.slice (Rect.unit (s := ⟨3, ![2, A, B]⟩) off ![1, A, B] inb) (fun _ => rfl)).squeeze ⟨2, ![A, B]⟩ sq))}
    {x : (⟨2, ![A, W]⟩ : Shape).Idx → Val e} :
    iprop(ring c m ms sq1 ∗ ring c m' ms' sq1 ∗ holds c g q x ∗ (∃ v, holds c g' fullShare v) ∗ (∃ W, owes (c : Thread nD τ) 0 W) : sProp 𝕄)
      ⊢ wp frame (wpE defs 𝒱 (c : Thread nD τ) bd) Set.univ (Prog.lift (.enqueueDma _ (.here _) (.dma _) hsrc hdst hsem))
          (fun _ => Both c m sq ms sq1 g hW hn m' sq' ms' g' q (colBlock hW hn x) Y 0) := by
  have he : ∀ j w, (holds c (blockOf hW hn g' j) fullShare w : sProp 𝕄) ⊢ iprop(∃ v, holds c (blockOf hW hn g' j) fullShare v) := fun j w => by
    iintro H
    iexists _; iexact H
  have hm : ∀ w, (bigSep (Finset.range n) (fun j => holds c (blockOf hW hn g' j) fullShare (colBlock hW hn w j)) : sProp 𝕄)
      ⊢ bigSep (Finset.range n) fun j => iprop(∃ v, holds c (blockOf hW hn g' j) fullShare v) := fun w => bigSep_mono fun j _ => he _ _
  iintro ⟨Hr, Hr', Hg, ⟨%w, Hg'⟩, Ho⟩
  ihave Hr := (ring_open c (sq := sq)) $$ Hr
  ihave Hr' := (ring_open c (sq := sq')) $$ Hr'
  ihave Hg := (ent_of_eq ((holds_blocks c hW hn).trans (bigSep_take (i := 0) (Finset.mem_range.mpr hn)))) $$ Hg
  icases Hr with ⟨H0, H1⟩
  icases Hr' with ⟨H0', H1'⟩
  icases Hg with ⟨Hb, Hg⟩
  ihave H0 := (free_open c) $$ H0
  icases H0 with ⟨Hs, %v, Hv⟩
  iapply (step 𝒱 c bd (start_in 𝒱 c bd (hW := hW) (hn := hn) hc ho hb h0)) $$ [Hs Hv Hb]
  · isplitl [Hb]; · iexact Hb
    isplitl [Hv]; · iexact Hv
    iexact Hs
  iintro %_ Hc
  unfold Both Outward last
  isplitl [Hc H1 Hg]
  · iapply (inward_first c hn) $$ [Hc H1 Hg]
    isplitl [Hc]; · iexact Hc
    isplitl [H1]; · iexact H1
    iexact Hg
  isplitl [H0']; · iexact H0'
  isplitr [Ho]
  · isplitl [H1']; · iexact H1'
    isplitr
    · rw [show (0 - 1 : ℕ) = 0 from rfl, Finset.range_zero, bigSep_empty]; iempintro
    rw [show Finset.Ico 0 n = Finset.range n by ext; simp]
    ihave Hg' := (ent_of_eq (holds_blocks c hW hn)) $$ Hg'
    iapply (hm w) $$ Hg'
  · iexact Ho

/-- The pipeline's last wait. -/
theorem both_last (h2 : n % 2 = 0) (hc : offc = ![(n - 1) % 2]) (hb : offb = ![0, B * ((n - 1) % n)])
    {inbc : ∀ a, offc a + (![1] : Fin 1 → ℕ) a ≤ (⟨1, ![2]⟩ : Shape).size a}
    {inbb : ∀ a, offb a + (![A', B] : Fin 2 → ℕ) a ≤ (⟨2, ![A', W]⟩ : Shape).size a}
    {src : Memref sig .tc .vmem ⟨2, ![A', B]⟩ e'} {hsrc : src.view.WordExact}
    {hdst : (g'.slice (Rect.unit (s := ⟨2, ![A', W]⟩) offb ![A', B] inbb) (fun _ => rfl)).view.WordExact}
    {x : (⟨2, ![A, W]⟩ : Shape).Idx → Val e} :
    (Both c m sq ms sq1 g hW hn m' sq' ms' g' q (colBlock hW hn x) Y n : sProp 𝕄)
      ⊢ wp frame (wpE defs 𝒱 (c : Thread nD τ) bd) Set.univ
          (Prog.lift (.waitDma2 ((ms'.slice (Rect.unit (s := ⟨1, ![2]⟩) offc ![1] inbc)).squeeze ⟨0, ![]⟩ sq1).sem src _ hsrc hdst))
          (fun _ => iprop(ring c m ms sq1 ∗ ring c m' ms' sq1 ∗ holds c g q x ∗ holds c g' fullShare (ofBlocks hW hn Y) ∗ (∃ W, owes (c : Thread nD τ) 0 W))) := by
  obtain ⟨j, rfl⟩ : ∃ j, n = j + 2 := ⟨n - 2, by omega⟩
  have s0 : ∀ {A₁ : ℕ} {e₁ : EltTy} (m₁ : Memref sig .tc .vmem ⟨3, ![2, A₁, B]⟩ e₁) (sq₁ : (⟨3, ![1, A₁, B]⟩ : Shape).Squeezes ⟨2, ![A₁, B]⟩), slotOf m₁ sq₁ (j + 2) = slotOf m₁ sq₁ 0 :=
    fun m₁ sq₁ => slotOf_eq (by rw [h2]) _
  have s1 : ∀ {A₁ : ℕ} {e₁ : EltTy} (m₁ : Memref sig .tc .vmem ⟨3, ![2, A₁, B]⟩ e₁) (sq₁ : (⟨3, ![1, A₁, B]⟩ : Shape).Squeezes ⟨2, ![A₁, B]⟩), slotOf m₁ sq₁ (j + 1) = slotOf m₁ sq₁ 1 :=
    fun m₁ sq₁ => slotOf_eq (by rw [show (j + 1) % 2 = 1 % 2 by omega]) _
  have c0 : ∀ ms₁ : DmaSems sig ⟨1, ![2]⟩, cellOf ms₁ sq1 (j + 2) = cellOf ms₁ sq1 0 := fun ms₁ => cellOf_eq (by rw [h2]) _
  have c1 : ∀ ms₁ : DmaSems sig ⟨1, ![2]⟩, cellOf ms₁ sq1 (j + 1) = cellOf ms₁ sq1 1 := fun ms₁ => cellOf_eq (by rw [show (j + 1) % 2 = 1 % 2 by omega]) _
  have hl : (last c (slotOf m' sq') (cellOf ms' sq1) (blockOf hW hn g') Y (j + 2) : sProp 𝕄)
      ⊢ leaving c (slotOf m' sq') (cellOf ms' sq1) (blockOf hW hn g') Y (j + 1) := .rfl
  rw [show j + 2 - 1 = j + 1 from rfl] at hc hb
  unfold Both Outward
  iintro ⟨HI, HF, ⟨Hl, Hd, -⟩, Ho⟩
  ihave Hl := hl $$ Hl
  iapply (step 𝒱 c bd (wait_out 𝒱 c bd (hW := hW) (hn := hn) hc hb)) $$ [Hl Ho]
  · isplitl [Hl]; · iexact Hl
    iexact Ho
  iintro %_ ⟨⟨Hb, Hv⟩, Hs, Ho⟩
  ihave HI := (inward_end c) $$ HI
  icases HI with ⟨Hf0, Hf1, Hg⟩
  isplitl [Hf0 Hf1]
  · iapply (ring_close c (sq := sq))
    unfold free
    rw [s0, c0, show j + 2 + 1 = (j + 1) + 2 from rfl, slotOf_add, cellOf_add, s1, c1]
    isplitl [Hf0]; · iexact Hf0
    iexact Hf1
  isplitl [HF Hv Hs]
  · iapply (ring_close c (sq := sq'))
    unfold free
    rw [s0, c0, s1, c1]
    isplitl [HF]; · iexact HF
    isplitl [Hs]; · iexact Hs
    iexists _; iexact Hv
  isplitl [Hg]
  · iapply (ent_of_eq (holds_blocks c hW hn).symm) $$ Hg
  isplitl [Hb Hd]
  · iapply (ent_of_eq ((holds_ofBlocks c hW hn Y).trans (bigSep_take (i := j + 1) (Finset.mem_range.mpr (by omega)))).symm)
    isplitl [Hb]; · iexact Hb
    rw [show (Finset.range (j + 2)).erase (j + 1) = Finset.range (j + 1) by ext; simp; omega]
    iexact Hd
  iexact Ho

end Both

/-! ## The words a pipeline of `n` steps counts with, before step `k` -/

/-- Blocks started on their way in, used, started out, waited for, and the block itself. -/
def words (n k : ℕ) : BitVec 32 × BitVec 32 × BitVec 32 × BitVec 32 × BitVec 32 :=
  (BitVec.ofNat 32 (min (k + 1) n), BitVec.ofNat 32 k, BitVec.ofNat 32 k, BitVec.ofNat 32 (k - 1), BitVec.ofNat 32 (k % n))

end Cert.Ops
-- ==== Proof.Reg0.lean ====
/-
  The first pipeline: `u1 = Wg1 · x + bg1` over the six blocks of columns, and the row sums of `x`.
-/
module

public import proofs.«01_k».proof.Proof.Pipe
public import proofs.«01_k».proof.Proof.Gen.KernelIdeal.Skeleton

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

theorem trips0 : k0_t1_loop.trips = 6 := by decide +kernel

/-- The checks, branches and offsets of a trip. -/
theorem words0 : ∀ k : Fin k0_t1_loop.trips,
    let w := words 6 k.val
    k0_chk3 w.2.2.1 ∧ k0_chk2 w.2.1 ∧ k0_chk1 k w.1 w.2.1 w.2.2.1 w.2.2.2.1 w.2.2.2.2
    ∧ (k0_cond1 k w.2.2.2.2 = 1#1 ↔ k.val + 1 < 6) ∧ k0_cond2 k w.2.2.2.2 = 1#1 ∧ k0_cond5 k w.2.2.2.2 = 1#1 ∧ (k0_cond7 k w.2.2.2.2 = 1#1 ↔ 0 < k.val)
    ∧ (k.val + 1 < 6 → k0_off3 w.1 = ![(k.val + 1) % 2] ∧ k0_off4 w.1 = ![(k.val + 1) % 2, 0, 0] ∧ k0_off5 w.2.2.2.2 = ![0, 3328 * ((k.val + 1) % 6)])
    ∧ k0_off6 w.2.1 = ![k.val % 2] ∧ k0_off7 w.2.1 = ![k.val % 2, 0, 0]
    ∧ k0_off9 w.2.1 = ![k.val % 2, 0, 0] ∧ k0_off10 w.2.2.1 = ![k.val % 2, 0, 0]
    ∧ k0_off11 w.2.2.1 = ![k.val % 2] ∧ k0_off12 w.2.2.2.2 = ![0, 3328 * (k.val % 6)] ∧ k0_off13 w.2.2.1 = ![k.val % 2, 0, 0]
    ∧ (0 < k.val → k0_off14 w.2.2.2.1 = ![(k.val - 1) % 2] ∧ k0_off15 w.2.2.2.2 = ![0, 3328 * ((k.val - 1) % 6)]) := by
  decide +kernel

/-- Block `k` of the array read, in the shape of a load of its slot. -/
def x0 (x : S1033x19968.Idx → Elt F .f32) (k : ℕ) : S1x1033x3328.Idx → Elt F .f32 :=
  expand (s := S1x1033x3328) squeezes_S1x1033x3328_S1033x3328.numel_eq (colBlock (A := 1033) (B := 3328) (W := 19968) (n := 6) rfl (by decide) x k)

/-- Block `k` of the array written. -/
def y0 (x : S1033x19968.Idx → Elt F .f32) (wg : S1000x1033.Idx → Elt F .bf16) (bg : S1000x1.Idx → Elt F .f32) (k : ℕ) : S1000x3328.Idx → Elt F .bf16 :=
  drop1 (s := S1x1000x3328) squeezes_S1x1000x3328_S1000x3328.numel_eq (k0_pay3 (x0 x k) wg bg)

/-- The row sums over the first `k` blocks, on top of `s`. -/
def s0 (x : S1033x19968.Idx → Elt F .f32) (s : S1033x1.Idx → Elt F .f32) : ℕ → S1033x1.Idx → Elt F .f32
  | 0 => s
  | k + 1 => k0_pay5 (k0_pay4 (x0 x k) (s0 x s k))

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

/-- What is held before trip `k`, with the words carried. -/
def Inv0 (c : Dev nD)
    (arg0 : Memref sig .tc .hbm S1033x19968 .f32) (arg15 : Memref sig .tc .hbm S1000x19968 .bf16) (arg2 : Memref sig .tc .vmem S1000x1033 .bf16) (arg10 :
    Memref sig .tc .vmem S1000x1 .f32) (arg20 : Memref sig .tc .vmem S1033x1 .f32) (alloca_r0 : Memref sig .tc .vmem S2x1033x3328 .f32) (v177_r0 : DmaSems
    sig S2) (alloca_118_r0 : Memref sig .tc .vmem S2x1000x3328 .bf16) (v178_r0 : DmaSems sig S2)
    (q : PosShare TreeShare) (x : S1033x19968.Idx → Elt F .f32) (wg : S1000x1033.Idx → Elt F .bf16) (bg : S1000x1.Idx → Elt F .f32) (s : S1033x1.Idx → Elt
    F .f32)
    (k : ℕ) (a : BitVec 32 × BitVec 32 × BitVec 32 × BitVec 32 × BitVec 32) : sProp 𝕄 :=
  iprop(⌜a = words 6 k⌝
    ∗ Both (A := 1033) (A' := 1000) (B := 3328) (W := 19968) (n := 6) c alloca_r0 squeezes_S1x1033x3328_S1033x3328 v177_r0 squeezes_S1_S_ arg0 rfl (by decide)
      alloca_118_r0 squeezes_S1x1000x3328_S1000x3328 v178_r0 arg15 q (colBlock (A := 1033) (B := 3328) (W := 19968) (n := 6) rfl (by decide) x) (y0 x wg bg) k
    ∗ holds c arg2 fullShare wg ∗ holds c arg10 fullShare bg ∗ holds c arg20 fullShare (s0 x s k))

set_option maxHeartbeats 1000000 in
theorem trip0 {v190 : BitVec 32} {q : PosShare TreeShare} {x : S1033x19968.Idx → Elt F .f32} {wg : S1000x1033.Idx → Elt F .bf16} {bg : S1000x1.Idx → Elt F .f32} {s : S1033x1.Idx → Elt
    F .f32}
    (k : Fin k0_t1_loop.trips) (a : BitVec 32 × BitVec 32 × BitVec 32 × BitVec 32 × BitVec 32) :
    Inv0 c arg0 arg15 arg2 arg10 arg20 alloca_r0 v177_r0 alloca_118_r0 v178_r0 q x wg bg s k.val a
      ⊢ wp frame (wpE defs 𝒱 (c : Thread nD τ) bd) Set.univ
          (k0_t1_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 v190 k a)
          (Inv0 c arg0 arg15 arg2 arg10 arg20 alloca_r0 v177_r0 alloca_118_r0 v178_r0 q x wg bg s (k.val + 1)) := by
  obtain ⟨h3, h2, h1, hc1, hc2, hc5, hc7, hin, o6, o7, o9, o10, o11, o12, o13, hout⟩ := words0 k
  have hk : k.val < 6 := lt_of_lt_of_eq k.isLt trips0
  unfold Inv0
  iintro ⟨%ha, HB, Hwg, Hbg, Hs⟩
  subst ha
  unfold k0_t1_body
  simp only [words] at h3 h2 h1 hc1 hc2 hc5 hc7 hin o6 o7 o9 o10 o11 o12 o13 hout ⊢
  rw [wp_bind, k0_part3_eq_skeleton, k0_part3_skel]
  rw [wp_bind, k0_part1_eq_skeleton, k0_part1_skel]
  iapply (bcheck 𝒱 c bd h3)
  iapply (bcheck 𝒱 c bd h2)
  iapply (bcheck 𝒱 c bd h1)
  iapply (dstep 𝒱 c bd (both_in 𝒱 c bd hk hc1 (by decide) hin)) $$ HB
  iintro HB
  rw [wp_pure]
  imodintro
  dsimp (zeta := false) (zetaHave := false) only
  rw [wp_bind, k0_part2_eq_skeleton, k0_part2_skel]
  iapply (dstep_pos 𝒱 c bd hc2 (both_wait 𝒱 c bd o6 o7)) $$ HB
  iintro ⟨Hx, Hy, HB⟩
  iapply (istep 𝒱 c bd)
  iapply (load_ring 𝒱 c bd o9) $$ Hx
  iintro Hx
  iapply (load_whole 𝒱 c bd (by decide)) $$ Hwg
  iintro Hwg
  iapply (load_whole 𝒱 c bd (by decide)) $$ Hbg
  iintro Hbg
  iapply (restore_ring 𝒱 c bd o10 o10) $$ Hy
  iintro Hy
  iapply (load_whole 𝒱 c bd (by decide)) $$ Hs
  iintro Hs
  rw [wp_pure]
  imodintro
  iapply (load_whole 𝒱 c bd (by decide)) $$ Hs
  iintro Hs
  iapply (store_whole 𝒱 c bd (by decide)) $$ Hs
  iintro Hs
  iapply (istep 𝒱 c bd)
  iapply (dstep_pos 𝒱 c bd hc5 (both_out 𝒱 c bd (Y := y0 x wg bg) hk (by decide) rfl o11 o13 o12)) $$ [Hx Hy HB]
  · isplitl [Hx]; · iexact Hx
    isplitl [Hy]; · iexact Hy
    iexact HB
  iintro HB
  iapply (istep 𝒱 c bd)
  iapply (dstep 𝒱 c bd (both_next 𝒱 c bd hc7 hout)) $$ HB
  iintro HB
  rw [wp_pure]
  imodintro
  rw [wp_pure]
  imodintro
  isplitr
  · ipureintro
    clear * - k
    revert k; decide +kernel
  isplitl [HB]; · iexact HB
  isplitl [Hwg]; · iexact Hwg
  isplitl [Hbg]; · iexact Hbg
  iexact Hs

/-- The trips together. -/
theorem loop0 {v190 : BitVec 32} {q : PosShare TreeShare} {x : S1033x19968.Idx → Elt F .f32} {wg : S1000x1033.Idx → Elt F .bf16} {bg : S1000x1.Idx → Elt F .f32} {s : S1033x1.Idx → Elt
    F .f32} :
    Inv0 c arg0 arg15 arg2 arg10 arg20 alloca_r0 v177_r0 alloca_118_r0 v178_r0 q x wg bg s 0 (words 6 0)
      ⊢ wp frame (wpE defs 𝒱 (c : Thread nD τ) bd) Set.univ
          (Scf.Loop.for k0_t1_loop k0_t1_ok (Scalar.addi 0#32 1#32, 0#32, 0#32, 0#32, 0#32) (k0_t1_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 v190))
          (Inv0 c arg0 arg15 arg2 arg10 arg20 alloca_r0 v177_r0 alloca_118_r0 v178_r0 q x wg bg s 6) := by
  have h := Scf.wp_for frame (wpE defs 𝒱 (c : Thread nD τ) bd) Set.univ _ _ _ k0_t1_ok (Scalar.addi 0#32 1#32, 0#32, 0#32, 0#32, 0#32) _ _
    (trip0 𝒱 c bd (q := q) (v190 := v190) (x := x) (wg := wg) (bg := bg) (s := s)
      (arg0 := arg0) (harg0 := harg0) (arg1 := arg1) (harg1 := harg1) (arg2 := arg2) (harg2 := harg2) (arg3 := arg3) (harg3 := harg3) (arg4 := arg4) (harg4
      := harg4) (arg5 := arg5) (harg5 := harg5) (arg6 := arg6) (harg6 := harg6) (arg7 := arg7) (harg7 := harg7) (arg8 := arg8) (harg8 := harg8) (arg9 :=
      arg9) (harg9 := harg9) (arg10 := arg10) (harg10 := harg10) (arg11 := arg11) (harg11 := harg11) (arg12 := arg12) (harg12 := harg12) (arg13 := arg13)
      (harg13 := harg13) (arg14 := arg14) (harg14 := harg14) (arg15 := arg15) (harg15 := harg15) (arg16 := arg16) (harg16 := harg16) (arg17 := arg17)
      (harg17 := harg17) (arg18 := arg18) (harg18 := harg18) (arg19 := arg19) (harg19 := harg19) (arg20 := arg20) (harg20 := harg20) (arg21 := arg21)
      (harg21 := harg21) (arg22 := arg22) (harg22 := harg22) (arg23 := arg23) (harg23 := harg23) (arg24 := arg24) (harg24 := harg24) (arg25 := arg25)
      (harg25 := harg25) (arg26 := arg26) (harg26 := harg26) (arg27 := arg27) (harg27 := harg27) (arg28 := arg28) (harg28 := harg28) (arg29 := arg29)
      (harg29 := harg29) (arg30 := arg30) (harg30 := harg30) (arg31 := arg31) (harg31 := harg31) (alloca_r0 := alloca_r0) (halloca_r0 := halloca_r0)
      (v177_r0 := v177_r0) (alloca_118_r0 := alloca_118_r0) (halloca_118_r0 := halloca_118_r0) (v178_r0 := v178_r0) (alloca_r1 := alloca_r1) (halloca_r1 :=
      halloca_r1) (v177_r1 := v177_r1) (alloca_118_r1 := alloca_118_r1) (halloca_118_r1 := halloca_118_r1) (v178_r1 := v178_r1) (alloca_r2 := alloca_r2)
      (halloca_r2 := halloca_r2) (v177_r2 := v177_r2) (alloca_118_r2 := alloca_118_r2) (halloca_118_r2 := halloca_118_r2) (v178_r2 := v178_r2) (alloca_r3 :=
      alloca_r3) (halloca_r3 := halloca_r3) (v177_r3 := v177_r3) (alloca_118_r3 := alloca_118_r3) (halloca_118_r3 := halloca_118_r3) (v178_r3 := v178_r3)
      (alloca_r4 := alloca_r4) (halloca_r4 := halloca_r4) (v177_r4 := v177_r4) (alloca_118_r4 := alloca_118_r4) (halloca_118_r4 := halloca_118_r4) (v178_r4
      := v178_r4))
    (Q := Inv0 c arg0 arg15 arg2 arg10 arg20 alloca_r0 v177_r0 alloca_118_r0 v178_r0 q x wg bg s 6)
  refine BIBase.Entails.trans ?_ h
  rw [show words 6 0 = (Scalar.addi 0#32 1#32, 0#32, 0#32, 0#32, 0#32) by decide]
  iintro H
  isplitl [H]; · iexact H
  iintro %a Ha
  iexact Ha

end

end Cert.KernelIdeal
-- ==== Proof.Reg1.lean ====
/-
  The second pipeline: `u2 = Wg2 · elu (u1 - c1) + bg2` over the twelve blocks of columns, and the row sums of `elu (u1 - c1)`.
-/
module

public import proofs.«01_k».proof.Proof.Pipe
public import proofs.«01_k».proof.Proof.Gen.KernelIdeal.Skeleton

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

theorem trips1 : k0_t2_loop.trips = 12 := by decide +kernel

/-- The checks, branches and offsets of a trip. -/
theorem words1 : ∀ k : Fin k0_t2_loop.trips,
    let w := words 12 k.val
    k0_chk8 w.2.2.1 ∧ k0_chk7 w.2.1 ∧ k0_chk6 k w.1 w.2.1 w.2.2.1 w.2.2.2.1 w.2.2.2.2
    ∧ (k0_cond8 k w.2.2.2.2 = 1#1 ↔ k.val + 1 < 12) ∧ k0_cond9 k w.2.2.2.2 = 1#1 ∧ k0_cond12 k w.2.2.2.2 = 1#1 ∧ (k0_cond14 k w.2.2.2.2 = 1#1 ↔ 0 < k.val)
    ∧ (k.val + 1 < 12 → k0_off22 w.1 = ![(k.val + 1) % 2] ∧ k0_off23 w.1 = ![(k.val + 1) % 2, 0, 0] ∧ k0_off24 w.2.2.2.2 = ![0, 1664 * ((k.val + 1) % 12)])
    ∧ k0_off25 w.2.1 = ![k.val % 2] ∧ k0_off26 w.2.1 = ![k.val % 2, 0, 0]
    ∧ k0_off28 w.2.1 = ![k.val % 2, 0, 0] ∧ k0_off29 w.2.2.1 = ![k.val % 2, 0, 0]
    ∧ k0_off30 w.2.2.1 = ![k.val % 2] ∧ k0_off31 w.2.2.2.2 = ![0, 1664 * (k.val % 12)] ∧ k0_off32 w.2.2.1 = ![k.val % 2, 0, 0]
    ∧ (0 < k.val → k0_off33 w.2.2.2.1 = ![(k.val - 1) % 2] ∧ k0_off34 w.2.2.2.2 = ![0, 1664 * ((k.val - 1) % 12)]) := by
  decide +kernel

/-- Block `k` of the array read, in the shape of a load of its slot. -/
def x1 (x : S1000x19968.Idx → Elt F .bf16) (k : ℕ) : S1x1000x1664.Idx → Elt F .bf16 :=
  expand (s := S1x1000x1664) squeezes_S1x1000x1664_S1000x1664.numel_eq (colBlock (A := 1000) (B := 1664) (W := 19968) (n := 12) rfl (by decide) x k)

/-- Block `k` of the array written. -/
def y1 (x : S1000x19968.Idx → Elt F .bf16) (cc : S1000x1.Idx → Elt F .f32) (wg : S600x1000.Idx → Elt F .bf16) (bg : S600x1.Idx → Elt F .f32) (k : ℕ) : S600x1664.Idx → Elt F .bf16 :=
  drop1 (s := S1x600x1664) squeezes_S1x600x1664_S600x1664.numel_eq (k0_pay8 (k0_pay7 (x1 x k) cc wg bg))

/-- The row sums over the first `k` blocks, on top of `s`. -/
def s1 (x : S1000x19968.Idx → Elt F .bf16) (cc : S1000x1.Idx → Elt F .f32) (s : S1000x1.Idx → Elt F .f32) : ℕ → S1000x1.Idx → Elt F .f32
  | 0 => s
  | k + 1 => k0_pay9 (k0_pay6 (x1 x k) cc) (s1 x cc s k)

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

/-- What is held before trip `k`, with the words carried. -/
def Inv1 (c : Dev nD)
    (arg15 : Memref sig .tc .hbm S1000x19968 .bf16) (arg16 : Memref sig .tc .hbm S600x19968 .bf16) (arg24 : Memref sig .tc .vmem S1000x1 .f32) (arg3 :
    Memref sig .tc .vmem S600x1000 .bf16) (arg11 : Memref sig .tc .vmem S600x1 .f32) (arg21 : Memref sig .tc .vmem S1000x1 .f32) (alloca_r1 : Memref sig
    .tc .vmem S2x1000x1664 .bf16) (v177_r1 : DmaSems sig S2) (alloca_118_r1 : Memref sig .tc .vmem S2x600x1664 .bf16) (v178_r1 : DmaSems sig S2)
    (q : PosShare TreeShare) (x : S1000x19968.Idx → Elt F .bf16) (cc : S1000x1.Idx → Elt F .f32) (wg : S600x1000.Idx → Elt F .bf16) (bg : S600x1.Idx → Elt
    F .f32) (s : S1000x1.Idx → Elt F .f32)
    (k : ℕ) (a : BitVec 32 × BitVec 32 × BitVec 32 × BitVec 32 × BitVec 32) : sProp 𝕄 :=
  iprop(⌜a = words 12 k⌝
    ∗ Both (A := 1000) (A' := 600) (B := 1664) (W := 19968) (n := 12) c alloca_r1 squeezes_S1x1000x1664_S1000x1664 v177_r1 squeezes_S1_S_ arg15 rfl (by decide)
      alloca_118_r1 squeezes_S1x600x1664_S600x1664 v178_r1 arg16 q (colBlock (A := 1000) (B := 1664) (W := 19968) (n := 12) rfl (by decide) x) (y1 x cc wg bg) k
    ∗ holds c arg24 fullShare cc ∗ holds c arg3 fullShare wg ∗ holds c arg11 fullShare bg ∗ holds c arg21 fullShare (s1 x cc s k))

set_option maxHeartbeats 1000000 in
theorem trip1 {q : PosShare TreeShare} {x : S1000x19968.Idx → Elt F .bf16} {cc : S1000x1.Idx → Elt F .f32} {wg : S600x1000.Idx → Elt F .bf16} {bg : S600x1.Idx → Elt
    F .f32} {s : S1000x1.Idx → Elt F .f32}
    (k : Fin k0_t2_loop.trips) (a : BitVec 32 × BitVec 32 × BitVec 32 × BitVec 32 × BitVec 32) :
    Inv1 c arg15 arg16 arg24 arg3 arg11 arg21 alloca_r1 v177_r1 alloca_118_r1 v178_r1 q x cc wg bg s k.val a
      ⊢ wp frame (wpE defs 𝒱 (c : Thread nD τ) bd) Set.univ
          (k0_t2_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 k a)
          (Inv1 c arg15 arg16 arg24 arg3 arg11 arg21 alloca_r1 v177_r1 alloca_118_r1 v178_r1 q x cc wg bg s (k.val + 1)) := by
  obtain ⟨h3, h2, h1, hc1, hc2, hc5, hc7, hin, o6, o7, o9, o10, o11, o12, o13, hout⟩ := words1 k
  have hk : k.val < 12 := lt_of_lt_of_eq k.isLt trips1
  unfold Inv1
  iintro ⟨%ha, HB, Hcc, Hwg, Hbg, Hs⟩
  subst ha
  unfold k0_t2_body
  simp only [words] at h3 h2 h1 hc1 hc2 hc5 hc7 hin o6 o7 o9 o10 o11 o12 o13 hout ⊢
  rw [wp_bind, k0_part4_eq_skeleton, k0_part4_skel]
  iapply (bcheck 𝒱 c bd h3)
  iapply (bcheck 𝒱 c bd h2)
  iapply (bcheck 𝒱 c bd h1)
  iapply (dstep 𝒱 c bd (both_in 𝒱 c bd hk hc1 (by decide) hin)) $$ HB
  iintro HB
  rw [wp_pure]
  imodintro
  dsimp (zeta := false) (zetaHave := false) only
  rw [wp_bind, k0_part5_eq_skeleton, k0_part5_skel]
  iapply (dstep_pos 𝒱 c bd hc2 (both_wait 𝒱 c bd o6 o7)) $$ HB
  iintro ⟨Hx, Hy, HB⟩
  iapply (istep 𝒱 c bd)
  iapply (load_ring 𝒱 c bd o9) $$ Hx
  iintro Hx
  iapply (load_whole 𝒱 c bd (by decide)) $$ Hcc
  iintro Hcc
  iapply (load_whole 𝒱 c bd (by decide)) $$ Hwg
  iintro Hwg
  iapply (load_whole 𝒱 c bd (by decide)) $$ Hbg
  iintro Hbg
  rw [wp_pure]
  imodintro
  dsimp (zeta := false) (zetaHave := false) only
  rw [wp_bind, k0_part6_eq_skeleton, k0_part6_skel]
  iapply (restore_ring 𝒱 c bd o10 o10) $$ Hy
  iintro Hy
  iapply (load_whole 𝒱 c bd (by decide)) $$ Hs
  iintro Hs
  iapply (load_whole 𝒱 c bd (by decide)) $$ Hs
  iintro Hs
  iapply (store_whole 𝒱 c bd (by decide)) $$ Hs
  iintro Hs
  iapply (istep 𝒱 c bd)
  iapply (dstep_pos 𝒱 c bd hc5 (both_out 𝒱 c bd (Y := y1 x cc wg bg) hk (by decide) rfl o11 o13 o12)) $$ [Hx Hy HB]
  · isplitl [Hx]; · iexact Hx
    isplitl [Hy]; · iexact Hy
    iexact HB
  iintro HB
  iapply (istep 𝒱 c bd)
  iapply (dstep 𝒱 c bd (both_next 𝒱 c bd hc7 hout)) $$ HB
  iintro HB
  rw [wp_pure]
  imodintro
  rw [wp_pure]
  imodintro
  isplitr
  · ipureintro
    clear * - k
    revert k; decide +kernel
  isplitl [HB]; · iexact HB
  isplitl [Hcc]; · iexact Hcc
  isplitl [Hwg]; · iexact Hwg
  isplitl [Hbg]; · iexact Hbg
  iexact Hs

/-- The trips together. -/
theorem loop1 {q : PosShare TreeShare} {x : S1000x19968.Idx → Elt F .bf16} {cc : S1000x1.Idx → Elt F .f32} {wg : S600x1000.Idx → Elt F .bf16} {bg : S600x1.Idx → Elt
    F .f32} {s : S1000x1.Idx → Elt F .f32} :
    Inv1 c arg15 arg16 arg24 arg3 arg11 arg21 alloca_r1 v177_r1 alloca_118_r1 v178_r1 q x cc wg bg s 0 (words 12 0)
      ⊢ wp frame (wpE defs 𝒱 (c : Thread nD τ) bd) Set.univ
          (Scf.Loop.for k0_t2_loop k0_t2_ok (Scalar.addi 0#32 1#32, 0#32, 0#32, 0#32, 0#32) (k0_t2_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4))
          (Inv1 c arg15 arg16 arg24 arg3 arg11 arg21 alloca_r1 v177_r1 alloca_118_r1 v178_r1 q x cc wg bg s 12) := by
  have h := Scf.wp_for frame (wpE defs 𝒱 (c : Thread nD τ) bd) Set.univ _ _ _ k0_t2_ok (Scalar.addi 0#32 1#32, 0#32, 0#32, 0#32, 0#32) _ _
    (trip1 𝒱 c bd (q := q) (x := x) (cc := cc) (wg := wg) (bg := bg) (s := s)
      (arg0 := arg0) (harg0 := harg0) (arg1 := arg1) (harg1 := harg1) (arg2 := arg2) (harg2 := harg2) (arg3 := arg3) (harg3 := harg3) (arg4 := arg4) (harg4
      := harg4) (arg5 := arg5) (harg5 := harg5) (arg6 := arg6) (harg6 := harg6) (arg7 := arg7) (harg7 := harg7) (arg8 := arg8) (harg8 := harg8) (arg9 :=
      arg9) (harg9 := harg9) (arg10 := arg10) (harg10 := harg10) (arg11 := arg11) (harg11 := harg11) (arg12 := arg12) (harg12 := harg12) (arg13 := arg13)
      (harg13 := harg13) (arg14 := arg14) (harg14 := harg14) (arg15 := arg15) (harg15 := harg15) (arg16 := arg16) (harg16 := harg16) (arg17 := arg17)
      (harg17 := harg17) (arg18 := arg18) (harg18 := harg18) (arg19 := arg19) (harg19 := harg19) (arg20 := arg20) (harg20 := harg20) (arg21 := arg21)
      (harg21 := harg21) (arg22 := arg22) (harg22 := harg22) (arg23 := arg23) (harg23 := harg23) (arg24 := arg24) (harg24 := harg24) (arg25 := arg25)
      (harg25 := harg25) (arg26 := arg26) (harg26 := harg26) (arg27 := arg27) (harg27 := harg27) (arg28 := arg28) (harg28 := harg28) (arg29 := arg29)
      (harg29 := harg29) (arg30 := arg30) (harg30 := harg30) (arg31 := arg31) (harg31 := harg31) (alloca_r0 := alloca_r0) (halloca_r0 := halloca_r0)
      (v177_r0 := v177_r0) (alloca_118_r0 := alloca_118_r0) (halloca_118_r0 := halloca_118_r0) (v178_r0 := v178_r0) (alloca_r1 := alloca_r1) (halloca_r1 :=
      halloca_r1) (v177_r1 := v177_r1) (alloca_118_r1 := alloca_118_r1) (halloca_118_r1 := halloca_118_r1) (v178_r1 := v178_r1) (alloca_r2 := alloca_r2)
      (halloca_r2 := halloca_r2) (v177_r2 := v177_r2) (alloca_118_r2 := alloca_118_r2) (halloca_118_r2 := halloca_118_r2) (v178_r2 := v178_r2) (alloca_r3 :=
      alloca_r3) (halloca_r3 := halloca_r3) (v177_r3 := v177_r3) (alloca_118_r3 := alloca_118_r3) (halloca_118_r3 := halloca_118_r3) (v178_r3 := v178_r3)
      (alloca_r4 := alloca_r4) (halloca_r4 := halloca_r4) (v177_r4 := v177_r4) (alloca_118_r4 := alloca_118_r4) (halloca_118_r4 := halloca_118_r4) (v178_r4
      := v178_r4))
    (Q := Inv1 c arg15 arg16 arg24 arg3 arg11 arg21 alloca_r1 v177_r1 alloca_118_r1 v178_r1 q x cc wg bg s 12)
  refine BIBase.Entails.trans ?_ h
  rw [show words 12 0 = (Scalar.addi 0#32 1#32, 0#32, 0#32, 0#32, 0#32) by decide]
  iintro H
  isplitl [H]; · iexact H
  iintro %a Ha
  iexact Ha

end

end Cert.KernelIdeal
-- ==== Proof.Reg2.lean ====
/-
  The third pipeline: `u3 = Wg3 · elu (u2 - c2) + bg3` over the six blocks of columns, and the row sums of `elu (u2 - c2)`.
-/
module

public import proofs.«01_k».proof.Proof.Pipe
public import proofs.«01_k».proof.Proof.Gen.KernelIdeal.Skeleton

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

theorem trips2 : k0_t3_loop.trips = 6 := by decide +kernel

/-- The checks, branches and offsets of a trip. -/
theorem words2 : ∀ k : Fin k0_t3_loop.trips,
    let w := words 6 k.val
    k0_chk13 w.2.2.1 ∧ k0_chk12 w.2.1 ∧ k0_chk11 k w.1 w.2.1 w.2.2.1 w.2.2.2.1 w.2.2.2.2
    ∧ (k0_cond15 k w.2.2.2.2 = 1#1 ↔ k.val + 1 < 6) ∧ k0_cond16 k w.2.2.2.2 = 1#1 ∧ k0_cond19 k w.2.2.2.2 = 1#1 ∧ (k0_cond21 k w.2.2.2.2 = 1#1 ↔ 0 < k.val)
    ∧ (k.val + 1 < 6 → k0_off41 w.1 = ![(k.val + 1) % 2] ∧ k0_off42 w.1 = ![(k.val + 1) % 2, 0, 0] ∧ k0_off43 w.2.2.2.2 = ![0, 3328 * ((k.val + 1) % 6)])
    ∧ k0_off44 w.2.1 = ![k.val % 2] ∧ k0_off45 w.2.1 = ![k.val % 2, 0, 0]
    ∧ k0_off47 w.2.1 = ![k.val % 2, 0, 0] ∧ k0_off48 w.2.2.1 = ![k.val % 2, 0, 0]
    ∧ k0_off49 w.2.2.1 = ![k.val % 2] ∧ k0_off50 w.2.2.2.2 = ![0, 3328 * (k.val % 6)] ∧ k0_off51 w.2.2.1 = ![k.val % 2, 0, 0]
    ∧ (0 < k.val → k0_off52 w.2.2.2.1 = ![(k.val - 1) % 2] ∧ k0_off53 w.2.2.2.2 = ![0, 3328 * ((k.val - 1) % 6)]) := by
  decide +kernel

/-- Block `k` of the array read, in the shape of a load of its slot. -/
def x2 (x : S600x19968.Idx → Elt F .bf16) (k : ℕ) : S1x600x3328.Idx → Elt F .bf16 :=
  expand (s := S1x600x3328) squeezes_S1x600x3328_S600x3328.numel_eq (colBlock (A := 600) (B := 3328) (W := 19968) (n := 6) rfl (by decide) x k)

/-- Block `k` of the array written. -/
def y2 (x : S600x19968.Idx → Elt F .bf16) (cc : S600x1.Idx → Elt F .f32) (wg : S300x600.Idx → Elt F .bf16) (bg : S300x1.Idx → Elt F .f32) (k : ℕ) : S300x3328.Idx → Elt F .bf16 :=
  drop1 (s := S1x300x3328) squeezes_S1x300x3328_S300x3328.numel_eq (k0_pay12 (k0_pay11 (x2 x k) cc wg bg))

/-- The row sums over the first `k` blocks, on top of `s`. -/
def s2 (x : S600x19968.Idx → Elt F .bf16) (cc : S600x1.Idx → Elt F .f32) (s : S600x1.Idx → Elt F .f32) : ℕ → S600x1.Idx → Elt F .f32
  | 0 => s
  | k + 1 => k0_pay13 (k0_pay10 (x2 x k) cc) (s2 x cc s k)

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

/-- What is held before trip `k`, with the words carried. -/
def Inv2 (c : Dev nD)
    (arg16 : Memref sig .tc .hbm S600x19968 .bf16) (arg17 : Memref sig .tc .hbm S300x19968 .bf16) (arg25 : Memref sig .tc .vmem S600x1 .f32) (arg4 :
    Memref sig .tc .vmem S300x600 .bf16) (arg12 : Memref sig .tc .vmem S300x1 .f32) (arg22 : Memref sig .tc .vmem S600x1 .f32) (alloca_r2 : Memref sig .tc
    .vmem S2x600x3328 .bf16) (v177_r2 : DmaSems sig S2) (alloca_118_r2 : Memref sig .tc .vmem S2x300x3328 .bf16) (v178_r2 : DmaSems sig S2)
    (q : PosShare TreeShare) (x : S600x19968.Idx → Elt F .bf16) (cc : S600x1.Idx → Elt F .f32) (wg : S300x600.Idx → Elt F .bf16) (bg : S300x1.Idx → Elt F
    .f32) (s : S600x1.Idx → Elt F .f32)
    (k : ℕ) (a : BitVec 32 × BitVec 32 × BitVec 32 × BitVec 32 × BitVec 32) : sProp 𝕄 :=
  iprop(⌜a = words 6 k⌝
    ∗ Both (A := 600) (A' := 300) (B := 3328) (W := 19968) (n := 6) c alloca_r2 squeezes_S1x600x3328_S600x3328 v177_r2 squeezes_S1_S_ arg16 rfl (by decide)
      alloca_118_r2 squeezes_S1x300x3328_S300x3328 v178_r2 arg17 q (colBlock (A := 600) (B := 3328) (W := 19968) (n := 6) rfl (by decide) x) (y2 x cc wg bg) k
    ∗ holds c arg25 fullShare cc ∗ holds c arg4 fullShare wg ∗ holds c arg12 fullShare bg ∗ holds c arg22 fullShare (s2 x cc s k))

set_option maxHeartbeats 1000000 in
theorem trip2 {q : PosShare TreeShare} {x : S600x19968.Idx → Elt F .bf16} {cc : S600x1.Idx → Elt F .f32} {wg : S300x600.Idx → Elt F .bf16} {bg : S300x1.Idx → Elt F
    .f32} {s : S600x1.Idx → Elt F .f32}
    (k : Fin k0_t3_loop.trips) (a : BitVec 32 × BitVec 32 × BitVec 32 × BitVec 32 × BitVec 32) :
    Inv2 c arg16 arg17 arg25 arg4 arg12 arg22 alloca_r2 v177_r2 alloca_118_r2 v178_r2 q x cc wg bg s k.val a
      ⊢ wp frame (wpE defs 𝒱 (c : Thread nD τ) bd) Set.univ
          (k0_t3_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 k a)
          (Inv2 c arg16 arg17 arg25 arg4 arg12 arg22 alloca_r2 v177_r2 alloca_118_r2 v178_r2 q x cc wg bg s (k.val + 1)) := by
  obtain ⟨h3, h2, h1, hc1, hc2, hc5, hc7, hin, o6, o7, o9, o10, o11, o12, o13, hout⟩ := words2 k
  have hk : k.val < 6 := lt_of_lt_of_eq k.isLt trips2
  unfold Inv2
  iintro ⟨%ha, HB, Hcc, Hwg, Hbg, Hs⟩
  subst ha
  unfold k0_t3_body
  simp only [words] at h3 h2 h1 hc1 hc2 hc5 hc7 hin o6 o7 o9 o10 o11 o12 o13 hout ⊢
  rw [wp_bind, k0_part7_eq_skeleton, k0_part7_skel]
  iapply (bcheck 𝒱 c bd h3)
  iapply (bcheck 𝒱 c bd h2)
  iapply (bcheck 𝒱 c bd h1)
  iapply (dstep 𝒱 c bd (both_in 𝒱 c bd hk hc1 (by decide) hin)) $$ HB
  iintro HB
  rw [wp_pure]
  imodintro
  dsimp (zeta := false) (zetaHave := false) only
  rw [wp_bind, k0_part8_eq_skeleton, k0_part8_skel]
  iapply (dstep_pos 𝒱 c bd hc2 (both_wait 𝒱 c bd o6 o7)) $$ HB
  iintro ⟨Hx, Hy, HB⟩
  iapply (istep 𝒱 c bd)
  iapply (load_ring 𝒱 c bd o9) $$ Hx
  iintro Hx
  iapply (load_whole 𝒱 c bd (by decide)) $$ Hcc
  iintro Hcc
  iapply (load_whole 𝒱 c bd (by decide)) $$ Hwg
  iintro Hwg
  iapply (load_whole 𝒱 c bd (by decide)) $$ Hbg
  iintro Hbg
  rw [wp_pure]
  imodintro
  dsimp (zeta := false) (zetaHave := false) only
  rw [wp_bind, k0_part9_eq_skeleton, k0_part9_skel]
  iapply (restore_ring 𝒱 c bd o10 o10) $$ Hy
  iintro Hy
  iapply (load_whole 𝒱 c bd (by decide)) $$ Hs
  iintro Hs
  iapply (load_whole 𝒱 c bd (by decide)) $$ Hs
  iintro Hs
  iapply (store_whole 𝒱 c bd (by decide)) $$ Hs
  iintro Hs
  iapply (istep 𝒱 c bd)
  iapply (dstep_pos 𝒱 c bd hc5 (both_out 𝒱 c bd (Y := y2 x cc wg bg) hk (by decide) rfl o11 o13 o12)) $$ [Hx Hy HB]
  · isplitl [Hx]; · iexact Hx
    isplitl [Hy]; · iexact Hy
    iexact HB
  iintro HB
  iapply (istep 𝒱 c bd)
  iapply (dstep 𝒱 c bd (both_next 𝒱 c bd hc7 hout)) $$ HB
  iintro HB
  rw [wp_pure]
  imodintro
  rw [wp_pure]
  imodintro
  isplitr
  · ipureintro
    clear * - k
    revert k; decide +kernel
  isplitl [HB]; · iexact HB
  isplitl [Hcc]; · iexact Hcc
  isplitl [Hwg]; · iexact Hwg
  isplitl [Hbg]; · iexact Hbg
  iexact Hs

/-- The trips together. -/
theorem loop2 {q : PosShare TreeShare} {x : S600x19968.Idx → Elt F .bf16} {cc : S600x1.Idx → Elt F .f32} {wg : S300x600.Idx → Elt F .bf16} {bg : S300x1.Idx → Elt F
    .f32} {s : S600x1.Idx → Elt F .f32} :
    Inv2 c arg16 arg17 arg25 arg4 arg12 arg22 alloca_r2 v177_r2 alloca_118_r2 v178_r2 q x cc wg bg s 0 (words 6 0)
      ⊢ wp frame (wpE defs 𝒱 (c : Thread nD τ) bd) Set.univ
          (Scf.Loop.for k0_t3_loop k0_t3_ok (Scalar.addi 0#32 1#32, 0#32, 0#32, 0#32, 0#32) (k0_t3_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4))
          (Inv2 c arg16 arg17 arg25 arg4 arg12 arg22 alloca_r2 v177_r2 alloca_118_r2 v178_r2 q x cc wg bg s 6) := by
  have h := Scf.wp_for frame (wpE defs 𝒱 (c : Thread nD τ) bd) Set.univ _ _ _ k0_t3_ok (Scalar.addi 0#32 1#32, 0#32, 0#32, 0#32, 0#32) _ _
    (trip2 𝒱 c bd (q := q) (x := x) (cc := cc) (wg := wg) (bg := bg) (s := s)
      (arg0 := arg0) (harg0 := harg0) (arg1 := arg1) (harg1 := harg1) (arg2 := arg2) (harg2 := harg2) (arg3 := arg3) (harg3 := harg3) (arg4 := arg4) (harg4
      := harg4) (arg5 := arg5) (harg5 := harg5) (arg6 := arg6) (harg6 := harg6) (arg7 := arg7) (harg7 := harg7) (arg8 := arg8) (harg8 := harg8) (arg9 :=
      arg9) (harg9 := harg9) (arg10 := arg10) (harg10 := harg10) (arg11 := arg11) (harg11 := harg11) (arg12 := arg12) (harg12 := harg12) (arg13 := arg13)
      (harg13 := harg13) (arg14 := arg14) (harg14 := harg14) (arg15 := arg15) (harg15 := harg15) (arg16 := arg16) (harg16 := harg16) (arg17 := arg17)
      (harg17 := harg17) (arg18 := arg18) (harg18 := harg18) (arg19 := arg19) (harg19 := harg19) (arg20 := arg20) (harg20 := harg20) (arg21 := arg21)
      (harg21 := harg21) (arg22 := arg22) (harg22 := harg22) (arg23 := arg23) (harg23 := harg23) (arg24 := arg24) (harg24 := harg24) (arg25 := arg25)
      (harg25 := harg25) (arg26 := arg26) (harg26 := harg26) (arg27 := arg27) (harg27 := harg27) (arg28 := arg28) (harg28 := harg28) (arg29 := arg29)
      (harg29 := harg29) (arg30 := arg30) (harg30 := harg30) (arg31 := arg31) (harg31 := harg31) (alloca_r0 := alloca_r0) (halloca_r0 := halloca_r0)
      (v177_r0 := v177_r0) (alloca_118_r0 := alloca_118_r0) (halloca_118_r0 := halloca_118_r0) (v178_r0 := v178_r0) (alloca_r1 := alloca_r1) (halloca_r1 :=
      halloca_r1) (v177_r1 := v177_r1) (alloca_118_r1 := alloca_118_r1) (halloca_118_r1 := halloca_118_r1) (v178_r1 := v178_r1) (alloca_r2 := alloca_r2)
      (halloca_r2 := halloca_r2) (v177_r2 := v177_r2) (alloca_118_r2 := alloca_118_r2) (halloca_118_r2 := halloca_118_r2) (v178_r2 := v178_r2) (alloca_r3 :=
      alloca_r3) (halloca_r3 := halloca_r3) (v177_r3 := v177_r3) (alloca_118_r3 := alloca_118_r3) (halloca_118_r3 := halloca_118_r3) (v178_r3 := v178_r3)
      (alloca_r4 := alloca_r4) (halloca_r4 := halloca_r4) (v177_r4 := v177_r4) (alloca_118_r4 := alloca_118_r4) (halloca_118_r4 := halloca_118_r4) (v178_r4
      := v178_r4))
    (Q := Inv2 c arg16 arg17 arg25 arg4 arg12 arg22 alloca_r2 v177_r2 alloca_118_r2 v178_r2 q x cc wg bg s 6)
  refine BIBase.Entails.trans ?_ h
  rw [show words 6 0 = (Scalar.addi 0#32 1#32, 0#32, 0#32, 0#32, 0#32) by decide]
  iintro H
  isplitl [H]; · iexact H
  iintro %a Ha
  iexact Ha

end

end Cert.KernelIdeal
-- ==== Proof.Reg3.lean ====
/-
  The fourth pipeline: `u4 = Wg4 · elu (u3 - c3) + bg4` over the six blocks of columns, and the row sums of `elu (u3 - c3)`.
-/
module

public import proofs.«01_k».proof.Proof.Pipe
public import proofs.«01_k».proof.Proof.Gen.KernelIdeal.Skeleton

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

theorem trips3 : k0_t4_loop.trips = 6 := by decide +kernel

/-- The checks, branches and offsets of a trip. -/
theorem words3 : ∀ k : Fin k0_t4_loop.trips,
    let w := words 6 k.val
    k0_chk18 w.2.2.1 ∧ k0_chk17 w.2.1 ∧ k0_chk16 k w.1 w.2.1 w.2.2.1 w.2.2.2.1 w.2.2.2.2
    ∧ (k0_cond22 k w.2.2.2.2 = 1#1 ↔ k.val + 1 < 6) ∧ k0_cond23 k w.2.2.2.2 = 1#1 ∧ k0_cond26 k w.2.2.2.2 = 1#1 ∧ (k0_cond28 k w.2.2.2.2 = 1#1 ↔ 0 < k.val)
    ∧ (k.val + 1 < 6 → k0_off60 w.1 = ![(k.val + 1) % 2] ∧ k0_off61 w.1 = ![(k.val + 1) % 2, 0, 0] ∧ k0_off62 w.2.2.2.2 = ![0, 3328 * ((k.val + 1) % 6)])
    ∧ k0_off63 w.2.1 = ![k.val % 2] ∧ k0_off64 w.2.1 = ![k.val % 2, 0, 0]
    ∧ k0_off66 w.2.1 = ![k.val % 2, 0, 0] ∧ k0_off67 w.2.2.1 = ![k.val % 2, 0, 0]
    ∧ k0_off68 w.2.2.1 = ![k.val % 2] ∧ k0_off69 w.2.2.2.2 = ![0, 3328 * (k.val % 6)] ∧ k0_off70 w.2.2.1 = ![k.val % 2, 0, 0]
    ∧ (0 < k.val → k0_off71 w.2.2.2.1 = ![(k.val - 1) % 2] ∧ k0_off72 w.2.2.2.2 = ![0, 3328 * ((k.val - 1) % 6)]) := by
  decide +kernel

/-- Block `k` of the array read, in the shape of a load of its slot. -/
def x3 (x : S300x19968.Idx → Elt F .bf16) (k : ℕ) : S1x300x3328.Idx → Elt F .bf16 :=
  expand (s := S1x300x3328) squeezes_S1x300x3328_S300x3328.numel_eq (colBlock (A := 300) (B := 3328) (W := 19968) (n := 6) rfl (by decide) x k)

/-- Block `k` of the array written. -/
def y3 (x : S300x19968.Idx → Elt F .bf16) (cc : S300x1.Idx → Elt F .f32) (wg : S1x300.Idx → Elt F .bf16) (bg : S1x1.Idx → Elt F .f32) (k : ℕ) : S1x3328.Idx → Elt F .f32 :=
  drop1 (s := S1x1x3328) squeezes_S1x1x3328_S1x3328.numel_eq (k0_pay16 (k0_pay15 (x3 x k) cc wg bg))

/-- The row sums over the first `k` blocks, on top of `s`. -/
def s3 (x : S300x19968.Idx → Elt F .bf16) (cc : S300x1.Idx → Elt F .f32) (s : S300x1.Idx → Elt F .f32) : ℕ → S300x1.Idx → Elt F .f32
  | 0 => s
  | k + 1 => k0_pay17 (k0_pay14 (x3 x k) cc) (s3 x cc s k)

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

/-- What is held before trip `k`, with the words carried. -/
def Inv3 (c : Dev nD)
    (arg17 : Memref sig .tc .hbm S300x19968 .bf16) (arg18 : Memref sig .tc .hbm S1x19968 .f32) (arg26 : Memref sig .tc .vmem S300x1 .f32) (arg5 : Memref
    sig .tc .vmem S1x300 .bf16) (arg13 : Memref sig .tc .vmem S1x1 .f32) (arg23 : Memref sig .tc .vmem S300x1 .f32) (alloca_r3 : Memref sig .tc .vmem
    S2x300x3328 .bf16) (v177_r3 : DmaSems sig S2) (alloca_118_r3 : Memref sig .tc .vmem S2x1x3328 .f32) (v178_r3 : DmaSems sig S2)
    (q : PosShare TreeShare) (x : S300x19968.Idx → Elt F .bf16) (cc : S300x1.Idx → Elt F .f32) (wg : S1x300.Idx → Elt F .bf16) (bg : S1x1.Idx → Elt F
    .f32) (s : S300x1.Idx → Elt F .f32)
    (k : ℕ) (a : BitVec 32 × BitVec 32 × BitVec 32 × BitVec 32 × BitVec 32) : sProp 𝕄 :=
  iprop(⌜a = words 6 k⌝
    ∗ Both (A := 300) (A' := 1) (B := 3328) (W := 19968) (n := 6) c alloca_r3 squeezes_S1x300x3328_S300x3328 v177_r3 squeezes_S1_S_ arg17 rfl (by decide)
      alloca_118_r3 squeezes_S1x1x3328_S1x3328 v178_r3 arg18 q (colBlock (A := 300) (B := 3328) (W := 19968) (n := 6) rfl (by decide) x) (y3 x cc wg bg) k
    ∗ holds c arg26 fullShare cc ∗ holds c arg5 fullShare wg ∗ holds c arg13 fullShare bg ∗ holds c arg23 fullShare (s3 x cc s k))

set_option maxHeartbeats 1000000 in
theorem trip3 {q : PosShare TreeShare} {x : S300x19968.Idx → Elt F .bf16} {cc : S300x1.Idx → Elt F .f32} {wg : S1x300.Idx → Elt F .bf16} {bg : S1x1.Idx → Elt F
    .f32} {s : S300x1.Idx → Elt F .f32}
    (k : Fin k0_t4_loop.trips) (a : BitVec 32 × BitVec 32 × BitVec 32 × BitVec 32 × BitVec 32) :
    Inv3 c arg17 arg18 arg26 arg5 arg13 arg23 alloca_r3 v177_r3 alloca_118_r3 v178_r3 q x cc wg bg s k.val a
      ⊢ wp frame (wpE defs 𝒱 (c : Thread nD τ) bd) Set.univ
          (k0_t4_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 k a)
          (Inv3 c arg17 arg18 arg26 arg5 arg13 arg23 alloca_r3 v177_r3 alloca_118_r3 v178_r3 q x cc wg bg s (k.val + 1)) := by
  obtain ⟨h3, h2, h1, hc1, hc2, hc5, hc7, hin, o6, o7, o9, o10, o11, o12, o13, hout⟩ := words3 k
  have hk : k.val < 6 := lt_of_lt_of_eq k.isLt trips3
  unfold Inv3
  iintro ⟨%ha, HB, Hcc, Hwg, Hbg, Hs⟩
  subst ha
  unfold k0_t4_body
  simp only [words] at h3 h2 h1 hc1 hc2 hc5 hc7 hin o6 o7 o9 o10 o11 o12 o13 hout ⊢
  rw [wp_bind, k0_part10_eq_skeleton, k0_part10_skel]
  iapply (bcheck 𝒱 c bd h3)
  iapply (bcheck 𝒱 c bd h2)
  iapply (bcheck 𝒱 c bd h1)
  iapply (dstep 𝒱 c bd (both_in 𝒱 c bd hk hc1 (by decide) hin)) $$ HB
  iintro HB
  rw [wp_pure]
  imodintro
  dsimp (zeta := false) (zetaHave := false) only
  rw [wp_bind, k0_part11_eq_skeleton, k0_part11_skel]
  iapply (dstep_pos 𝒱 c bd hc2 (both_wait 𝒱 c bd o6 o7)) $$ HB
  iintro ⟨Hx, Hy, HB⟩
  iapply (istep 𝒱 c bd)
  iapply (load_ring 𝒱 c bd o9) $$ Hx
  iintro Hx
  iapply (load_whole 𝒱 c bd (by decide)) $$ Hcc
  iintro Hcc
  iapply (load_whole 𝒱 c bd (by decide)) $$ Hwg
  iintro Hwg
  iapply (load_whole 𝒱 c bd (by decide)) $$ Hbg
  iintro Hbg
  rw [wp_pure]
  imodintro
  dsimp (zeta := false) (zetaHave := false) only
  rw [wp_bind, k0_part12_eq_skeleton, k0_part12_skel]
  iapply (restore_ring 𝒱 c bd o10 o10) $$ Hy
  iintro Hy
  iapply (load_whole 𝒱 c bd (by decide)) $$ Hs
  iintro Hs
  iapply (load_whole 𝒱 c bd (by decide)) $$ Hs
  iintro Hs
  iapply (store_whole 𝒱 c bd (by decide)) $$ Hs
  iintro Hs
  iapply (istep 𝒱 c bd)
  iapply (dstep_pos 𝒱 c bd hc5 (both_out 𝒱 c bd (Y := y3 x cc wg bg) hk (by decide) rfl o11 o13 o12)) $$ [Hx Hy HB]
  · isplitl [Hx]; · iexact Hx
    isplitl [Hy]; · iexact Hy
    iexact HB
  iintro HB
  iapply (istep 𝒱 c bd)
  iapply (dstep 𝒱 c bd (both_next 𝒱 c bd hc7 hout)) $$ HB
  iintro HB
  rw [wp_pure]
  imodintro
  rw [wp_pure]
  imodintro
  isplitr
  · ipureintro
    clear * - k
    revert k; decide +kernel
  isplitl [HB]; · iexact HB
  isplitl [Hcc]; · iexact Hcc
  isplitl [Hwg]; · iexact Hwg
  isplitl [Hbg]; · iexact Hbg
  iexact Hs

/-- The trips together. -/
theorem loop3 {q : PosShare TreeShare} {x : S300x19968.Idx → Elt F .bf16} {cc : S300x1.Idx → Elt F .f32} {wg : S1x300.Idx → Elt F .bf16} {bg : S1x1.Idx → Elt F
    .f32} {s : S300x1.Idx → Elt F .f32} :
    Inv3 c arg17 arg18 arg26 arg5 arg13 arg23 alloca_r3 v177_r3 alloca_118_r3 v178_r3 q x cc wg bg s 0 (words 6 0)
      ⊢ wp frame (wpE defs 𝒱 (c : Thread nD τ) bd) Set.univ
          (Scf.Loop.for k0_t4_loop k0_t4_ok (Scalar.addi 0#32 1#32, 0#32, 0#32, 0#32, 0#32) (k0_t4_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4))
          (Inv3 c arg17 arg18 arg26 arg5 arg13 arg23 alloca_r3 v177_r3 alloca_118_r3 v178_r3 q x cc wg bg s 6) := by
  have h := Scf.wp_for frame (wpE defs 𝒱 (c : Thread nD τ) bd) Set.univ _ _ _ k0_t4_ok (Scalar.addi 0#32 1#32, 0#32, 0#32, 0#32, 0#32) _ _
    (trip3 𝒱 c bd (q := q) (x := x) (cc := cc) (wg := wg) (bg := bg) (s := s)
      (arg0 := arg0) (harg0 := harg0) (arg1 := arg1) (harg1 := harg1) (arg2 := arg2) (harg2 := harg2) (arg3 := arg3) (harg3 := harg3) (arg4 := arg4) (harg4
      := harg4) (arg5 := arg5) (harg5 := harg5) (arg6 := arg6) (harg6 := harg6) (arg7 := arg7) (harg7 := harg7) (arg8 := arg8) (harg8 := harg8) (arg9 :=
      arg9) (harg9 := harg9) (arg10 := arg10) (harg10 := harg10) (arg11 := arg11) (harg11 := harg11) (arg12 := arg12) (harg12 := harg12) (arg13 := arg13)
      (harg13 := harg13) (arg14 := arg14) (harg14 := harg14) (arg15 := arg15) (harg15 := harg15) (arg16 := arg16) (harg16 := harg16) (arg17 := arg17)
      (harg17 := harg17) (arg18 := arg18) (harg18 := harg18) (arg19 := arg19) (harg19 := harg19) (arg20 := arg20) (harg20 := harg20) (arg21 := arg21)
      (harg21 := harg21) (arg22 := arg22) (harg22 := harg22) (arg23 := arg23) (harg23 := harg23) (arg24 := arg24) (harg24 := harg24) (arg25 := arg25)
      (harg25 := harg25) (arg26 := arg26) (harg26 := harg26) (arg27 := arg27) (harg27 := harg27) (arg28 := arg28) (harg28 := harg28) (arg29 := arg29)
      (harg29 := harg29) (arg30 := arg30) (harg30 := harg30) (arg31 := arg31) (harg31 := harg31) (alloca_r0 := alloca_r0) (halloca_r0 := halloca_r0)
      (v177_r0 := v177_r0) (alloca_118_r0 := alloca_118_r0) (halloca_118_r0 := halloca_118_r0) (v178_r0 := v178_r0) (alloca_r1 := alloca_r1) (halloca_r1 :=
      halloca_r1) (v177_r1 := v177_r1) (alloca_118_r1 := alloca_118_r1) (halloca_118_r1 := halloca_118_r1) (v178_r1 := v178_r1) (alloca_r2 := alloca_r2)
      (halloca_r2 := halloca_r2) (v177_r2 := v177_r2) (alloca_118_r2 := alloca_118_r2) (halloca_118_r2 := halloca_118_r2) (v178_r2 := v178_r2) (alloca_r3 :=
      alloca_r3) (halloca_r3 := halloca_r3) (v177_r3 := v177_r3) (alloca_118_r3 := alloca_118_r3) (halloca_118_r3 := halloca_118_r3) (v178_r3 := v178_r3)
      (alloca_r4 := alloca_r4) (halloca_r4 := halloca_r4) (v177_r4 := v177_r4) (alloca_118_r4 := alloca_118_r4) (halloca_118_r4 := halloca_118_r4) (v178_r4
      := v178_r4))
    (Q := Inv3 c arg17 arg18 arg26 arg5 arg13 arg23 alloca_r3 v177_r3 alloca_118_r3 v178_r3 q x cc wg bg s 6)
  refine BIBase.Entails.trans ?_ h
  rw [show words 6 0 = (Scalar.addi 0#32 1#32, 0#32, 0#32, 0#32, 0#32) by decide]
  iintro H
  isplitl [H]; · iexact H
  iintro %a Ha
  iexact Ha

end

end Cert.KernelIdeal
-- ==== Proof.Reg4.lean ====
/-
  The last pipeline: `elu (u4 - c4)` over the six blocks of columns.
-/
module

public import proofs.«01_k».proof.Proof.Pipe
public import proofs.«01_k».proof.Proof.Gen.KernelIdeal.Skeleton

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

theorem trips4 : k0_t5_loop.trips = 6 := by decide +kernel

/-- The checks, branches and offsets of a trip. -/
theorem words4 : ∀ k : Fin k0_t5_loop.trips,
    let w := words 6 k.val
    k0_chk23 w.2.2.1 ∧ k0_chk22 w.2.1 ∧ k0_chk21 k w.1 w.2.1 w.2.2.1 w.2.2.2.1 w.2.2.2.2
    ∧ (k0_cond29 k w.2.2.2.2 = 1#1 ↔ k.val + 1 < 6) ∧ k0_cond30 k w.2.2.2.2 = 1#1 ∧ k0_cond33 k w.2.2.2.2 = 1#1 ∧ (k0_cond35 k w.2.2.2.2 = 1#1 ↔ 0 < k.val)
    ∧ (k.val + 1 < 6 → k0_off79 w.1 = ![(k.val + 1) % 2] ∧ k0_off80 w.1 = ![(k.val + 1) % 2, 0, 0] ∧ k0_off81 w.2.2.2.2 = ![0, 3328 * ((k.val + 1) % 6)])
    ∧ k0_off82 w.2.1 = ![k.val % 2] ∧ k0_off83 w.2.1 = ![k.val % 2, 0, 0]
    ∧ k0_off85 w.2.1 = ![k.val % 2, 0, 0] ∧ k0_off86 w.2.2.1 = ![k.val % 2, 0, 0]
    ∧ k0_off87 w.2.2.1 = ![k.val % 2] ∧ k0_off88 w.2.2.2.2 = ![0, 3328 * (k.val % 6)] ∧ k0_off89 w.2.2.1 = ![k.val % 2, 0, 0]
    ∧ (0 < k.val → k0_off90 w.2.2.2.1 = ![(k.val - 1) % 2] ∧ k0_off91 w.2.2.2.2 = ![0, 3328 * ((k.val - 1) % 6)]) := by
  decide +kernel

/-- Block `k` of the array read, in the shape of a load of its slot. -/
def x4 (x : S1x19968.Idx → Elt F .f32) (k : ℕ) : S1x1x3328.Idx → Elt F .f32 :=
  expand (s := S1x1x3328) squeezes_S1x1x3328_S1x3328.numel_eq (colBlock (A := 1) (B := 3328) (W := 19968) (n := 6) rfl (by decide) x k)

/-- Block `k` of the array written. -/
def y4 (x : S1x19968.Idx → Elt F .f32) (cc : S1x1.Idx → Elt F .f32) (k : ℕ) : S1x3328.Idx → Elt F .f32 :=
  drop1 (s := S1x1x3328) squeezes_S1x1x3328_S1x3328.numel_eq (k0_pay18 (x4 x k) cc)

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

/-- What is held before trip `k`, with the words carried. -/
def Inv4 (c : Dev nD)
    (arg18 : Memref sig .tc .hbm S1x19968 .f32) (arg14 : Memref sig .tc .hbm S1x19968 .f32) (arg27 : Memref sig .tc .vmem S1x1 .f32) (alloca_r4 : Memref
    sig .tc .vmem S2x1x3328 .f32) (v177_r4 : DmaSems sig S2) (alloca_118_r4 : Memref sig .tc .vmem S2x1x3328 .f32) (v178_r4 : DmaSems sig S2)
    (q : PosShare TreeShare) (x : S1x19968.Idx → Elt F .f32) (cc : S1x1.Idx → Elt F .f32)
    (k : ℕ) (a : BitVec 32 × BitVec 32 × BitVec 32 × BitVec 32 × BitVec 32) : sProp 𝕄 :=
  iprop(⌜a = words 6 k⌝
    ∗ Both (A := 1) (A' := 1) (B := 3328) (W := 19968) (n := 6) c alloca_r4 squeezes_S1x1x3328_S1x3328 v177_r4 squeezes_S1_S_ arg18 rfl (by decide)
      alloca_118_r4 squeezes_S1x1x3328_S1x3328 v178_r4 arg14 q (colBlock (A := 1) (B := 3328) (W := 19968) (n := 6) rfl (by decide) x) (y4 x cc) k
    ∗ holds c arg27 fullShare cc)

set_option maxHeartbeats 1000000 in
theorem trip4 {q : PosShare TreeShare} {x : S1x19968.Idx → Elt F .f32} {cc : S1x1.Idx → Elt F .f32}
    (k : Fin k0_t5_loop.trips) (a : BitVec 32 × BitVec 32 × BitVec 32 × BitVec 32 × BitVec 32) :
    Inv4 c arg18 arg14 arg27 alloca_r4 v177_r4 alloca_118_r4 v178_r4 q x cc k.val a
      ⊢ wp frame (wpE defs 𝒱 (c : Thread nD τ) bd) Set.univ
          (k0_t5_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4 k a)
          (Inv4 c arg18 arg14 arg27 alloca_r4 v177_r4 alloca_118_r4 v178_r4 q x cc (k.val + 1)) := by
  obtain ⟨h3, h2, h1, hc1, hc2, hc5, hc7, hin, o6, o7, o9, o10, o11, o12, o13, hout⟩ := words4 k
  have hk : k.val < 6 := lt_of_lt_of_eq k.isLt trips4
  unfold Inv4
  iintro ⟨%ha, HB, Hcc⟩
  subst ha
  unfold k0_t5_body
  simp only [words] at h3 h2 h1 hc1 hc2 hc5 hc7 hin o6 o7 o9 o10 o11 o12 o13 hout ⊢
  rw [wp_bind, k0_part13_eq_skeleton, k0_part13_skel]
  iapply (bcheck 𝒱 c bd h3)
  iapply (bcheck 𝒱 c bd h2)
  iapply (bcheck 𝒱 c bd h1)
  iapply (dstep 𝒱 c bd (both_in 𝒱 c bd hk hc1 (by decide) hin)) $$ HB
  iintro HB
  rw [wp_pure]
  imodintro
  dsimp (zeta := false) (zetaHave := false) only
  rw [wp_bind, k0_part14_eq_skeleton, k0_part14_skel]
  iapply (dstep_pos 𝒱 c bd hc2 (both_wait 𝒱 c bd o6 o7)) $$ HB
  iintro ⟨Hx, Hy, HB⟩
  iapply (istep 𝒱 c bd)
  iapply (load_ring 𝒱 c bd o9) $$ Hx
  iintro Hx
  iapply (load_whole 𝒱 c bd (by decide)) $$ Hcc
  iintro Hcc
  iapply (restore_ring 𝒱 c bd o10 o10) $$ Hy
  iintro Hy
  iapply (istep 𝒱 c bd)
  rw [wp_pure]
  imodintro
  iapply (dstep_pos 𝒱 c bd hc5 (both_out 𝒱 c bd (Y := y4 x cc) hk (by decide) rfl o11 o13 o12)) $$ [Hx Hy HB]
  · isplitl [Hx]; · iexact Hx
    isplitl [Hy]; · iexact Hy
    iexact HB
  iintro HB
  iapply (istep 𝒱 c bd)
  iapply (dstep 𝒱 c bd (both_next 𝒱 c bd hc7 hout)) $$ HB
  iintro HB
  rw [wp_pure]
  imodintro
  isplitr
  · ipureintro
    clear * - k
    revert k; decide +kernel
  isplitl [HB]; · iexact HB
  iexact Hcc

/-- The trips together. -/
theorem loop4 {q : PosShare TreeShare} {x : S1x19968.Idx → Elt F .f32} {cc : S1x1.Idx → Elt F .f32} :
    Inv4 c arg18 arg14 arg27 alloca_r4 v177_r4 alloca_118_r4 v178_r4 q x cc 0 (words 6 0)
      ⊢ wp frame (wpE defs 𝒱 (c : Thread nD τ) bd) Set.univ
          (Scf.Loop.for k0_t5_loop k0_t5_ok (Scalar.addi 0#32 1#32, 0#32, 0#32, 0#32, 0#32) (k0_t5_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4))
          (Inv4 c arg18 arg14 arg27 alloca_r4 v177_r4 alloca_118_r4 v178_r4 q x cc 6) := by
  have h := Scf.wp_for frame (wpE defs 𝒱 (c : Thread nD τ) bd) Set.univ _ _ _ k0_t5_ok (Scalar.addi 0#32 1#32, 0#32, 0#32, 0#32, 0#32) _ _
    (trip4 𝒱 c bd (q := q) (x := x) (cc := cc)
      (arg0 := arg0) (harg0 := harg0) (arg1 := arg1) (harg1 := harg1) (arg2 := arg2) (harg2 := harg2) (arg3 := arg3) (harg3 := harg3) (arg4 := arg4) (harg4
      := harg4) (arg5 := arg5) (harg5 := harg5) (arg6 := arg6) (harg6 := harg6) (arg7 := arg7) (harg7 := harg7) (arg8 := arg8) (harg8 := harg8) (arg9 :=
      arg9) (harg9 := harg9) (arg10 := arg10) (harg10 := harg10) (arg11 := arg11) (harg11 := harg11) (arg12 := arg12) (harg12 := harg12) (arg13 := arg13)
      (harg13 := harg13) (arg14 := arg14) (harg14 := harg14) (arg15 := arg15) (harg15 := harg15) (arg16 := arg16) (harg16 := harg16) (arg17 := arg17)
      (harg17 := harg17) (arg18 := arg18) (harg18 := harg18) (arg19 := arg19) (harg19 := harg19) (arg20 := arg20) (harg20 := harg20) (arg21 := arg21)
      (harg21 := harg21) (arg22 := arg22) (harg22 := harg22) (arg23 := arg23) (harg23 := harg23) (arg24 := arg24) (harg24 := harg24) (arg25 := arg25)
      (harg25 := harg25) (arg26 := arg26) (harg26 := harg26) (arg27 := arg27) (harg27 := harg27) (arg28 := arg28) (harg28 := harg28) (arg29 := arg29)
      (harg29 := harg29) (arg30 := arg30) (harg30 := harg30) (arg31 := arg31) (harg31 := harg31) (alloca_r0 := alloca_r0) (halloca_r0 := halloca_r0)
      (v177_r0 := v177_r0) (alloca_118_r0 := alloca_118_r0) (halloca_118_r0 := halloca_118_r0) (v178_r0 := v178_r0) (alloca_r1 := alloca_r1) (halloca_r1 :=
      halloca_r1) (v177_r1 := v177_r1) (alloca_118_r1 := alloca_118_r1) (halloca_118_r1 := halloca_118_r1) (v178_r1 := v178_r1) (alloca_r2 := alloca_r2)
      (halloca_r2 := halloca_r2) (v177_r2 := v177_r2) (alloca_118_r2 := alloca_118_r2) (halloca_118_r2 := halloca_118_r2) (v178_r2 := v178_r2) (alloca_r3 :=
      alloca_r3) (halloca_r3 := halloca_r3) (v177_r3 := v177_r3) (alloca_118_r3 := alloca_118_r3) (halloca_118_r3 := halloca_118_r3) (v178_r3 := v178_r3)
      (alloca_r4 := alloca_r4) (halloca_r4 := halloca_r4) (v177_r4 := v177_r4) (alloca_118_r4 := alloca_118_r4) (halloca_118_r4 := halloca_118_r4) (v178_r4
      := v178_r4))
    (Q := Inv4 c arg18 arg14 arg27 alloca_r4 v177_r4 alloca_118_r4 v178_r4 q x cc 6)
  refine BIBase.Entails.trans ?_ h
  rw [show words 6 0 = (Scalar.addi 0#32 1#32, 0#32, 0#32, 0#32, 0#32) by decide]
  iintro H
  isplitl [H]; · iexact H
  iintro %a Ha
  iexact Ha

end

end Cert.KernelIdeal
-- ==== Proof.Body.lean ====
/-
  The whole kernel: the five pipelines with, between them, the last columns and the correction of the next layer.
-/
module

public import proofs.«01_k».proof.Proof.Reg0
public import proofs.«01_k».proof.Proof.Reg1
public import proofs.«01_k».proof.Proof.Reg2
public import proofs.«01_k».proof.Proof.Reg3
public import proofs.«01_k».proof.Proof.Reg4

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Ops Cert.KernelIdeal.Gen

variable {F : FTy → Type} [FloatOps F] [Named F]

local notation "𝕄" => MT nD τ sig Unit (Elt F) ℕ (Pipeline.UD sig nD τ) ℕ

/-- What the kernel reads: the first columns, the last columns, the weights of each layer and its bias. -/
structure In (F : FTy → Type) where
  x : S1033x19968.Idx → Elt F .f32
  xr : S1033x32.Idx → Elt F .f32
  wg1 : S1000x1033.Idx → Elt F .bf16
  wg2 : S600x1000.Idx → Elt F .bf16
  wg3 : S300x600.Idx → Elt F .bf16
  wg4 : S1x300.Idx → Elt F .bf16
  wl1 : S1000x1033.Idx → Elt F .bf16
  wl2 : S600x1000.Idx → Elt F .bf16
  wl3 : S300x600.Idx → Elt F .bf16
  wl4 : S1x300.Idx → Elt F .bf16
  bg1 : S1000x1.Idx → Elt F .f32
  bg2 : S600x1.Idx → Elt F .f32
  bg3 : S300x1.Idx → Elt F .f32
  bg4 : S1x1.Idx → Elt F .f32

/-- The array of which block `k` is `y k`. -/
abbrev blocks {A B W n : ℕ} {e : EltTy} (hW : n * B = W) (hn : 0 < n) (y : ℕ → (⟨2, ![A, B]⟩ : Shape).Idx → Elt F e) : (⟨2, ![A, W]⟩ : Shape).Idx → Elt F e :=
  haveI := Elt.nonempty F e
  ofBlocks hW hn y

namespace In

variable (i : In F)

/-- The row sums, the correction column, the last columns and the first columns after layer one, -/
def t1 : S1033x1.Idx → Elt F .f32 := k0_pay24 i.xr (s0 i.x (k0_pay19 (F := F)) 6)
def c1 : S1000x1.Idx → Elt F .f32 := k0_pay26 i.wl1 i.t1
def r1 : S1000x32.Idx → Elt F .bf16 := k0_pay25 i.xr i.wg1 i.bg1
def u1 : S1000x19968.Idx → Elt F .bf16 := blocks (A := 1000) (B := 3328) (W := 19968) (n := 6) (e := .bf16) rfl (by decide) (y0 i.x i.wg1 i.bg1)

/-- after layer two, -/
def t2 : S1000x1.Idx → Elt F .f32 := k0_pay28 i.r1 i.c1 (s1 i.u1 i.c1 (k0_pay20 (F := F)) 12)
def c2 : S600x1.Idx → Elt F .f32 := k0_pay30 i.wl2 i.t2
def r2 : S600x32.Idx → Elt F .bf16 := k0_pay29 i.r1 i.c1 i.wg2 i.bg2
def u2 : S600x19968.Idx → Elt F .bf16 := blocks (A := 600) (B := 1664) (W := 19968) (n := 12) (e := .bf16) rfl (by decide) (y1 i.u1 i.c1 i.wg2 i.bg2)

/-- after layer three, -/
def t3 : S600x1.Idx → Elt F .f32 := k0_pay32 i.r2 i.c2 (s2 i.u2 i.c2 (k0_pay21 (F := F)) 6)
def c3 : S300x1.Idx → Elt F .f32 := k0_pay34 i.wl3 i.t3
def r3 : S300x32.Idx → Elt F .bf16 := k0_pay33 i.r2 i.c2 i.wg3 i.bg3
def u3 : S300x19968.Idx → Elt F .bf16 := blocks (A := 300) (B := 3328) (W := 19968) (n := 6) (e := .bf16) rfl (by decide) (y2 i.u2 i.c2 i.wg3 i.bg3)

/-- after layer four, -/
def t4 : S300x1.Idx → Elt F .f32 := k0_pay36 i.r3 i.c3 (s3 i.u3 i.c3 (k0_pay22 (F := F)) 6)
def c4 : S1x1.Idx → Elt F .f32 := k0_pay38 i.wl4 i.t4
def r4 : S1x32.Idx → Elt F .f32 := k0_pay37 i.r3 i.c3 i.wg4 i.bg4
def u4 : S1x19968.Idx → Elt F .f32 := blocks (A := 1) (B := 3328) (W := 19968) (n := 6) (e := .f32) rfl (by decide) (y3 i.u3 i.c3 i.wg4 i.bg4)

/-- and the two parts of the result. -/
def pred : S1x19968.Idx → Elt F .f32 := blocks (A := 1) (B := 3328) (W := 19968) (n := 6) (e := .f32) rfl (by decide) (y4 i.u4 i.c4)
def predr : S1x32.Idx → Elt F .f32 := k0_pay1 i.r4 i.c4

end In

theorem ends0 : k0_chk5 0#32 ∧ k0_chk4 5#32 ∧ k0_off17 5#32 = ![(6 - 1) % 2] ∧ k0_off18 0#32 = ![0, 3328 * ((6 - 1) % 6)]
    ∧ words 6 6 = (6#32, 6#32, 6#32, 5#32, 0#32) ∧ k0_off1 = ![0 % 2] ∧ k0_off2 = ![0 % 2, 0, 0]
    ∧ (![0, 0] : Fin 2 → ℕ) = ![0, 3328 * (0 % 6)] := by
  decide +kernel

theorem ends1 : k0_chk10 0#32 ∧ k0_chk9 11#32 ∧ k0_off36 11#32 = ![(12 - 1) % 2] ∧ k0_off37 0#32 = ![0, 1664 * ((12 - 1) % 12)]
    ∧ words 12 12 = (12#32, 12#32, 12#32, 11#32, 0#32) ∧ k0_off20 = ![0 % 2] ∧ k0_off21 = ![0 % 2, 0, 0]
    ∧ (![0, 0] : Fin 2 → ℕ) = ![0, 1664 * (0 % 12)] := by
  decide +kernel

theorem ends2 : k0_chk15 0#32 ∧ k0_chk14 5#32 ∧ k0_off55 5#32 = ![(6 - 1) % 2] ∧ k0_off56 0#32 = ![0, 3328 * ((6 - 1) % 6)]
    ∧ words 6 6 = (6#32, 6#32, 6#32, 5#32, 0#32) ∧ k0_off39 = ![0 % 2] ∧ k0_off40 = ![0 % 2, 0, 0]
    ∧ (![0, 0] : Fin 2 → ℕ) = ![0, 3328 * (0 % 6)] := by
  decide +kernel

theorem ends3 : k0_chk20 0#32 ∧ k0_chk19 5#32 ∧ k0_off74 5#32 = ![(6 - 1) % 2] ∧ k0_off75 0#32 = ![0, 3328 * ((6 - 1) % 6)]
    ∧ words 6 6 = (6#32, 6#32, 6#32, 5#32, 0#32) ∧ k0_off58 = ![0 % 2] ∧ k0_off59 = ![0 % 2, 0, 0]
    ∧ (![0, 0] : Fin 2 → ℕ) = ![0, 3328 * (0 % 6)] := by
  decide +kernel

theorem ends4 : k0_chk25 0#32 ∧ k0_chk24 5#32 ∧ k0_off93 5#32 = ![(6 - 1) % 2] ∧ k0_off94 0#32 = ![0, 3328 * ((6 - 1) % 6)]
    ∧ words 6 6 = (6#32, 6#32, 6#32, 5#32, 0#32) ∧ k0_off77 = ![0 % 2] ∧ k0_off78 = ![0 % 2, 0, 0]
    ∧ (![0, 0] : Fin 2 → ℕ) = ![0, 3328 * (0 % 6)] := by
  decide +kernel

section

variable {defs : Defs nD τ sig (Elt F) Λ₀} (𝒱 : Variants) (c : Dev nD) (bd : Option 𝒱.V)

variable
  {arg0 : Memref sig .tc .hbm S1033x19968 .f32} {harg0 : arg0.IsWhole} {arg1 : Memref sig .tc .vmem S1033x32 .f32} {harg1 : arg1.IsWhole} {arg2 : Memref
  sig .tc .vmem S1000x1033 .bf16} {harg2 : arg2.IsWhole} {arg3 : Memref sig .tc .vmem S600x1000 .bf16} {harg3 : arg3.IsWhole} {arg4 : Memref sig .tc
  .vmem S300x600 .bf16} {harg4 : arg4.IsWhole} {arg5 : Memref sig .tc .vmem S1x300 .bf16} {harg5 : arg5.IsWhole} {arg6 : Memref sig .tc .vmem S1000x1033
  .bf16} {harg6 : arg6.IsWhole} {arg7 : Memref sig .tc .vmem S600x1000 .bf16} {harg7 : arg7.IsWhole} {arg8 : Memref sig .tc .vmem S300x600 .bf16} {harg8
  : arg8.IsWhole} {arg9 : Memref sig .tc .vmem S1x300 .bf16} {harg9 : arg9.IsWhole} {arg10 : Memref sig .tc .vmem S1000x1 .f32} {harg10 : arg10.IsWhole}
  {arg11 : Memref sig .tc .vmem S600x1 .f32} {harg11 : arg11.IsWhole} {arg12 : Memref sig .tc .vmem S300x1 .f32} {harg12 : arg12.IsWhole} {arg13 :
  Memref sig .tc .vmem S1x1 .f32} {harg13 : arg13.IsWhole} {arg14 : Memref sig .tc .hbm S1x19968 .f32} {harg14 : arg14.IsWhole} {arg15 : Memref sig .tc
  .hbm S1000x19968 .bf16} {harg15 : arg15.IsWhole} {arg16 : Memref sig .tc .hbm S600x19968 .bf16} {harg16 : arg16.IsWhole} {arg17 : Memref sig .tc .hbm
  S300x19968 .bf16} {harg17 : arg17.IsWhole} {arg18 : Memref sig .tc .hbm S1x19968 .f32} {harg18 : arg18.IsWhole} {arg19 : Memref sig .tc .vmem S1x32
  .f32} {harg19 : arg19.IsWhole} {arg20 : Memref sig .tc .vmem S1033x1 .f32} {harg20 : arg20.IsWhole} {arg21 : Memref sig .tc .vmem S1000x1 .f32}
  {harg21 : arg21.IsWhole} {arg22 : Memref sig .tc .vmem S600x1 .f32} {harg22 : arg22.IsWhole} {arg23 : Memref sig .tc .vmem S300x1 .f32} {harg23 :
  arg23.IsWhole} {arg24 : Memref sig .tc .vmem S1000x1 .f32} {harg24 : arg24.IsWhole} {arg25 : Memref sig .tc .vmem S600x1 .f32} {harg25 :
  arg25.IsWhole} {arg26 : Memref sig .tc .vmem S300x1 .f32} {harg26 : arg26.IsWhole} {arg27 : Memref sig .tc .vmem S1x1 .f32} {harg27 : arg27.IsWhole}
  {arg28 : Memref sig .tc .vmem S1000x32 .bf16} {harg28 : arg28.IsWhole} {arg29 : Memref sig .tc .vmem S600x32 .bf16} {harg29 : arg29.IsWhole} {arg30 :
  Memref sig .tc .vmem S300x32 .bf16} {harg30 : arg30.IsWhole} {arg31 : Memref sig .tc .vmem S1x32 .f32} {harg31 : arg31.IsWhole} {alloca_r0 : Memref
  sig .tc .vmem S2x1033x3328 .f32} {halloca_r0 : alloca_r0.IsWhole} {v177_r0 : DmaSems sig S2} {alloca_118_r0 : Memref sig .tc .vmem S2x1000x3328 .bf16}
  {halloca_118_r0 : alloca_118_r0.IsWhole} {v178_r0 : DmaSems sig S2} {alloca_r1 : Memref sig .tc .vmem S2x1000x1664 .bf16} {halloca_r1 :
  alloca_r1.IsWhole} {v177_r1 : DmaSems sig S2} {alloca_118_r1 : Memref sig .tc .vmem S2x600x1664 .bf16} {halloca_118_r1 : alloca_118_r1.IsWhole}
  {v178_r1 : DmaSems sig S2} {alloca_r2 : Memref sig .tc .vmem S2x600x3328 .bf16} {halloca_r2 : alloca_r2.IsWhole} {v177_r2 : DmaSems sig S2}
  {alloca_118_r2 : Memref sig .tc .vmem S2x300x3328 .bf16} {halloca_118_r2 : alloca_118_r2.IsWhole} {v178_r2 : DmaSems sig S2} {alloca_r3 : Memref sig
  .tc .vmem S2x300x3328 .bf16} {halloca_r3 : alloca_r3.IsWhole} {v177_r3 : DmaSems sig S2} {alloca_118_r3 : Memref sig .tc .vmem S2x1x3328 .f32}
  {halloca_118_r3 : alloca_118_r3.IsWhole} {v178_r3 : DmaSems sig S2} {alloca_r4 : Memref sig .tc .vmem S2x1x3328 .f32} {halloca_r4 : alloca_r4.IsWhole}
  {v177_r4 : DmaSems sig S2} {alloca_118_r4 : Memref sig .tc .vmem S2x1x3328 .f32} {halloca_118_r4 : alloca_118_r4.IsWhole} {v178_r4 : DmaSems sig S2}

set_option maxHeartbeats 4000000 in
/-- A run of the kernel, from what it is lent to what it gives back. -/
theorem kernel_run (q : PosShare TreeShare) (i : In F) :
    iprop((holds c arg0 q i.x ∗ holds c arg1 fullShare i.xr ∗ holds c arg2 fullShare i.wg1 ∗ holds c arg3 fullShare i.wg2 ∗ holds c arg4 fullShare i.wg3 ∗ holds c arg5 fullShare i.wg4 ∗ holds c arg6 fullShare i.wl1 ∗ holds c arg7 fullShare i.wl2 ∗ holds c arg8 fullShare i.wl3 ∗ holds c arg9 fullShare i.wl4 ∗ holds c arg10 fullShare i.bg1 ∗ holds c arg11 fullShare i.bg2 ∗ holds c arg12 fullShare i.bg3 ∗ holds c arg13 fullShare i.bg4)
      ∗ ((∃ v, holds c arg14 fullShare v) ∗ (∃ v, holds c arg15 fullShare v) ∗ (∃ v, holds c arg16 fullShare v) ∗ (∃ v, holds c arg17 fullShare v) ∗ (∃ v, holds c arg18 fullShare v) ∗ (∃ v, holds c arg19 fullShare v))
      ∗ ((∃ v, holds c arg20 fullShare v) ∗ (∃ v, holds c arg21 fullShare v) ∗ (∃ v, holds c arg22 fullShare v) ∗ (∃ v, holds c arg23 fullShare v) ∗ (∃ v, holds c arg24 fullShare v) ∗ (∃ v, holds c arg25 fullShare v) ∗ (∃ v, holds c arg26 fullShare v) ∗ (∃ v, holds c arg27 fullShare v) ∗ (∃ v, holds c arg28 fullShare v) ∗ (∃ v, holds c arg29 fullShare v) ∗ (∃ v, holds c arg30 fullShare v) ∗ (∃ v, holds c arg31 fullShare v))
      ∗ (ring c alloca_r0 v177_r0 squeezes_S1_S_ ∗ ring c alloca_118_r0 v178_r0 squeezes_S1_S_ ∗ ring c alloca_r1 v177_r1 squeezes_S1_S_ ∗ ring c alloca_118_r1 v178_r1 squeezes_S1_S_ ∗ ring c alloca_r2 v177_r2 squeezes_S1_S_ ∗ ring c alloca_118_r2 v178_r2 squeezes_S1_S_ ∗ ring c alloca_r3 v177_r3 squeezes_S1_S_ ∗ ring c alloca_118_r3 v178_r3 squeezes_S1_S_ ∗ ring c alloca_r4 v177_r4 squeezes_S1_S_ ∗ ring c alloca_118_r4 v178_r4 squeezes_S1_S_)
      ∗ (∃ W, owes (c : Thread nD τ) 0 W) : sProp 𝕄)
      ⊢ wp frame (wpE defs 𝒱 (c : Thread nD τ) bd) Set.univ
          (cc0__mega_body (F := F)
      arg0 harg0 arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23 arg24
      harg24 arg25 harg25 arg26 harg26 arg27 harg27 arg28 harg28 arg29 harg29 arg30 harg30 arg31 harg31 alloca_r0 halloca_r0 v177_r0 alloca_118_r0
      halloca_118_r0 v178_r0 alloca_r1 halloca_r1 v177_r1 alloca_118_r1 halloca_118_r1 v178_r1 alloca_r2 halloca_r2 v177_r2 alloca_118_r2 halloca_118_r2
      v178_r2 alloca_r3 halloca_r3 v177_r3 alloca_118_r3 halloca_118_r3 v178_r3 alloca_r4 halloca_r4 v177_r4 alloca_118_r4 halloca_118_r4 v178_r4)
          (fun _ => iprop((holds c arg0 q i.x ∗ holds c arg1 fullShare i.xr ∗ holds c arg2 fullShare i.wg1 ∗ holds c arg3 fullShare i.wg2 ∗ holds c arg4 fullShare i.wg3 ∗ holds c arg5 fullShare i.wg4 ∗ holds c arg6 fullShare i.wl1 ∗ holds c arg7 fullShare i.wl2 ∗ holds c arg8 fullShare i.wl3 ∗ holds c arg9 fullShare i.wl4 ∗ holds c arg10 fullShare i.bg1 ∗ holds c arg11 fullShare i.bg2 ∗ holds c arg12 fullShare i.bg3 ∗ holds c arg13 fullShare i.bg4)
      ∗ (holds c arg14 fullShare i.pred ∗ holds c arg15 fullShare i.u1 ∗ holds c arg16 fullShare i.u2 ∗ holds c arg17 fullShare i.u3 ∗ holds c arg18 fullShare i.u4 ∗ holds c arg19 fullShare i.predr)
      ∗ ((∃ v, holds c arg20 fullShare v) ∗ (∃ v, holds c arg21 fullShare v) ∗ (∃ v, holds c arg22 fullShare v) ∗ (∃ v, holds c arg23 fullShare v) ∗ (∃ v, holds c arg24 fullShare v) ∗ (∃ v, holds c arg25 fullShare v) ∗ (∃ v, holds c arg26 fullShare v) ∗ (∃ v, holds c arg27 fullShare v) ∗ (∃ v, holds c arg28 fullShare v) ∗ (∃ v, holds c arg29 fullShare v) ∗ (∃ v, holds c arg30 fullShare v) ∗ (∃ v, holds c arg31 fullShare v))
      ∗ (ring c alloca_r0 v177_r0 squeezes_S1_S_ ∗ ring c alloca_118_r0 v178_r0 squeezes_S1_S_ ∗ ring c alloca_r1 v177_r1 squeezes_S1_S_ ∗ ring c alloca_118_r1 v178_r1 squeezes_S1_S_ ∗ ring c alloca_r2 v177_r2 squeezes_S1_S_ ∗ ring c alloca_118_r2 v178_r2 squeezes_S1_S_ ∗ ring c alloca_r3 v177_r3 squeezes_S1_S_ ∗ ring c alloca_118_r3 v178_r3 squeezes_S1_S_ ∗ ring c alloca_r4 v177_r4 squeezes_S1_S_ ∗ ring c alloca_118_r4 v178_r4 squeezes_S1_S_)
      ∗ (∃ W, owes (c : Thread nD τ) 0 W))) := by
  iintro ⟨⟨A0, A1, A2, A3, A4, A5, A6, A7, A8, A9, A10, A11, A12, A13⟩, ⟨A14, A15, A16, A17, A18, A19⟩, ⟨A20, A21, A22, A23, A24, A25, A26, A27, A28, A29, A30, A31⟩, ⟨R0i, R0o, R1i, R1o, R2i, R2o, R3i, R3o, R4i, R4o⟩, Ho⟩
  rw [cc0__mega_body_eq_skeleton, cc0__mega_body_skel]
  rw [wp_bind, k0_part15_eq_skeleton, k0_part15_skel]
  iapply (restore_whole 𝒱 c bd (by decide) (by decide)) $$ A20
  iintro A20
  iapply (restore_whole 𝒱 c bd (by decide) (by decide)) $$ A21
  iintro A21
  iapply (restore_whole 𝒱 c bd (by decide) (by decide)) $$ A22
  iintro A22
  iapply (restore_whole 𝒱 c bd (by decide) (by decide)) $$ A23
  iintro A23
  rw [wp_pure]
  imodintro
  rw [wp_bind, k0_part16_eq_skeleton, k0_part16_skel]
  obtain ⟨hA, hB, hc, hb, hw, f1, f2, f3⟩ := ends0
  iapply (bstep 𝒱 c bd (both_first 𝒱 c bd (sq' := squeezes_S1x1000x3328_S1000x3328) (hW := rfl) (hn := by decide) (Y := y0 i.x i.wg1 i.bg1) (by decide) f1 f2 f3)) $$ [R0i R0o A0 A15 Ho]
  · isplitl [R0i]; · iexact R0i
    isplitl [R0o]; · iexact R0o
    isplitl [A0]; · iexact A0
    isplitl [A15]; · iexact A15
    iexact Ho
  iintro %_ HB
  iapply (bstep 𝒱 c bd (loop0 𝒱 c bd (q := q) (x := i.x) (wg := i.wg1) (bg := i.bg1) (s := k0_pay19 (F := F)))) $$ [HB A2 A10 A20]
  · unfold Inv0
    isplitr; · ipureintro; rfl
    isplitl [HB]; · iexact HB
    isplitl [A2]; · iexact A2
    isplitl [A10]; · iexact A10
    iexact A20
  iintro %a H
  unfold Inv0
  icases H with ⟨%ha, HB, A2, A10, A20⟩
  rw [hw] at ha
  subst ha
  dsimp (zeta := false) (zetaHave := false) only
  iapply (bcheck 𝒱 c bd hA)
  iapply (bcheck 𝒱 c bd hB)
  rw [wp_pure]
  imodintro
  dsimp (zeta := false) (zetaHave := false) only
  rw [wp_bind, k0_part17_eq_skeleton, k0_part17_skel]
  iapply (bstep 𝒱 c bd (both_last 𝒱 c bd (by decide) hc hb)) $$ [HB]
  · iexact HB
  iintro %_ ⟨R0i, R0o, A0, A15, Ho⟩
  clear hA hB hc hb hw f1 f2 f3
  iapply (load_whole 𝒱 c bd (by decide)) $$ A1
  iintro A1
  iapply (load_whole 𝒱 c bd (by decide)) $$ A20
  iintro A20
  iapply (load_whole 𝒱 c bd (by decide)) $$ A20
  iintro A20
  iapply (store_whole 𝒱 c bd (by decide)) $$ A20
  iintro A20
  iapply (load_whole 𝒱 c bd (by decide)) $$ A2
  iintro A2
  iapply (load_whole 𝒱 c bd (by decide)) $$ A10
  iintro A10
  iapply (restore_whole 𝒱 c bd (by decide) (by decide)) $$ A28
  iintro A28
  rw [wp_pure]
  imodintro
  rw [wp_bind, k0_part18_eq_skeleton, k0_part18_skel]
  iapply (load_whole 𝒱 c bd (by decide)) $$ A6
  iintro A6
  iapply (load_whole 𝒱 c bd (by decide)) $$ A20
  iintro A20
  iapply (restore_whole 𝒱 c bd (by decide) (by decide)) $$ A24
  iintro A24
  rw [wp_pure]
  imodintro
  rw [wp_bind, k0_part19_eq_skeleton, k0_part19_skel]
  obtain ⟨hA, hB, hc, hb, hw, f1, f2, f3⟩ := ends1
  iapply (bstep 𝒱 c bd (both_first 𝒱 c bd (sq' := squeezes_S1x600x1664_S600x1664) (hW := rfl) (hn := by decide) (Y := y1 i.u1 i.c1 i.wg2 i.bg2) (by decide) f1 f2 f3)) $$ [R1i R1o A15 A16 Ho]
  · isplitl [R1i]; · iexact R1i
    isplitl [R1o]; · iexact R1o
    isplitl [A15]; · iexact A15
    isplitl [A16]; · iexact A16
    iexact Ho
  iintro %_ HB
  iapply (bstep 𝒱 c bd (loop1 𝒱 c bd (q := fullShare) (x := i.u1) (cc := i.c1) (wg := i.wg2) (bg := i.bg2) (s := k0_pay20 (F := F)))) $$ [HB A24 A3 A11 A21]
  · unfold Inv1
    isplitr; · ipureintro; rfl
    isplitl [HB]; · iexact HB
    isplitl [A24]; · iexact A24
    isplitl [A3]; · iexact A3
    isplitl [A11]; · iexact A11
    iexact A21
  iintro %a H
  unfold Inv1
  icases H with ⟨%ha, HB, A24, A3, A11, A21⟩
  rw [hw] at ha
  subst ha
  dsimp (zeta := false) (zetaHave := false) only
  iapply (bcheck 𝒱 c bd hA)
  iapply (bcheck 𝒱 c bd hB)
  rw [wp_pure]
  imodintro
  dsimp (zeta := false) (zetaHave := false) only
  rw [wp_bind, k0_part20_eq_skeleton, k0_part20_skel]
  iapply (bstep 𝒱 c bd (both_last 𝒱 c bd (by decide) hc hb)) $$ [HB]
  · iexact HB
  iintro %_ ⟨R1i, R1o, A15, A16, Ho⟩
  clear hA hB hc hb hw f1 f2 f3
  iapply (load_whole 𝒱 c bd (by decide)) $$ A28
  iintro A28
  iapply (load_whole 𝒱 c bd (by decide)) $$ A24
  iintro A24
  iapply (load_whole 𝒱 c bd (by decide)) $$ A21
  iintro A21
  iapply (load_whole 𝒱 c bd (by decide)) $$ A21
  iintro A21
  iapply (store_whole 𝒱 c bd (by decide)) $$ A21
  iintro A21
  iapply (load_whole 𝒱 c bd (by decide)) $$ A3
  iintro A3
  iapply (load_whole 𝒱 c bd (by decide)) $$ A11
  iintro A11
  iapply (restore_whole 𝒱 c bd (by decide) (by decide)) $$ A29
  iintro A29
  rw [wp_pure]
  imodintro
  rw [wp_bind, k0_part21_eq_skeleton, k0_part21_skel]
  iapply (load_whole 𝒱 c bd (by decide)) $$ A7
  iintro A7
  iapply (load_whole 𝒱 c bd (by decide)) $$ A21
  iintro A21
  iapply (restore_whole 𝒱 c bd (by decide) (by decide)) $$ A25
  iintro A25
  rw [wp_pure]
  imodintro
  rw [wp_bind, k0_part22_eq_skeleton, k0_part22_skel]
  obtain ⟨hA, hB, hc, hb, hw, f1, f2, f3⟩ := ends2
  iapply (bstep 𝒱 c bd (both_first 𝒱 c bd (sq' := squeezes_S1x300x3328_S300x3328) (hW := rfl) (hn := by decide) (Y := y2 i.u2 i.c2 i.wg3 i.bg3) (by decide) f1 f2 f3)) $$ [R2i R2o A16 A17 Ho]
  · isplitl [R2i]; · iexact R2i
    isplitl [R2o]; · iexact R2o
    isplitl [A16]; · iexact A16
    isplitl [A17]; · iexact A17
    iexact Ho
  iintro %_ HB
  iapply (bstep 𝒱 c bd (loop2 𝒱 c bd (q := fullShare) (x := i.u2) (cc := i.c2) (wg := i.wg3) (bg := i.bg3) (s := k0_pay21 (F := F)))) $$ [HB A25 A4 A12 A22]
  · unfold Inv2
    isplitr; · ipureintro; rfl
    isplitl [HB]; · iexact HB
    isplitl [A25]; · iexact A25
    isplitl [A4]; · iexact A4
    isplitl [A12]; · iexact A12
    iexact A22
  iintro %a H
  unfold Inv2
  icases H with ⟨%ha, HB, A25, A4, A12, A22⟩
  rw [hw] at ha
  subst ha
  dsimp (zeta := false) (zetaHave := false) only
  iapply (bcheck 𝒱 c bd hA)
  iapply (bcheck 𝒱 c bd hB)
  rw [wp_pure]
  imodintro
  dsimp (zeta := false) (zetaHave := false) only
  rw [wp_bind, k0_part23_eq_skeleton, k0_part23_skel]
  iapply (bstep 𝒱 c bd (both_last 𝒱 c bd (by decide) hc hb)) $$ [HB]
  · iexact HB
  iintro %_ ⟨R2i, R2o, A16, A17, Ho⟩
  clear hA hB hc hb hw f1 f2 f3
  iapply (load_whole 𝒱 c bd (by decide)) $$ A29
  iintro A29
  iapply (load_whole 𝒱 c bd (by decide)) $$ A25
  iintro A25
  iapply (load_whole 𝒱 c bd (by decide)) $$ A22
  iintro A22
  iapply (load_whole 𝒱 c bd (by decide)) $$ A22
  iintro A22
  iapply (store_whole 𝒱 c bd (by decide)) $$ A22
  iintro A22
  iapply (load_whole 𝒱 c bd (by decide)) $$ A4
  iintro A4
  iapply (load_whole 𝒱 c bd (by decide)) $$ A12
  iintro A12
  iapply (restore_whole 𝒱 c bd (by decide) (by decide)) $$ A30
  iintro A30
  rw [wp_pure]
  imodintro
  rw [wp_bind, k0_part24_eq_skeleton, k0_part24_skel]
  iapply (load_whole 𝒱 c bd (by decide)) $$ A8
  iintro A8
  iapply (load_whole 𝒱 c bd (by decide)) $$ A22
  iintro A22
  iapply (restore_whole 𝒱 c bd (by decide) (by decide)) $$ A26
  iintro A26
  rw [wp_pure]
  imodintro
  rw [wp_bind, k0_part25_eq_skeleton, k0_part25_skel]
  obtain ⟨hA, hB, hc, hb, hw, f1, f2, f3⟩ := ends3
  iapply (bstep 𝒱 c bd (both_first 𝒱 c bd (sq' := squeezes_S1x1x3328_S1x3328) (hW := rfl) (hn := by decide) (Y := y3 i.u3 i.c3 i.wg4 i.bg4) (by decide) f1 f2 f3)) $$ [R3i R3o A17 A18 Ho]
  · isplitl [R3i]; · iexact R3i
    isplitl [R3o]; · iexact R3o
    isplitl [A17]; · iexact A17
    isplitl [A18]; · iexact A18
    iexact Ho
  iintro %_ HB
  iapply (bstep 𝒱 c bd (loop3 𝒱 c bd (q := fullShare) (x := i.u3) (cc := i.c3) (wg := i.wg4) (bg := i.bg4) (s := k0_pay22 (F := F)))) $$ [HB A26 A5 A13 A23]
  · unfold Inv3
    isplitr; · ipureintro; rfl
    isplitl [HB]; · iexact HB
    isplitl [A26]; · iexact A26
    isplitl [A5]; · iexact A5
    isplitl [A13]; · iexact A13
    iexact A23
  iintro %a H
  unfold Inv3
  icases H with ⟨%ha, HB, A26, A5, A13, A23⟩
  rw [hw] at ha
  subst ha
  dsimp (zeta := false) (zetaHave := false) only
  iapply (bcheck 𝒱 c bd hA)
  iapply (bcheck 𝒱 c bd hB)
  rw [wp_pure]
  imodintro
  dsimp (zeta := false) (zetaHave := false) only
  rw [wp_bind, k0_part26_eq_skeleton, k0_part26_skel]
  iapply (bstep 𝒱 c bd (both_last 𝒱 c bd (by decide) hc hb)) $$ [HB]
  · iexact HB
  iintro %_ ⟨R3i, R3o, A17, A18, Ho⟩
  clear hA hB hc hb hw f1 f2 f3
  iapply (load_whole 𝒱 c bd (by decide)) $$ A30
  iintro A30
  iapply (load_whole 𝒱 c bd (by decide)) $$ A26
  iintro A26
  iapply (load_whole 𝒱 c bd (by decide)) $$ A23
  iintro A23
  iapply (load_whole 𝒱 c bd (by decide)) $$ A23
  iintro A23
  iapply (store_whole 𝒱 c bd (by decide)) $$ A23
  iintro A23
  iapply (load_whole 𝒱 c bd (by decide)) $$ A5
  iintro A5
  iapply (load_whole 𝒱 c bd (by decide)) $$ A13
  iintro A13
  iapply (restore_whole 𝒱 c bd (by decide) (by decide)) $$ A31
  iintro A31
  rw [wp_pure]
  imodintro
  rw [wp_bind, k0_part27_eq_skeleton, k0_part27_skel]
  iapply (load_whole 𝒱 c bd (by decide)) $$ A9
  iintro A9
  iapply (load_whole 𝒱 c bd (by decide)) $$ A23
  iintro A23
  iapply (restore_whole 𝒱 c bd (by decide) (by decide)) $$ A27
  iintro A27
  rw [wp_pure]
  imodintro
  rw [wp_bind, k0_part28_eq_skeleton, k0_part28_skel]
  obtain ⟨hA, hB, hc, hb, hw, f1, f2, f3⟩ := ends4
  iapply (bstep 𝒱 c bd (both_first 𝒱 c bd (sq' := squeezes_S1x1x3328_S1x3328) (hW := rfl) (hn := by decide) (Y := y4 i.u4 i.c4) (by decide) f1 f2 f3)) $$ [R4i R4o A18 A14 Ho]
  · isplitl [R4i]; · iexact R4i
    isplitl [R4o]; · iexact R4o
    isplitl [A18]; · iexact A18
    isplitl [A14]; · iexact A14
    iexact Ho
  iintro %_ HB
  iapply (bstep 𝒱 c bd (loop4 𝒱 c bd (q := fullShare) (x := i.u4) (cc := i.c4))) $$ [HB A27]
  · unfold Inv4
    isplitr; · ipureintro; rfl
    isplitl [HB]; · iexact HB
    iexact A27
  iintro %a H
  unfold Inv4
  icases H with ⟨%ha, HB, A27⟩
  rw [hw] at ha
  subst ha
  dsimp (zeta := false) (zetaHave := false) only
  iapply (bcheck 𝒱 c bd hA)
  iapply (bcheck 𝒱 c bd hB)
  rw [wp_pure]
  imodintro
  dsimp (zeta := false) (zetaHave := false) only
  iapply (bstep 𝒱 c bd (both_last 𝒱 c bd (by decide) hc hb)) $$ [HB]
  · iexact HB
  iintro %_ ⟨R4i, R4o, A18, A14, Ho⟩
  clear hA hB hc hb hw f1 f2 f3
  iapply (load_whole 𝒱 c bd (by decide)) $$ A31
  iintro A31
  iapply (load_whole 𝒱 c bd (by decide)) $$ A27
  iintro A27
  iapply (restore_whole 𝒱 c bd (by decide) (by decide)) $$ A19
  iintro A19
  rw [wp_pure]
  imodintro
  isplitl [A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [A14 A15 A16 A17 A18 A19]
  · isplitl [A14]; · iexact A14
    isplitl [A15]; · iexact A15
    isplitl [A16]; · iexact A16
    isplitl [A17]; · iexact A17
    isplitl [A18]; · iexact A18
    iexact A19
  isplitl [A20 A21 A22 A23 A24 A25 A26 A27 A28 A29 A30 A31]
  · isplitl [A20]; · iexists _; iexact A20
    isplitl [A21]; · iexists _; iexact A21
    isplitl [A22]; · iexists _; iexact A22
    isplitl [A23]; · iexists _; iexact A23
    isplitl [A24]; · iexists _; iexact A24
    isplitl [A25]; · iexists _; iexact A25
    isplitl [A26]; · iexists _; iexact A26
    isplitl [A27]; · iexists _; iexact A27
    isplitl [A28]; · iexists _; iexact A28
    isplitl [A29]; · iexists _; iexact A29
    isplitl [A30]; · iexists _; iexact A30
    iexists _; iexact A31
  isplitl [R0i R0o R1i R1o R2i R2o R3i R3o R4i R4o]
  · isplitl [R0i]; · iexact R0i
    isplitl [R0o]; · iexact R0o
    isplitl [R1i]; · iexact R1i
    isplitl [R1o]; · iexact R1o
    isplitl [R2i]; · iexact R2i
    isplitl [R2o]; · iexact R2o
    isplitl [R3i]; · iexact R3i
    isplitl [R3o]; · iexact R3o
    isplitl [R4i]; · iexact R4i
    iexact R4o
  iexact Ho

end

end Cert.KernelIdeal
-- ==== Proof.Run.lean ====
/-
  The launch: the kernel's one region run on what @main hands it, and what the run leaves in memory.
-/
module

public import proofs.«01_k».proof.Proof.Body
public import proofs.«01_k».proof.Proof.Gen.KernelIdeal.Frame

public import Idealize.ShloMosaic.Lib.Pipeline.ValueKit.Point

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Ops Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- A memref held is a memref owned. -/
theorem holds_owns (c : Dev nD) {sp : Space} {s : Shape} {e : EltTy} (M : Memref sig .tc sp s e) (q : PosShare TreeShare) (v : s.Idx → Elt F e) :
    (owns (c : Thread nD τ) M q v : sProp 𝕄) ⊢ holds c M q v := by
  unfold owns holds
  iintro ⟨%f, %h, H⟩
  iexists f
  isplitl [H]; · iexact H
  ipureintro; exact h

theorem owns_holds (c : Dev nD) {sp : Space} {s : Shape} {e : EltTy} (M : Memref sig .tc sp s e) (q : PosShare TreeShare) (v : s.Idx → Elt F e) :
    holds c M q v ⊢ (owns (c : Thread nD τ) M q v : sProp 𝕄) := by
  unfold owns holds
  iintro ⟨%f, H, %h⟩
  iexists f
  isplitr; · ipureintro; exact h
  iexact H

/-- A whole buffer at stated contents is held reading them. -/
theorem whole_holds (c : Dev nD) (b : Ref sig .tc) (q : PosShare TreeShare) (f : b.ty.Contents (Elt F)) :
    (((c : Thread nD τ).loc b) ↦{q} f : sProp 𝕄) ⊢ holds c (Memref.whole b) q f := by
  rw [← owns_whole]; exact holds_owns c _ q f

theorem holds_whole (c : Dev nD) (b : Ref sig .tc) (q : PosShare TreeShare) (f : b.ty.Contents (Elt F)) :
    holds c (Memref.whole b) q f ⊢ (((c : Thread nD τ).loc b) ↦{q} f : sProp 𝕄) := by
  rw [← owns_whole]; exact owns_holds c _ q f

/-- A whole buffer at some contents is held reading something, and back. -/
theorem some_holds (c : Dev nD) (b : Ref sig .tc) :
    iprop(∃ f : Buf (Elt F) ((c : Thread nD τ).loc b), ((c : Thread nD τ).loc b) ↦{fullShare} f : sProp 𝕄) ⊢ iprop(∃ v, holds c (Memref.whole b) fullShare v) := by
  have h := whole_holds (F := F) c b fullShare
  iintro ⟨%f, H⟩
  iexists f
  iapply (h f) $$ H

theorem holds_some (c : Dev nD) (b : Ref sig .tc) :
    iprop(∃ v, holds c (Memref.whole b) fullShare v) ⊢ iprop(∃ f : Buf (Elt F) ((c : Thread nD τ).loc b), ((c : Thread nD τ).loc b) ↦{fullShare} f : sProp 𝕄) := by
  have h := holds_whole (F := F) c b fullShare
  iintro ⟨%f, H⟩
  iexists f
  iapply (h f) $$ H

/-! ## What the region is handed -/

/-- The body's transfer cells: two in and two out for each pipeline. -/
abbrev osem0 : Fin 20 → SemLoc sig := fun j => (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 20 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellOf cc0_scoped1 squeezes_S1_S_ 0)) 0 ∗ semVal ((c : Thread nD τ), SemLoc.dma (cellOf cc0_scoped1 squeezes_S1_S_ 1)) 0 ∗ semVal ((c : Thread nD τ), SemLoc.dma (cellOf cc0_scoped3 squeezes_S1_S_ 0)) 0 ∗ semVal ((c : Thread nD τ), SemLoc.dma (cellOf cc0_scoped3 squeezes_S1_S_ 1)) 0 ∗ semVal ((c : Thread nD τ), SemLoc.dma (cellOf cc0_scoped5 squeezes_S1_S_ 0)) 0 ∗ semVal ((c : Thread nD τ), SemLoc.dma (cellOf cc0_scoped5 squeezes_S1_S_ 1)) 0 ∗ semVal ((c : Thread nD τ), SemLoc.dma (cellOf cc0_scoped7 squeezes_S1_S_ 0)) 0 ∗ semVal ((c : Thread nD τ), SemLoc.dma (cellOf cc0_scoped7 squeezes_S1_S_ 1)) 0 ∗ semVal ((c : Thread nD τ), SemLoc.dma (cellOf cc0_scoped9 squeezes_S1_S_ 0)) 0 ∗ semVal ((c : Thread nD τ), SemLoc.dma (cellOf cc0_scoped9 squeezes_S1_S_ 1)) 0 ∗ semVal ((c : Thread nD τ), SemLoc.dma (cellOf cc0_scoped11 squeezes_S1_S_ 0)) 0 ∗ semVal ((c : Thread nD τ), SemLoc.dma (cellOf cc0_scoped11 squeezes_S1_S_ 1)) 0 ∗ semVal ((c : Thread nD τ), SemLoc.dma (cellOf cc0_scoped13 squeezes_S1_S_ 0)) 0 ∗ semVal ((c : Thread nD τ), SemLoc.dma (cellOf cc0_scoped13 squeezes_S1_S_ 1)) 0 ∗ semVal ((c : Thread nD τ), SemLoc.dma (cellOf cc0_scoped15 squeezes_S1_S_ 0)) 0 ∗ semVal ((c : Thread nD τ), SemLoc.dma (cellOf cc0_scoped15 squeezes_S1_S_ 1)) 0 ∗ semVal ((c : Thread nD τ), SemLoc.dma (cellOf cc0_scoped17 squeezes_S1_S_ 0)) 0 ∗ semVal ((c : Thread nD τ), SemLoc.dma (cellOf cc0_scoped17 squeezes_S1_S_ 1)) 0 ∗ semVal ((c : Thread nD τ), SemLoc.dma (cellOf cc0_scoped19 squeezes_S1_S_ 0)) 0 ∗ semVal ((c : Thread nD τ), SemLoc.dma (cellOf cc0_scoped19 squeezes_S1_S_ 1)) 0) := by
  rw [Pipeline.ownSems0_eq_of_list c osem0 [0, 1, 2, 3, 4, 5, 6, 7, 8, 9, 10, 11, 12, 13, 14, 15, 16, 17, 18, 19] (by decide) (by decide)]; rfl

/-- What the transfers only read: the transposed columns. -/
def H0 : Finset (Ref sig .tc) := {main_v13}
theorem H0_sub : H0 ⊆ Pipeline.restRefs sig spec0 := by decide
/-- What the transfers write: the result's columns and the four layers' values before the activation. -/
def R0 : Finset (Ref sig .tc) := {main_v16_0, main_v16_1, main_v16_2, main_v16_3, main_v16_4}
theorem R0_sub : R0 ⊆ Pipeline.restRefs sig spec0 \ H0 := by decide

/-- The kernel's inputs as @main leaves them. -/
def ins (c : Dev nD) : In F where
  x := V m c main_v13
  xr := iblk m c 0 t0_0
  wg1 := iblk m c 1 t0_0
  wg2 := iblk m c 2 t0_0
  wg3 := iblk m c 3 t0_0
  wg4 := iblk m c 4 t0_0
  wl1 := iblk m c 5 t0_0
  wl2 := iblk m c 6 t0_0
  wl3 := iblk m c 7 t0_0
  wl4 := iblk m c 8 t0_0
  bg1 := iblk m c 9 t0_0
  bg2 := iblk m c 10 t0_0
  bg3 := iblk m c 11 t0_0
  bg4 := iblk m c 12 t0_0

/-- What the region leaves in the buffers its transfers write. -/
def G (c : Dev nD) : (b : Ref sig .tc) → Buf (Elt F) ((c : Thread nD τ).loc b) :=

  Function.update (Function.update (Function.update (Function.update (Function.update (V m c) main_v16_0 (ins m c).pred) main_v16_1 (ins m c).u1) main_v16_2 (ins m c).u2) main_v16_3 (ins m c).u3) main_v16_4 (ins m c).u4

theorem G_pred (c : Dev nD) : G m c main_v16_0 = (ins m c).pred := by
  unfold G; rw [Function.update_of_ne (by decide), Function.update_of_ne (by decide), Function.update_of_ne (by decide), Function.update_of_ne (by decide), Function.update_self]

theorem G_u1 (c : Dev nD) : G m c main_v16_1 = (ins m c).u1 := by
  unfold G; rw [Function.update_of_ne (by decide), Function.update_of_ne (by decide), Function.update_of_ne (by decide), Function.update_self]

theorem G_u2 (c : Dev nD) : G m c main_v16_2 = (ins m c).u2 := by
  unfold G; rw [Function.update_of_ne (by decide), Function.update_of_ne (by decide), Function.update_self]

theorem G_u3 (c : Dev nD) : G m c main_v16_3 = (ins m c).u3 := by
  unfold G; rw [Function.update_of_ne (by decide), Function.update_self]

theorem G_u4 (c : Dev nD) : G m c main_v16_4 = (ins m c).u4 := by
  unfold G; rw [Function.update_self]

theorem readPts0_eq (c : Dev nD) : (bigSep H0 (fun b => ((c : Thread nD τ).loc b) ↦{fullShare} V m c b) : sProp 𝕄)
      = (((c : Thread nD τ).loc main_v13) ↦{fullShare} V m c main_v13) := by
  rw [BI.bigSep_eq_bigSepL_of_eq [main_v13] (by decide) (by decide)]; rfl
theorem writePts0_eq (c : Dev nD) (g : (b : Ref sig .tc) → Buf (Elt F) ((c : Thread nD τ).loc b)) :
    (bigSep R0 (fun b => ((c : Thread nD τ).loc b) ↦{fullShare} g b) : sProp 𝕄)
      = iprop((((c : Thread nD τ).loc main_v16_0) ↦{fullShare} g main_v16_0) ∗ (((c : Thread nD τ).loc main_v16_1) ↦{fullShare} g main_v16_1) ∗ (((c : Thread nD τ).loc main_v16_2) ↦{fullShare} g main_v16_2) ∗ (((c : Thread nD τ).loc main_v16_3) ↦{fullShare} g main_v16_3) ∗ (((c : Thread nD τ).loc main_v16_4) ↦{fullShare} g main_v16_4)) := by
  rw [BI.bigSep_eq_bigSepL_of_eq [main_v16_0, main_v16_1, main_v16_2, main_v16_3, main_v16_4] (by decide) (by decide)]; rfl

/-! ## The region's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (ins m c).predr
    | ⟨_ + 14, h⟩ => absurd h (Nat.not_lt_of_ge (Nat.le_add_left _ _))
  Φ t := Pipeline.ΦDRV osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

theorem after0_2 (c : Dev nD) (t : Fin cfg0.N) : (dats m 0 c).after 2 t = iblk m c 2 t := by dsimp only [dats]

theorem after0_3 (c : Dev nD) (t : Fin cfg0.N) : (dats m 0 c).after 3 t = iblk m c 3 t := by dsimp only [dats]

theorem after0_4 (c : Dev nD) (t : Fin cfg0.N) : (dats m 0 c).after 4 t = iblk m c 4 t := by dsimp only [dats]

theorem after0_5 (c : Dev nD) (t : Fin cfg0.N) : (dats m 0 c).after 5 t = iblk m c 5 t := by dsimp only [dats]

theorem after0_6 (c : Dev nD) (t : Fin cfg0.N) : (dats m 0 c).after 6 t = iblk m c 6 t := by dsimp only [dats]

theorem after0_7 (c : Dev nD) (t : Fin cfg0.N) : (dats m 0 c).after 7 t = iblk m c 7 t := by dsimp only [dats]

theorem after0_8 (c : Dev nD) (t : Fin cfg0.N) : (dats m 0 c).after 8 t = iblk m c 8 t := by dsimp only [dats]

theorem after0_9 (c : Dev nD) (t : Fin cfg0.N) : (dats m 0 c).after 9 t = iblk m c 9 t := by dsimp only [dats]

theorem after0_10 (c : Dev nD) (t : Fin cfg0.N) : (dats m 0 c).after 10 t = iblk m c 10 t := by dsimp only [dats]

theorem after0_11 (c : Dev nD) (t : Fin cfg0.N) : (dats m 0 c).after 11 t = iblk m c 11 t := by dsimp only [dats]

theorem after0_12 (c : Dev nD) (t : Fin cfg0.N) : (dats m 0 c).after 12 t = iblk m c 12 t := by dsimp only [dats]

theorem after0_13 (c : Dev nD) (t : Fin cfg0.N) : (dats m 0 c).after 13 t = (ins m c).predr := by dsimp only [dats]

/-- What an input window's staging buffer holds when the body is entered, given that the body leaves the block in place. -/
theorem before_in (c : Dev nD) (w : Fin cfg0.W) (hw : (cfg0.win w).isOut = false) (hl : ∀ i, cfg0.idle w i = false)
    (hc : ∀ t t' : Fin cfg0.N, (cfg0.win w).clip (cfg0.grid.coords t) = (cfg0.win w).clip (cfg0.grid.coords t'))
    (hk : ∀ t, (cfg0.win w).cut (cfg0.grid.coords t) ((dats m 0 c).after w t) = iblk m c w t) (t : Fin cfg0.N) (d) :
    (dats m 0 c).before w t d = (cfg0.win w).fill (cfg0.grid.coords t) d (iblk m c w t) :=
  (dats m 0 c).before_in_eq_fetched w hw hl (fun t t' _ => hc t t') hk t d

theorem before0_0 (c : Dev nD) (t : Fin cfg0.N) (d) : (dats m 0 c).before 0 t d = iblk m c 0 t :=
  (before_in m c 0 rfl (fun _ => rfl) (fun _ _ => rfl) (fun t => by rw [after0_0]) t d).trans rfl

theorem before0_1 (c : Dev nD) (t : Fin cfg0.N) (d) : (dats m 0 c).before 1 t d = iblk m c 1 t :=
  (before_in m c 1 rfl (fun _ => rfl) (fun _ _ => rfl) (fun t => by rw [after0_1]) t d).trans rfl

theorem before0_2 (c : Dev nD) (t : Fin cfg0.N) (d) : (dats m 0 c).before 2 t d = iblk m c 2 t :=
  (before_in m c 2 rfl (fun _ => rfl) (fun _ _ => rfl) (fun t => by rw [after0_2]) t d).trans rfl

theorem before0_3 (c : Dev nD) (t : Fin cfg0.N) (d) : (dats m 0 c).before 3 t d = iblk m c 3 t :=
  (before_in m c 3 rfl (fun _ => rfl) (fun _ _ => rfl) (fun t => by rw [after0_3]) t d).trans rfl

theorem before0_4 (c : Dev nD) (t : Fin cfg0.N) (d) : (dats m 0 c).before 4 t d = iblk m c 4 t :=
  (before_in m c 4 rfl (fun _ => rfl) (fun _ _ => rfl) (fun t => by rw [after0_4]) t d).trans rfl

theorem before0_5 (c : Dev nD) (t : Fin cfg0.N) (d) : (dats m 0 c).before 5 t d = iblk m c 5 t :=
  (before_in m c 5 rfl (fun _ => rfl) (fun _ _ => rfl) (fun t => by rw [after0_5]) t d).trans rfl

theorem before0_6 (c : Dev nD) (t : Fin cfg0.N) (d) : (dats m 0 c).before 6 t d = iblk m c 6 t :=
  (before_in m c 6 rfl (fun _ => rfl) (fun _ _ => rfl) (fun t => by rw [after0_6]) t d).trans rfl

theorem before0_7 (c : Dev nD) (t : Fin cfg0.N) (d) : (dats m 0 c).before 7 t d = iblk m c 7 t :=
  (before_in m c 7 rfl (fun _ => rfl) (fun _ _ => rfl) (fun t => by rw [after0_7]) t d).trans rfl

theorem before0_8 (c : Dev nD) (t : Fin cfg0.N) (d) : (dats m 0 c).before 8 t d = iblk m c 8 t :=
  (before_in m c 8 rfl (fun _ => rfl) (fun _ _ => rfl) (fun t => by rw [after0_8]) t d).trans rfl

theorem before0_9 (c : Dev nD) (t : Fin cfg0.N) (d) : (dats m 0 c).before 9 t d = iblk m c 9 t :=
  (before_in m c 9 rfl (fun _ => rfl) (fun _ _ => rfl) (fun t => by rw [after0_9]) t d).trans rfl

theorem before0_10 (c : Dev nD) (t : Fin cfg0.N) (d) : (dats m 0 c).before 10 t d = iblk m c 10 t :=
  (before_in m c 10 rfl (fun _ => rfl) (fun _ _ => rfl) (fun t => by rw [after0_10]) t d).trans rfl

theorem before0_11 (c : Dev nD) (t : Fin cfg0.N) (d) : (dats m 0 c).before 11 t d = iblk m c 11 t :=
  (before_in m c 11 rfl (fun _ => rfl) (fun _ _ => rfl) (fun t => by rw [after0_11]) t d).trans rfl

theorem before0_12 (c : Dev nD) (t : Fin cfg0.N) (d) : (dats m 0 c).before 12 t d = iblk m c 12 t :=
  (before_in m c 12 rfl (fun _ => rfl) (fun _ _ => rfl) (fun t => by rw [after0_12]) t d).trans rfl

/-! ## The body at its one point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [after0_0, after0_1, after0_2, after0_3, after0_4, after0_5, after0_6, after0_7, after0_8, after0_9, after0_10, after0_11, after0_12, after0_13]
  simp only [before0_0, before0_1, before0_2, before0_3, before0_4, before0_5, before0_6, before0_7, before0_8, before0_9, before0_10, before0_11, before0_12]
  rw [show (dats m 0 c).Φ t0_0.castSucc = Pipeline.ΦDRV osem0 spec0 H0 R0 (V m) (V m) c from rfl,
    show (dats m 0 c).Φ t0_0.succ = Pipeline.ΦDRV osem0 spec0 H0 R0 (V m) (G m) c from rfl]
  unfold Pipeline.ΦDRV
  rw [scopedRest0_eq, ownSems00_eq, readPts0_eq, writePts0_eq, writePts0_eq, G_pred, G_u1, G_u2, G_u3, G_u4]
  unfold Dat.owesAt Pipeline.owesWithin
  rw [show (dats m 0 c).owed t0_0.castSucc = 0 from rfl, show (dats m 0 c).owed t0_0.succ = 0 from rfl]
  have ho := fun {sp : Space} {s : Shape} {e : EltTy} (M : Memref sig .tc sp s e) (v : s.Idx → Elt F e) => holds_owns c M fullShare v
  have hi := fun {sp : Space} {s : Shape} {e : EltTy} (M : Memref sig .tc sp s e) (v : s.Idx → Elt F e) => owns_holds c M fullShare v
  have hs := some_holds (F := F) c
  have hb := holds_some (F := F) c
  have hw := fun (b : Ref sig .tc) (f : b.ty.Contents (Elt F)) => whole_holds c b fullShare f
  have hv := fun (b : Ref sig .tc) (f : b.ty.Contents (Elt F)) => holds_whole c b fullShare f
  iintro ⟨⟨⟨S0, S1, S2, S3, S4, S5, S6, S7, S8, S9, S10, S11, D0, D1, D2, D3, D4, D5, D6, D7, D8, D9⟩, ⟨Q0, Q1, Q2, Q3, Q4, Q5, Q6, Q7, Q8, Q9, Q10, Q11, Q12, Q13, Q14, Q15, Q16, Q17, Q18, Q19⟩, X, U0, U1, U2, U3, U4⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩⟩
  iapply (wp_wand_r _ _ _)
  isplitl [S0 S1 S2 S3 S4 S5 S6 S7 S8 S9 S10 S11 D0 D1 D2 D3 D4 D5 D6 D7 D8 D9 Q0 Q1 Q2 Q3 Q4 Q5 Q6 Q7 Q8 Q9 Q10 Q11 Q12 Q13 Q14 Q15 Q16 Q17 Q18 Q19 X U0 U1 U2 U3 U4 HW W0 W1 W2 W3 W4 W5 W6 W7 W8 W9 W10 W11 W12 W13]
  · iapply (kernel_run (defs := defs₀ (F := F)) Variants.none c none fullShare (ins m c))
    isplitl [X W0 W1 W2 W3 W4 W5 W6 W7 W8 W9 W10 W11 W12]
    · isplitl [X]; · iapply (hw main_v13 _) $$ X
      isplitl [W0]; · iapply (ho (st0_0 t0_0) _) $$ W0
      isplitl [W1]; · iapply (ho (st0_1 t0_0) _) $$ W1
      isplitl [W2]; · iapply (ho (st0_2 t0_0) _) $$ W2
      isplitl [W3]; · iapply (ho (st0_3 t0_0) _) $$ W3
      isplitl [W4]; · iapply (ho (st0_4 t0_0) _) $$ W4
      isplitl [W5]; · iapply (ho (st0_5 t0_0) _) $$ W5
      isplitl [W6]; · iapply (ho (st0_6 t0_0) _) $$ W6
      isplitl [W7]; · iapply (ho (st0_7 t0_0) _) $$ W7
      isplitl [W8]; · iapply (ho (st0_8 t0_0) _) $$ W8
      isplitl [W9]; · iapply (ho (st0_9 t0_0) _) $$ W9
      isplitl [W10]; · iapply (ho (st0_10 t0_0) _) $$ W10
      isplitl [W11]; · iapply (ho (st0_11 t0_0) _) $$ W11
      iapply (ho (st0_12 t0_0) _) $$ W12
    isplitl [U0 U1 U2 U3 U4 W13]
    · isplitl [U0]; · iexists _; iapply (hw main_v16_0 _) $$ U0
      isplitl [U1]; · iexists _; iapply (hw main_v16_1 _) $$ U1
      isplitl [U2]; · iexists _; iapply (hw main_v16_2 _) $$ U2
      isplitl [U3]; · iexists _; iapply (hw main_v16_3 _) $$ U3
      isplitl [U4]; · iexists _; iapply (hw main_v16_4 _) $$ U4
      iexists _; iapply (ho (st0_13 t0_0) _) $$ W13
    isplitl [S0 S1 S2 S3 S4 S5 S6 S7 S8 S9 S10 S11]
    · isplitl [S0]; · iapply (hs cc0_scratch0) $$ S0
      isplitl [S1]; · iapply (hs cc0_scratch1) $$ S1
      isplitl [S2]; · iapply (hs cc0_scratch2) $$ S2
      isplitl [S3]; · iapply (hs cc0_scratch3) $$ S3
      isplitl [S4]; · iapply (hs cc0_scratch4) $$ S4
      isplitl [S5]; · iapply (hs cc0_scratch5) $$ S5
      isplitl [S6]; · iapply (hs cc0_scratch6) $$ S6
      isplitl [S7]; · iapply (hs cc0_scratch7) $$ S7
      isplitl [S8]; · iapply (hs cc0_scratch8) $$ S8
      isplitl [S9]; · iapply (hs cc0_scratch9) $$ S9
      isplitl [S10]; · iapply (hs cc0_scratch10) $$ S10
      iapply (hs cc0_scratch11) $$ S11
    isplitl [D0 D1 D2 D3 D4 D5 D6 D7 D8 D9 Q0 Q1 Q2 Q3 Q4 Q5 Q6 Q7 Q8 Q9 Q10 Q11 Q12 Q13 Q14 Q15 Q16 Q17 Q18 Q19]
    · unfold ring
      isplitl [D0 Q0 Q1]
      · isplitl [D0]; · iapply (hs cc0_scoped0) $$ D0
        isplitl [Q0]; · iexact Q0
        iexact Q1
      isplitl [D1 Q2 Q3]
      · isplitl [D1]; · iapply (hs cc0_scoped2) $$ D1
        isplitl [Q2]; · iexact Q2
        iexact Q3
      isplitl [D2 Q4 Q5]
      · isplitl [D2]; · iapply (hs cc0_scoped4) $$ D2
        isplitl [Q4]; · iexact Q4
        iexact Q5
      isplitl [D3 Q6 Q7]
      · isplitl [D3]; · iapply (hs cc0_scoped6) $$ D3
        isplitl [Q6]; · iexact Q6
        iexact Q7
      isplitl [D4 Q8 Q9]
      · isplitl [D4]; · iapply (hs cc0_scoped8) $$ D4
        isplitl [Q8]; · iexact Q8
        iexact Q9
      isplitl [D5 Q10 Q11]
      · isplitl [D5]; · iapply (hs cc0_scoped10) $$ D5
        isplitl [Q10]; · iexact Q10
        iexact Q11
      isplitl [D6 Q12 Q13]
      · isplitl [D6]; · iapply (hs cc0_scoped12) $$ D6
        isplitl [Q12]; · iexact Q12
        iexact Q13
      isplitl [D7 Q14 Q15]
      · isplitl [D7]; · iapply (hs cc0_scoped14) $$ D7
        isplitl [Q14]; · iexact Q14
        iexact Q15
      isplitl [D8 Q16 Q17]
      · isplitl [D8]; · iapply (hs cc0_scoped16) $$ D8
        isplitl [Q16]; · iexact Q16
        iexact Q17
      isplitl [D9]; · iapply (hs cc0_scoped18) $$ D9
      isplitl [Q18]; · iexact Q18
      iexact Q19
    iexists W; iexact HW
  iintro %_ ⟨⟨X, W0, W1, W2, W3, W4, W5, W6, W7, W8, W9, W10, W11, W12⟩, ⟨U0, U1, U2, U3, U4, W13⟩, ⟨S0, S1, S2, S3, S4, S5, S6, S7, S8, S9, S10, S11⟩, ⟨R0, R1, R2, R3, R4, R5, R6, R7, R8, R9⟩, %W', HW⟩
  unfold ring
  icases R0 with ⟨D0, Q0, Q1⟩
  icases R1 with ⟨D1, Q2, Q3⟩
  icases R2 with ⟨D2, Q4, Q5⟩
  icases R3 with ⟨D3, Q6, Q7⟩
  icases R4 with ⟨D4, Q8, Q9⟩
  icases R5 with ⟨D5, Q10, Q11⟩
  icases R6 with ⟨D6, Q12, Q13⟩
  icases R7 with ⟨D7, Q14, Q15⟩
  icases R8 with ⟨D8, Q16, Q17⟩
  icases R9 with ⟨D9, Q18, Q19⟩
  isplitl [S0 S1 S2 S3 S4 S5 S6 S7 S8 S9 S10 S11 D0 D1 D2 D3 D4 D5 D6 D7 D8 D9 Q0 Q1 Q2 Q3 Q4 Q5 Q6 Q7 Q8 Q9 Q10 Q11 Q12 Q13 Q14 Q15 Q16 Q17 Q18 Q19 X U0 U1 U2 U3 U4]
  · isplitl [S0 S1 S2 S3 S4 S5 S6 S7 S8 S9 S10 S11 D0 D1 D2 D3 D4 D5 D6 D7 D8 D9]
    · isplitl [S0]; · iapply (hb cc0_scratch0) $$ S0
      isplitl [S1]; · iapply (hb cc0_scratch1) $$ S1
      isplitl [S2]; · iapply (hb cc0_scratch2) $$ S2
      isplitl [S3]; · iapply (hb cc0_scratch3) $$ S3
      isplitl [S4]; · iapply (hb cc0_scratch4) $$ S4
      isplitl [S5]; · iapply (hb cc0_scratch5) $$ S5
      isplitl [S6]; · iapply (hb cc0_scratch6) $$ S6
      isplitl [S7]; · iapply (hb cc0_scratch7) $$ S7
      isplitl [S8]; · iapply (hb cc0_scratch8) $$ S8
      isplitl [S9]; · iapply (hb cc0_scratch9) $$ S9
      isplitl [S10]; · iapply (hb cc0_scratch10) $$ S10
      isplitl [S11]; · iapply (hb cc0_scratch11) $$ S11
      isplitl [D0]; · iapply (hb cc0_scoped0) $$ D0
      isplitl [D1]; · iapply (hb cc0_scoped2) $$ D1
      isplitl [D2]; · iapply (hb cc0_scoped4) $$ D2
      isplitl [D3]; · iapply (hb cc0_scoped6) $$ D3
      isplitl [D4]; · iapply (hb cc0_scoped8) $$ D4
      isplitl [D5]; · iapply (hb cc0_scoped10) $$ D5
      isplitl [D6]; · iapply (hb cc0_scoped12) $$ D6
      isplitl [D7]; · iapply (hb cc0_scoped14) $$ D7
      isplitl [D8]; · iapply (hb cc0_scoped16) $$ D8
      iapply (hb cc0_scoped18) $$ D9
    isplitl [Q0 Q1 Q2 Q3 Q4 Q5 Q6 Q7 Q8 Q9 Q10 Q11 Q12 Q13 Q14 Q15 Q16 Q17 Q18 Q19]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      iexact Q19
    isplitl [X]; · iapply (hv main_v13 _) $$ X
    isplitl [U0]; · iapply (hv main_v16_0 _) $$ U0
    isplitl [U1]; · iapply (hv main_v16_1 _) $$ U1
    isplitl [U2]; · iapply (hv main_v16_2 _) $$ U2
    isplitl [U3]; · iapply (hv main_v16_3 _) $$ U3
    iapply (hv main_v16_4 _) $$ U4
  isplitl [HW]
  · iexists W'; isplitr; · ipureintro; exact fun _ _ => Or.inl trivial
    iexact HW
  isplitl [W0]; · iapply (hi (st0_0 t0_0) _) $$ W0
  isplitl [W1]; · iapply (hi (st0_1 t0_0) _) $$ W1
  isplitl [W2]; · iapply (hi (st0_2 t0_0) _) $$ W2
  isplitl [W3]; · iapply (hi (st0_3 t0_0) _) $$ W3
  isplitl [W4]; · iapply (hi (st0_4 t0_0) _) $$ W4
  isplitl [W5]; · iapply (hi (st0_5 t0_0) _) $$ W5
  isplitl [W6]; · iapply (hi (st0_6 t0_0) _) $$ W6
  isplitl [W7]; · iapply (hi (st0_7 t0_0) _) $$ W7
  isplitl [W8]; · iapply (hi (st0_8 t0_0) _) $$ W8
  isplitl [W9]; · iapply (hi (st0_9 t0_0) _) $$ W9
  isplitl [W10]; · iapply (hi (st0_10 t0_0) _) $$ W10
  isplitl [W11]; · iapply (hi (st0_11 t0_0) _) $$ W11
  isplitl [W12]; · iapply (hi (st0_12 t0_0) _) $$ W12
  iapply (hi (st0_13 t0_0) _) $$ W13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers outside the region's windows hold at the end. -/
abbrev final (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD, ∀ b ∈ Pipeline.restRefs sig spec0,
      r.2.mem ((c.tc : Thread nD τ).loc b) = final m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := main_around m Variants.none) (hA := A_eq m) (hin := fun _ => .rfl) (hout := fun _ => .rfl)
    (Q' := _) (hQ' := fun r h => ⟨fun c b hb => (h.1 c).2 b hb, h.2⟩)

/-- An argument is neither written by a host operation nor by the region. -/
theorem final_kept (c : Dev nD) (b : Ref sig .tc) (h : b ∉ [main_v17, main_v18]) (hw : ∀ w, Pipeline.arrRef spec0 w ≠ b) (hr : b ∉ R0) :
    final m c (Proc.devRef .tc b) = V m c b := by
  unfold final
  rw [StableHlo.after_of_writes_sub (W := [main_v17, main_v18]) _ _ (StableHlo.forall_writes_sub_of_map rfl) h,
    Pipeline.withArrays_of_ne _ c _ _ b hw, Pipeline.withR_of_not_mem _ _ _ _ b hr]

/-- The kernel's result: the columns and the remainder side by side, transposed back. -/
def out (c : Dev nD) : Vec F S20000x1 .f32 :=
  transpose S20000x1 [1, 0] (concatenate S1x20000 1 [⟨S1x19968, (ins m c).pred⟩, ⟨S1x32, (ins m c).predr⟩] concatenates_S1x19968_S1x32_S1x20000_d1) transposes_S1x20000_S20000x1_1_0

/-- A whole-array window's one block is the array. -/
theorem emb_whole {s : Shape} {e : EltTy} {cs : CoreSpace} (arr : Memref sig .tc .hbm s e) (io sy : Bool)
    (stage : Memref sig .tc (.core cs) ⟨s.rank, s.size⟩ e) (sem : DmaSem sig) (ha : arr.IsWhole) (hs : stage.IsWhole) (t : Fin Pipeline.Grid.none.N)
    (j : s.Idx) : (((Window.whole arr io sy stage sem ha hs).blk t).view.emb j) = arr.view.emb j := by
  show arr.view.emb _ = _
  congr 1
  funext a
  apply Fin.ext
  show 0 * s.size a + 1 * (j a).val = (j a).val
  omega

theorem read_whole {s : Shape} {e : EltTy} {cs : CoreSpace} (arr : Memref sig .tc .hbm s e) (io sy : Bool)
    (stage : Memref sig .tc (.core cs) ⟨s.rank, s.size⟩ e) (sem : DmaSem sig) (ha : arr.IsWhole) (hs : stage.IsWhole) (t : Fin Pipeline.Grid.none.N)
    (f : arr.view.ty.Contents (Elt F)) : ((Window.whole arr io sy stage sem ha hs).blk t).view.read (Elt F) f = arr.view.read (Elt F) f := by
  funext j
  rw [View.read_apply, View.read_apply]
  congr 2
  exact emb_whole arr io sy stage sem ha hs t j

/-! So each input is its array as @main leaves it. -/

theorem ins_xr (c : Dev nD) : (ins m c).xr = V m c main_v15 :=
  (show iblk m c 0 t0_0 = V m c main_v15 from
    read_whole (Memref.whole main_v15) false false (stage0_0 0) (sem0_0 0) (Memref.isWhole_whole _) (hstage0_0 0) t0_0 _)
theorem ins_wg1 (c : Dev nD) : (ins m c).wg1 = V m c main_v0 :=
  (show iblk m c 1 t0_0 = V m c main_v0 from
    read_whole (Memref.whole main_v0) false false (stage0_1 0) (sem0_1 0) (Memref.isWhole_whole _) (hstage0_1 0) t0_0 _)
theorem ins_wg2 (c : Dev nD) : (ins m c).wg2 = V m c main_v1 :=
  (show iblk m c 2 t0_0 = V m c main_v1 from
    read_whole (Memref.whole main_v1) false false (stage0_2 0) (sem0_2 0) (Memref.isWhole_whole _) (hstage0_2 0) t0_0 _)
theorem ins_wg3 (c : Dev nD) : (ins m c).wg3 = V m c main_v2 :=
  (show iblk m c 3 t0_0 = V m c main_v2 from
    read_whole (Memref.whole main_v2) false false (stage0_3 0) (sem0_3 0) (Memref.isWhole_whole _) (hstage0_3 0) t0_0 _)
theorem ins_wg4 (c : Dev nD) : (ins m c).wg4 = V m c main_v3 :=
  (show iblk m c 4 t0_0 = V m c main_v3 from
    read_whole (Memref.whole main_v3) false false (stage0_4 0) (sem0_4 0) (Memref.isWhole_whole _) (hstage0_4 0) t0_0 _)
theorem ins_wl1 (c : Dev nD) : (ins m c).wl1 = V m c main_v4 :=
  (show iblk m c 5 t0_0 = V m c main_v4 from
    read_whole (Memref.whole main_v4) false false (stage0_5 0) (sem0_5 0) (Memref.isWhole_whole _) (hstage0_5 0) t0_0 _)
theorem ins_wl2 (c : Dev nD) : (ins m c).wl2 = V m c main_v5 :=
  (show iblk m c 6 t0_0 = V m c main_v5 from
    read_whole (Memref.whole main_v5) false false (stage0_6 0) (sem0_6 0) (Memref.isWhole_whole _) (hstage0_6 0) t0_0 _)
theorem ins_wl3 (c : Dev nD) : (ins m c).wl3 = V m c main_v6 :=
  (show iblk m c 7 t0_0 = V m c main_v6 from
    read_whole (Memref.whole main_v6) false false (stage0_7 0) (sem0_7 0) (Memref.isWhole_whole _) (hstage0_7 0) t0_0 _)
theorem ins_wl4 (c : Dev nD) : (ins m c).wl4 = V m c main_v7 :=
  (show iblk m c 8 t0_0 = V m c main_v7 from
    read_whole (Memref.whole main_v7) false false (stage0_8 0) (sem0_8 0) (Memref.isWhole_whole _) (hstage0_8 0) t0_0 _)
theorem ins_bg1 (c : Dev nD) : (ins m c).bg1 = V m c main_v8 :=
  (show iblk m c 9 t0_0 = V m c main_v8 from
    read_whole (Memref.whole main_v8) false false (stage0_9 0) (sem0_9 0) (Memref.isWhole_whole _) (hstage0_9 0) t0_0 _)
theorem ins_bg2 (c : Dev nD) : (ins m c).bg2 = V m c main_v9 :=
  (show iblk m c 10 t0_0 = V m c main_v9 from
    read_whole (Memref.whole main_v9) false false (stage0_10 0) (sem0_10 0) (Memref.isWhole_whole _) (hstage0_10 0) t0_0 _)
theorem ins_bg3 (c : Dev nD) : (ins m c).bg3 = V m c main_v10 :=
  (show iblk m c 11 t0_0 = V m c main_v10 from
    read_whole (Memref.whole main_v10) false false (stage0_11 0) (sem0_11 0) (Memref.isWhole_whole _) (hstage0_11 0) t0_0 _)
theorem ins_bg4 (c : Dev nD) : (ins m c).bg4 = V m c main_v11 :=
  (show iblk m c 12 t0_0 = V m c main_v11 from
    read_whole (Memref.whole main_v11) false false (stage0_12 0) (sem0_12 0) (Memref.isWhole_whole _) (hstage0_12 0) t0_0 _)

/-- The region's one result window ends holding what the body left in it. -/
theorem arr_predr (c : Dev nD) : (dats m 0 c).arrAt 13 cfg0.N = (ins m c).predr := by
  refine (dats m 0 c).arrAt_eq_of_covers 13 _ (by decide +kernel) fun t hf y => ?_
  obtain rfl : t = t0_0 := fin_N0 t
  blk_simp
  rw [after0_13]
  exact congrArg _ (emb_whole (Memref.whole main_v16_5) true false (stage0_13 0) (sem0_13 0) (Memref.isWhole_whole _) (hstage0_13 0) t0_0 y).symm

theorem final_out (c : Dev nD) : final m c (Proc.devRef .tc main_v18) = out m c := by
  have h0 : Pipeline.withArrays spec0 c (Pipeline.withR (V0 m c) R0 c (G m c)) (fun w => (dats m 0 c).arrAt w cfg0.N) (Proc.devRef .tc main_v16_0) = (ins m c).pred := by
    rw [Pipeline.withArrays_of_ne _ c _ _ main_v16_0 (by decide), Pipeline.withR_of_mem _ _ _ _ main_v16_0 (by decide), G_pred]
  have h5 : Pipeline.withArrays spec0 c (Pipeline.withR (V0 m c) R0 c (G m c)) (fun w => (dats m 0 c).arrAt w cfg0.N) (Proc.devRef .tc main_v16_5) = (ins m c).predr :=
    (Pipeline.withArrays_arr spec0 (by decide) c _ _ 13).trans (arr_predr m c)
  unfold final
  simp only [List.flatten_cons, List.flatten_nil, List.append_nil]
  rw [StableHlo.after_cons, StableHlo.after_cons, StableHlo.after_nil, StableHlo.unary_result, StableHlo.binary_result, h0, h5]
  rfl

/-- The kernel runs, leaves its arguments as they were, its result in place and every semaphore at zero. -/
theorem run : θ_run defs (onTc (τ := τ) (main (F := F))) ⟨m, fun _ => 0, ρ⟩ (fun r => (∀ c : Dev nD,
      (r.2.mem ((c.tc : Thread nD τ).loc main_v18) = out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono (fun r h => ⟨fun c => ?_, h.2⟩) (run_main m ρ)
  have k := fun (b : Ref sig .tc) (hb : b ∈ Pipeline.restRefs sig spec0) (h1 : b ∉ [main_v17, main_v18]) (hw : ∀ w, Pipeline.arrRef spec0 w ≠ b) (hr : b ∉ R0) =>
    (h.1 c b hb).trans (final_kept m c b h1 hw hr)
  refine ⟨(h.1 c main_v18 (Pipeline.mem_restRefs_of main_v18 (by decide) (by decide))).trans (final_out m c), ?_⟩
  exact ⟨(k main_arg0 (Pipeline.mem_restRefs_of main_arg0 (by decide) (by decide)) (by decide) (by decide) (by decide)).trans (V_main_arg0 m c),
    (k main_arg1 (Pipeline.mem_restRefs_of main_arg1 (by decide) (by decide)) (by decide) (by decide) (by decide)).trans (V_main_arg1 m c),
    (k main_arg2 (Pipeline.mem_restRefs_of main_arg2 (by decide) (by decide)) (by decide) (by decide) (by decide)).trans (V_main_arg2 m c),
    (k main_arg3 (Pipeline.mem_restRefs_of main_arg3 (by decide) (by decide)) (by decide) (by decide) (by decide)).trans (V_main_arg3 m c),
    (k main_arg4 (Pipeline.mem_restRefs_of main_arg4 (by decide) (by decide)) (by decide) (by decide) (by decide)).trans (V_main_arg4 m c),
    (k main_arg5 (Pipeline.mem_restRefs_of main_arg5 (by decide) (by decide)) (by decide) (by decide) (by decide)).trans (V_main_arg5 m c),
    (k main_arg6 (Pipeline.mem_restRefs_of main_arg6 (by decide) (by decide)) (by decide) (by decide) (by decide)).trans (V_main_arg6 m c),
    (k main_arg7 (Pipeline.mem_restRefs_of main_arg7 (by decide) (by decide)) (by decide) (by decide) (by decide)).trans (V_main_arg7 m c),
    (k main_arg8 (Pipeline.mem_restRefs_of main_arg8 (by decide) (by decide)) (by decide) (by decide) (by decide)).trans (V_main_arg8 m c),
    (k main_arg9 (Pipeline.mem_restRefs_of main_arg9 (by decide) (by decide)) (by decide) (by decide) (by decide)).trans (V_main_arg9 m c),
    (k main_arg10 (Pipeline.mem_restRefs_of main_arg10 (by decide) (by decide)) (by decide) (by decide) (by decide)).trans (V_main_arg10 m c),
    (k main_arg11 (Pipeline.mem_restRefs_of main_arg11 (by decide) (by decide)) (by decide) (by decide) (by decide)).trans (V_main_arg11 m c),
    (k main_arg12 (Pipeline.mem_restRefs_of main_arg12 (by decide) (by decide)) (by decide) (by decide) (by decide)).trans (V_main_arg12 m c)⟩

end Cert.KernelIdeal

end
-- ==== Proof.Frames.lean ====
/-
  The frames of the two kernels, off the one run.
-/
module

public import proofs.«01_k».proof.Defs
public import proofs.«01_k».proof.Proof.Run
public import proofs.«01_k».proof.Proof.Gen.Kernel
public import proofs.«01_k».proof.Proof.Gen.KernelIdeal

@[expose] public section

noncomputable section

namespace Cert.Claims

open Idealize.ShloMosaic Idealize.ShloMosaic.TcCoe Idealize.SL Idealize.SL.Sem

/-- The device's reading of a named constant: the bits it was printed with. -/
@[instance_reducible] def kernelNamed : Named Bits where
  named _ _ {φ} bits := Scalar.ofBits φ bits

/-- The printed kernel at any instance keeps its arguments and its semaphores. -/
theorem kept {F : FTy → Type} [FloatOps F] [Named F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0) :=
  (θ_run _ _ _).mono (fun r h => ⟨fun c => (h.1 c).2, h.2⟩) (Cert.KernelIdeal.run (F := F) m g)

theorem frame_pi : Cert.quiescent_KernelIdeal := fun m g _ => kept m g

/-! ## The kernel as printed

At the device's arithmetic the idealized text with the named constant read as its bits is the kernel as printed, so
the run above is a run of it. -/

section

attribute [local instance] kernelNamed

theorem main_eq : Cert.Kernel.main (F := Bits) = Cert.KernelIdeal.main (F := Bits) := rfl

set_option maxHeartbeats 4000000 in
theorem body_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  match l, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [body_eq]
  rfl

theorem frame_p : Cert.quiescent_Kernel := fun m g _ => by
  rw [defs_eq, main_eq]
  exact kept (F := Bits) m g

end

end Cert.Claims

end
-- ==== Proof.Math.lean ====
/-
  The mathematics of the network over the extended reals, and the operations both programs are made of read at an
  entry.  A layer's input is a function of a feature and a sample; `lin` is its linear part, `corr` the correction a
  layer subtracts (a second linear map of the mean over the samples), and `act` the activation.
-/
module

public import proofs.«01_k».proof.Proof.Pipe
public import Idealize.ShloMosaic.PureOps.Ideal.Laws
public import Idealize.ShloMosaic.Lib.IdealHost
public import Idealize.ShloMosaic.Lib.MatmulPlain
public import Idealize.ShloMosaic.Lib.StackMember
public import Idealize.ShloMosaic.Lib.KernelVsHost
public import Idealize.ShloMosaic.Lib.ValueLayout
public import Idealize.ShloMosaic.Lib.ValueLayoutCasts
public import Idealize.ShloMosaic.Lib.Pointwise

@[expose] public section

noncomputable section

namespace Cert.Net

open Idealize.ShloMosaic hiding ix1 ix2 ix3
open Idealize.ShloMosaic.ValueIdx
open Cert.Ops
open scoped BigOperators

/-- The activation: the identity above zero, `eˣ − 1` elsewhere. -/
def act (v : EReal) : EReal := Scalar.select (Ideal.cmp .ogt v 0) v (Ideal.exp v - 1)

/-- The linear part of a layer. -/
def lin {d e n : ℕ} (W : Fin e → Fin d → EReal) (b : Fin e → EReal) (h : Fin d → Fin n → EReal) (o : Fin e) (s : Fin n) : EReal :=
  (∑ k, W o k * h k s) + b o

/-- The mean of every feature over the samples, carried through a second linear map. -/
def corr {d e n : ℕ} (W : Fin e → Fin d → EReal) (h : Fin d → Fin n → EReal) (o : Fin e) : EReal :=
  ∑ k, W o k * ((∑ s, h k s) * ((20000⁻¹ : ℝ) : EReal))

/-- A layer. -/
def layer {d e n : ℕ} (W : Fin e → Fin d → EReal) (b : Fin e → EReal) (L : Fin e → Fin d → EReal) (h : Fin d → Fin n → EReal)
    (o : Fin e) (s : Fin n) : EReal :=
  act (lin W b h o s - corr L h o)

/-! ## The kernel's operations at an entry -/

section

variable {a b k : ℕ} {φ ψ : FTy}

/-- A block given a leading axis of size one and read without it is the block. -/
theorem cast_expand {s s' : Shape} {α : Type} (h : s'.numel = s.numel) (v : s'.Idx → α) (h' : s.ShapeCasts s') : shapeCast s' (expand h v) h' = v :=
  drop1_expand h v

theorem drop1_cast {s s' : Shape} {α : Type} (h : s'.numel = s.numel) (v : s'.Idx → α) (h' : s'.ShapeCasts s) : drop1 h (shapeCast s v h') = v := by
  refine (show drop1 h (shapeCast s v h') = shapeCast s' (shapeCast s v h') h from rfl).trans ?_
  rw [shapeCast_shapeCast]

/-- A column laid along every column reads its entry in the row. -/
theorem column_apply {α : Type} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h (ix2 i j) (ix2 i 0) fun ax => ?_
  match ax with
  | ⟨0, _⟩ =>
    show i.val = if a = 1 then 0 else i.val
    split
    · have := i.isLt; omega
    · rfl
  | ⟨1, _⟩ => rfl

theorem act_apply (u : FVec Ideal ⟨2, ![a, b]⟩ φ) (c : FVec Ideal ⟨2, ![a, 1]⟩ φ) (z w : Ideal φ) (hz : z = 0) (hw : w = 1)
    (h : (⟨2, ![a, 1]⟩ : Shape).Broadcasts ⟨2, ![a, b]⟩) (i : Fin a) (j : Fin b)
    {x : EReal} (hx : u (ix2 i j) = x) :
    select (cmpf .ogt (subf u (broadcastTo ⟨2, ![a, b]⟩ c h)) (broadcast ⟨2, ![a, b]⟩ z)) (subf u (broadcastTo ⟨2, ![a, b]⟩ c h))
      (subf (exp (subf u (broadcastTo ⟨2, ![a, b]⟩ c h))) (broadcast ⟨2, ![a, b]⟩ w)) (ix2 i j) = act (x - c (ix2 i 0)) := by
  subst hz hw hx
  show Scalar.select (Ideal.cmp .ogt (u (ix2 i j) - broadcastTo ⟨2, ![a, b]⟩ c h (ix2 i j)) 0) (u (ix2 i j) - broadcastTo ⟨2, ![a, b]⟩ c h (ix2 i j))
    (Ideal.exp (u (ix2 i j) - broadcastTo ⟨2, ![a, b]⟩ c h (ix2 i j)) - 1) = _
  rw [column_apply]; rfl

theorem product_apply (W : FVec Ideal ⟨2, ![a, k]⟩ φ) (v : FVec Ideal ⟨2, ![k, b]⟩ ψ) (i : Fin a) (j : Fin b) :
    matmul (DotDims.plain a k b) none W v (constant ⟨2, ![a, b]⟩ .f32 0x00000000#32) (ix2 i j) = ∑ x : Fin k, W (ix2 i x) * v (ix2 x j) := by
  show FloatOps.matmul (DotDims.plain a k b) none W v (constant ⟨2, ![a, b]⟩ .f32 0x00000000#32) (ix2 i j) = _
  rw [Ideal.matmul_plain_apply]
  show Ideal.ofBits .f32 0x00000000#32 + _ = _
  rw [Ideal.ofBits_zero_f32, zero_add]

theorem dense_apply (W : FVec Ideal ⟨2, ![a, k]⟩ φ) (v : FVec Ideal ⟨2, ![k, b]⟩ ψ) (c : FVec Ideal ⟨2, ![a, 1]⟩ .f32)
    (hW : (⟨2, ![a, k]⟩ : Shape).ShapeCasts ⟨2, ![a, k]⟩) (hc : (⟨2, ![a, 1]⟩ : Shape).ShapeCasts ⟨2, ![a, 1]⟩)
    (h : (⟨2, ![a, 1]⟩ : Shape).Broadcasts ⟨2, ![a, b]⟩) (i : Fin a) (j : Fin b) {x : Fin k → EReal} (hx : ∀ l, v (ix2 l j) = x l) :
    addf (matmul (DotDims.plain a k b) none (shapeCast ⟨2, ![a, k]⟩ W hW) v (constant ⟨2, ![a, b]⟩ .f32 0x00000000#32))
        (broadcastTo ⟨2, ![a, b]⟩ (shapeCast ⟨2, ![a, 1]⟩ c hc) h) (ix2 i j)
      = (∑ l : Fin k, W (ix2 i l) * x l) + c (ix2 i 0) := by
  rw [shapeCast_self, shapeCast_self]
  show matmul (DotDims.plain a k b) none W v (constant ⟨2, ![a, b]⟩ .f32 0x00000000#32) (ix2 i j) + broadcastTo ⟨2, ![a, b]⟩ c h (ix2 i j) = _
  rw [product_apply, column_apply]
  simp only [hx]

theorem rowSum_apply (s : FVec Ideal ⟨2, ![a, 1]⟩ .f32) (v : FVec Ideal ⟨2, ![a, b]⟩ .f32) (h : (⟨2, ![a, b]⟩ : Shape).Reduces [1] ⟨1, ![a]⟩)
    (hφ : FKind.Formats .f32) (hz : (0x00000000#32 : BitVec 32) = FKind.add.neutral .f32 hφ) (hs : (⟨1, ![a]⟩ : Shape).ShapeCasts ⟨2, ![a, 1]⟩)
    (ho : (⟨2, ![a, 1]⟩ : Shape).ShapeCasts ⟨2, ![a, 1]⟩) (i : Fin a) {x : Fin b → EReal} (hx : ∀ j, v (ix2 i j) = x j) :
    shapeCast ⟨2, ![a, 1]⟩ (addf s (shapeCast ⟨2, ![a, 1]⟩ (multiReduction .add [1] ⟨1, ![a]⟩ v 0x00000000#32 h hφ hz) hs)) ho (ix2 i 0)
      = s (ix2 i 0) + ∑ j : Fin b, x j := by
  rw [shapeCast_self]
  show s (ix2 i 0) + shapeCast ⟨2, ![a, 1]⟩ (multiReduction .add [1] ⟨1, ![a]⟩ v 0x00000000#32 h hφ hz) hs (ix2 i 0) = _
  rw [shapeCast_a_a1_apply, multiReduction_add_apply, Ideal.reduceAdd_def, Ideal.reduceAdd_r2_a1]
  exact congrArg (s (ix2 i 0) + ·) (Finset.sum_congr rfl fun j _ => hx j)

theorem mean_apply (W : FVec Ideal ⟨2, ![a, k]⟩ φ) (s : FVec Ideal ⟨2, ![k, 1]⟩ .f32) (w : Ideal .f32) (hw : w = ((20000⁻¹ : ℝ) : EReal))
    (hb : FTy.bf16.bits < FTy.f32.bits) (hW : (⟨2, ![a, k]⟩ : Shape).ShapeCasts ⟨2, ![a, k]⟩)
    (ho : (⟨2, ![a, 1]⟩ : Shape).ShapeCasts ⟨2, ![a, 1]⟩) (i : Fin a) :
    shapeCast ⟨2, ![a, 1]⟩ (matmul (DotDims.plain a k 1) none (shapeCast ⟨2, ![a, k]⟩ W hW) (truncf .bf16 (mulf s (broadcast ⟨2, ![k, 1]⟩ w)) hb)
        (constant ⟨2, ![a, 1]⟩ .f32 0x00000000#32)) ho (ix2 i 0)
      = ∑ x : Fin k, W (ix2 i x) * (s (ix2 x 0) * ((20000⁻¹ : ℝ) : EReal)) := by
  subst hw
  rw [shapeCast_self, shapeCast_self]
  exact product_apply W _ i 0

end

/-! ## The reference's operations at an entry -/

section

variable {a b k : ℕ}

theorem ofBits_20000 : Ideal.ofBits .f32 0x469C4000#32 = ((20000 : ℝ) : EReal) := by
  simp [Ideal.ofBits, Ideal.ieee, -EReal.coe_mul]; norm_num

theorem sel_act (v : EReal) :
    Scalar.select (Ideal.cmp .ogt v 0) v (1 * (Ideal.exp (Scalar.select (Ideal.cmp .ogt v 0) 0 v) - 1)) = act v := by
  unfold act Scalar.select
  split <;> simp

theorem one_row {α : Type} (x : (⟨1, ![b]⟩ : Shape).Idx → α) (h : (⟨1, ![b]⟩ : Shape).BroadcastsInDim ⟨2, ![1, b]⟩ ![1]) (j : Fin b) :
    broadcastInDim ⟨2, ![1, b]⟩ ![1] h x (ix2 0 j) = x (ix1 j) := by
  refine broadcastInDim_apply ![1] h x (ix2 0 j) (ix1 j) fun ax => ?_
  match ax with
  | ⟨0, _⟩ =>
    show j.val = if b = 1 then 0 else j.val
    split
    · have := j.isLt; omega
    · rfl

/-- The entries of an array by row and column, those of a vector, and those of an array whose rows are samples by feature and sample. -/
abbrev mat {a b : ℕ} (W : (⟨2, ![a, b]⟩ : Shape).Idx → EReal) (i : Fin a) (j : Fin b) : EReal := W (ix2 i j)
abbrev arr {a : ℕ} (b : (⟨1, ![a]⟩ : Shape).Idx → EReal) (i : Fin a) : EReal := b (ix1 i)
abbrev rows {a b : ℕ} (x : (⟨2, ![a, b]⟩ : Shape).Idx → EReal) (j : Fin b) (i : Fin a) : EReal := x (ix2 i j)

theorem ref_pre {n d e : ℕ} (x : FVec Ideal ⟨2, ![n, d]⟩ .f32) (W L : FVec Ideal ⟨2, ![e, d]⟩ .f32) (b : FVec Ideal ⟨1, ![e]⟩ .f32)
    (h1 h1' : (⟨2, ![e, d]⟩ : Shape).Transposes [1, 0] ⟨2, ![d, e]⟩) (h2 h2' : (⟨2, ![1, e]⟩ : Shape).BroadcastsInDim ⟨2, ![n, e]⟩ ![0, 1])
    (h3 : (⟨1, ![e]⟩ : Shape).BroadcastsInDim ⟨2, ![1, e]⟩ ![1]) (h4 : (⟨1, ![d]⟩ : Shape).BroadcastsInDim ⟨2, ![1, d]⟩ ![1])
    (h5 : (⟨2, ![n, d]⟩ : Shape).ReducesTo [0] ⟨1, ![d]⟩) (h6 : 0 < (⟨0, ![]⟩ : Shape).numel) (h7 : (⟨0, ![]⟩ : Shape).BroadcastsInDim ⟨2, ![1, d]⟩ ![])
    (s : Fin n) (o : Fin e) :
    subf (addf (Host.dotGeneral (DotDims.plain n d e) none x (transpose ⟨2, ![d, e]⟩ [1, 0] W h1))
        (broadcastInDim ⟨2, ![n, e]⟩ ![0, 1] h2 (broadcastInDim ⟨2, ![1, e]⟩ ![1] h3 b)))
      (broadcastInDim ⟨2, ![n, e]⟩ ![0, 1] h2' (Host.dotGeneral (DotDims.plain 1 d e) none
        (Host.divf (broadcastInDim ⟨2, ![1, d]⟩ ![1] h4 (Host.reduceAdd x (constant ⟨0, ![]⟩ .f32 0x00000000#32) h5 h6))
          (broadcastInDim ⟨2, ![1, d]⟩ ![] h7 (constant ⟨0, ![]⟩ .f32 0x469C4000#32)))
        (transpose ⟨2, ![d, e]⟩ [1, 0] L h1'))) (ix2 s o)
      = lin (mat W) (arr b) (rows x) o s - corr (mat L) (rows x) o := by
  have hl : Host.dotGeneral (DotDims.plain n d e) none x (transpose ⟨2, ![d, e]⟩ [1, 0] W h1) (ix2 s o) = ∑ k, W (ix2 o k) * x (ix2 s k) := by
    rw [StackMember.dotGeneral_plain_apply]
    exact Finset.sum_congr rfl fun k _ => by rw [transpose_ix2_apply, mul_comm]
  have hr : Host.dotGeneral (DotDims.plain 1 d e) none
        (Host.divf (broadcastInDim ⟨2, ![1, d]⟩ ![1] h4 (Host.reduceAdd x (constant ⟨0, ![]⟩ .f32 0x00000000#32) h5 h6))
          (broadcastInDim ⟨2, ![1, d]⟩ ![] h7 (constant ⟨0, ![]⟩ .f32 0x469C4000#32)))
        (transpose ⟨2, ![d, e]⟩ [1, 0] L h1') (ix2 0 o) = corr (mat L) (rows x) o := by
    rw [StackMember.dotGeneral_plain_apply]
    refine Finset.sum_congr rfl fun k _ => ?_
    rw [transpose_ix2_apply, mul_comm]
    refine congrArg (L (ix2 o k) * ·) ?_
    show Ideal.div (broadcastInDim ⟨2, ![1, d]⟩ ![1] h4 (Host.reduceAdd x (constant ⟨0, ![]⟩ .f32 0x00000000#32) h5 h6) (ix2 0 k))
      (Ideal.ofBits .f32 0x469C4000#32) = _
    rw [ofBits_20000, Ideal.div_coe (by norm_num), one_row, Host.reduceAdd_apply, Ideal.hostReduceAdd_def, Ideal.hostReduceAdd_r2_a0, one_div]
    show (Ideal.ofBits .f32 0x00000000#32 + _) * _ = _
    rw [Ideal.ofBits_zero_f32, zero_add]
    rfl
  rw [subf_apply, addf_apply]
  rw [broadcastInDim_oneRow_apply, broadcastInDim_oneRow_apply, one_row, hl, hr]
  rfl

theorem ref_act {s : Shape} (v : FVec Ideal s .f32) (h : (⟨0, ![]⟩ : Shape).BroadcastsInDim s ![]) (i : s.Idx) {w : EReal} (hv : v i = w) :
    select (cmpf .ogt v (broadcastInDim s ![] h (constant ⟨0, ![]⟩ .f32 0x00000000#32))) v
      (mulf (broadcastInDim s ![] h (constant ⟨0, ![]⟩ .f32 0x3F800000#32))
        (Host.expm1 (select (cmpf .ogt v (broadcastInDim s ![] h (constant ⟨0, ![]⟩ .f32 0x00000000#32)))
          (broadcastInDim s ![] h (id (constant ⟨0, ![]⟩ .f32 0x00000000#32))) v))) i = act w := by
  subst hv
  show Scalar.select (Ideal.cmp .ogt (v i) (Ideal.ofBits .f32 0x00000000#32)) (v i) (Ideal.ofBits .f32 0x3F800000#32 *
    (Ideal.exp (Scalar.select (Ideal.cmp .ogt (v i) (Ideal.ofBits .f32 0x00000000#32)) (Ideal.ofBits .f32 0x00000000#32) (v i)) - 1)) = _
  rw [Ideal.ofBits_zero_f32, Ideal.ofBits_one_f32, sel_act]

end

/-! ## Columns in blocks -/

section

variable {A B W n : ℕ}

/-- The column that is column `j` of block `k`. -/
def col (hW : n * B = W) (hn : 0 < n) (k : ℕ) (j : Fin B) : Fin W :=
  ⟨B * (k % n) + j.val, by
    have := Nat.mul_le_mul_left B (Nat.succ_le_of_lt (Nat.mod_lt k hn))
    rw [Nat.mul_succ] at this
    have := j.isLt
    rw [← hW, Nat.mul_comm n]; omega⟩

theorem colBlock_apply {α : Type} (hW : n * B = W) (hn : 0 < n) (g : (⟨2, ![A, W]⟩ : Shape).Idx → α) (k : ℕ) (i : Fin A) (j : Fin B) :
    colBlock hW hn g k (ix2 i j) = g (ix2 i (col hW hn k j)) := by
  unfold colBlock
  congr 1
  funext ax
  apply Fin.ext
  match ax with
  | ⟨0, _⟩ => show 0 + 1 * i.val = i.val; omega
  | ⟨1, _⟩ => show B * (k % n) + 1 * j.val = B * (k % n) + j.val; omega

theorem col_surj (hW : n * B = W) (hn : 0 < n) (w : Fin W) : ∃ k < n, ∃ j : Fin B, col hW hn k j = w := by
  have hw := w.isLt
  have hB : 0 < B := Nat.pos_of_ne_zero fun h => by subst h; omega
  have hk : w.val / B < n := Nat.div_lt_of_lt_mul (by rw [Nat.mul_comm, hW]; exact hw)
  refine ⟨w.val / B, hk, ⟨w.val % B, Nat.mod_lt _ hB⟩, Fin.ext ?_⟩
  show B * (w.val / B % n) + w.val % B = w.val
  rw [Nat.mod_eq_of_lt hk]; exact Nat.div_add_mod _ _

/-- An array put together of blocks has the entries its blocks have. -/
theorem blocks_apply {α : Type} [Nonempty α] (hW : n * B = W) (hn : 0 < n) (y : ℕ → (⟨2, ![A, B]⟩ : Shape).Idx → α) (g : Fin A → Fin W → α)
    (h : ∀ k i j, y k (ix2 i j) = g i (col hW hn k j)) (i : Fin A) (w : Fin W) : ofBlocks hW hn y (ix2 i w) = g i w := by
  obtain ⟨k, hk, j, rfl⟩ := col_surj hW hn w
  rw [← h, ← colBlock_ofBlocks hW hn y hk, colBlock_apply]

/-- A sum built up block by block is the sum over all columns. -/
theorem sum_blocks (hW : n * B = W) (hn : 0 < n) (g : Fin W → EReal) (s : ℕ → EReal) (h0 : s 0 = 0)
    (hs : ∀ k, s (k + 1) = s k + ∑ j : Fin B, g (col hW hn k j)) : s n = ∑ w, g w := by
  have hk : ∀ k, s k = ∑ x ∈ Finset.range k, ∑ j : Fin B, g (col hW hn x j) := fun k => by
    induction k with
    | zero => rw [h0]; rfl
    | succ k ih => rw [hs, ih, Finset.sum_range_succ]
  rw [hk, Finset.sum_range]
  subst hW
  rw [← Equiv.sum_comp finProdFinEquiv, Fintype.sum_prod_type]
  refine Finset.sum_congr rfl fun x _ => Finset.sum_congr rfl fun j _ => congrArg g (Fin.ext ?_)
  show B * (x.val % n) + j.val = j.val + B * x.val
  rw [Nat.mod_eq_of_lt x.isLt, Nat.add_comm]

end

/-! ## The columns a layer writes, and the correction of the next -/

/-- The samples of the first part and those of the last. -/
def lo (j : Fin 19968) : Fin 20000 := Fin.castAdd 32 j
def hi (j : Fin 32) : Fin 20000 := Fin.natAdd 19968 j

theorem sum_parts (g : Fin 20000 → EReal) : ∑ s, g s = (∑ j, g (lo j)) + ∑ j, g (hi j) := Fin.sum_univ_add (a := 19968) (b := 32) g

/-- The two parts of an array hold `H`. -/
def Parts {A : ℕ} (u : (⟨2, ![A, 19968]⟩ : Shape).Idx → EReal) (r : (⟨2, ![A, 32]⟩ : Shape).Idx → EReal) (H : Fin A → Fin 20000 → EReal) : Prop :=
  (∀ i j, u (ix2 i j) = H i (lo j)) ∧ ∀ i j, r (ix2 i j) = H i (hi j)

section

variable {d e B n : ℕ} {hW : n * B = 19968} {hn : 0 < n} {u : (⟨2, ![d, 19968]⟩ : Shape).Idx → EReal} {r : (⟨2, ![d, 32]⟩ : Shape).Idx → EReal}
  {G : Fin d → Fin 20000 → EReal} (hu : Parts u r G) (f : Fin d → EReal → EReal)

include hu

/-- The linear part of a layer, block by block and on the last columns. -/
theorem parts_lin {W : Fin e → Fin d → EReal} {b : Fin e → EReal} {y : ℕ → (⟨2, ![e, B]⟩ : Shape).Idx → EReal} {r' : (⟨2, ![e, 32]⟩ : Shape).Idx → EReal}
    (hy : ∀ k i j, y k (ix2 i j) = (∑ x, W i x * f x (colBlock hW hn u k (ix2 x j))) + b i)
    (hr : ∀ i j, r' (ix2 i j) = (∑ x, W i x * f x (r (ix2 x j))) + b i) :
    Parts (ofBlocks hW hn y) r' (lin W b fun x s => f x (G x s)) :=
  ⟨fun i w => blocks_apply hW hn y (fun i w => lin W b (fun x s => f x (G x s)) i (lo w))
      (fun k i j => by rw [hy]; simp only [colBlock_apply, hu.1]; rfl) i w,
    fun i j => by rw [hr]; simp only [hu.2]; rfl⟩

/-- An entry by entry function of the two parts. -/
theorem parts_map {y : ℕ → (⟨2, ![d, B]⟩ : Shape).Idx → EReal} {r' : (⟨2, ![d, 32]⟩ : Shape).Idx → EReal}
    (hy : ∀ k i j, y k (ix2 i j) = f i (colBlock hW hn u k (ix2 i j)))
    (hr : ∀ i j, r' (ix2 i j) = f i (r (ix2 i j))) :
    Parts (ofBlocks hW hn y) r' fun x s => f x (G x s) :=
  ⟨fun i w => blocks_apply hW hn y (fun i w => f i (G i (lo w))) (fun k i j => by rw [hy, colBlock_apply, hu.1]) i w,
    fun i j => by rw [hr, hu.2]⟩

/-- The correction, from the row sums of the blocks and of the last columns. -/
theorem parts_corr {L : Fin e → Fin d → EReal} {s : ℕ → (⟨2, ![d, 1]⟩ : Shape).Idx → EReal} {t : (⟨2, ![d, 1]⟩ : Shape).Idx → EReal}
    {c : (⟨2, ![e, 1]⟩ : Shape).Idx → EReal} (h0 : ∀ i, s 0 (ix2 i 0) = 0)
    (hs : ∀ k i, s (k + 1) (ix2 i 0) = s k (ix2 i 0) + ∑ j, f i (colBlock hW hn u k (ix2 i j)))
    (ht : ∀ i, t (ix2 i 0) = s n (ix2 i 0) + ∑ j, f i (r (ix2 i j)))
    (hc : ∀ o, c (ix2 o 0) = ∑ x, L o x * (t (ix2 x 0) * ((20000⁻¹ : ℝ) : EReal))) (o : Fin e) :
    c (ix2 o 0) = corr L (fun x s => f x (G x s)) o := by
  rw [hc]
  refine Finset.sum_congr rfl fun x _ => ?_
  rw [ht, sum_blocks hW hn (fun w => f x (G x (lo w))) (fun k => s k (ix2 x 0)) (h0 x)
    (fun k => by show s (k + 1) (ix2 x 0) = _; rw [hs]; simp only [colBlock_apply, hu.1]), sum_parts]
  simp only [hu.2]

end

end Cert.Net

end
-- ==== Proof.Value.lean ====
/-
  What the kernel leaves, over the extended reals: four layers of the network, each in two parts (the columns the
  pipelines write and the last columns), with the correction each layer subtracts.
-/
module

public import proofs.«01_k».proof.Proof.Body
public import proofs.«01_k».proof.Proof.Math

@[expose] public section

noncomputable section

namespace Cert.KernelIdeal

open Idealize.ShloMosaic hiding ix1 ix2 ix3
open Idealize.ShloMosaic.ValueIdx
open Cert.Ops Cert.Net Cert.KernelIdeal.Gen

/-- The named constant is `1/20000`. -/
theorem inv_n : Named.named (F := Ideal) κ "inv_n" (φ := .f32) 0x3851B717#32 = ((20000⁻¹ : ℝ) : EReal) :=
  IdealRules.named_const.ideal_named_scalar _ _ _ _ rfl

/-- A column as a function of its row. -/
abbrev vec {a : ℕ} (b : (⟨2, ![a, 1]⟩ : Shape).Idx → EReal) (i : Fin a) : EReal := b (ix2 i 0)

/-- An entry after the activation, the correction subtracted first. -/
abbrev fix {a : ℕ} (c : (⟨2, ![a, 1]⟩ : Shape).Idx → EReal) (i : Fin a) (v : EReal) : EReal := act (v - c (ix2 i 0))

theorem zero_apply {a : ℕ} (h : (⟨2, ![a, 1]⟩ : Shape).ShapeCasts ⟨2, ![a, 1]⟩) (i : Fin a) :
    shapeCast ⟨2, ![a, 1]⟩ (broadcast ⟨2, ![a, 1]⟩ (Scalar.ofBits (F := Ideal) .f32 0x00000000#32)) h (ix2 i 0) = 0 := by
  rw [shapeCast_self]; exact Ideal.ofBits_zero_f32

theorem fix_layer {d e n : ℕ} {W : Fin e → Fin d → EReal} {b : Fin e → EReal} {L : Fin e → Fin d → EReal} {h : Fin d → Fin n → EReal}
    {c : (⟨2, ![e, 1]⟩ : Shape).Idx → EReal} (hc : ∀ o, c (ix2 o 0) = corr L h o) : (fun o s => fix c o (lin W b h o s)) = layer W b L h :=
  funext fun o => funext fun s => congrArg (fun v => act (lin W b h o s - v)) (hc o)

/-! ## The activations -/

theorem act1 (u : S1000x19968.Idx → EReal) (c : S1000x1.Idx → EReal) (k : ℕ) (i : Fin 1000) (j : Fin 1664) :
    k0_pay6 (F := Ideal) (x1 u k) c (ix2 i j) = fix c i (colBlock (A := 1000) (B := 1664) (W := 19968) (n := 12) rfl (by decide) u k (ix2 i j)) :=
  act_apply (φ := .f32) _ c _ _ Ideal.ofBits_zero_f32 Ideal.ofBits_one_f32 _ i j
    (show shapeCast S1000x1664 (x1 (F := Ideal) u k) shapeCasts_S1x1000x1664_S1000x1664 (ix2 i j) = _ from congrFun (cast_expand _ _ _) _)

theorem act1r (u : S1000x32.Idx → EReal) (c : S1000x1.Idx → EReal) (i : Fin 1000) (j : Fin 32) :
    k0_pay27 (F := Ideal) u c (ix2 i j) = fix c i (u (ix2 i j)) :=
  act_apply (φ := .f32) _ c _ _ Ideal.ofBits_zero_f32 Ideal.ofBits_one_f32 _ i j rfl

theorem act2 (u : S600x19968.Idx → EReal) (c : S600x1.Idx → EReal) (k : ℕ) (i : Fin 600) (j : Fin 3328) :
    k0_pay10 (F := Ideal) (x2 u k) c (ix2 i j) = fix c i (colBlock (A := 600) (B := 3328) (W := 19968) (n := 6) rfl (by decide) u k (ix2 i j)) :=
  act_apply (φ := .f32) _ c _ _ Ideal.ofBits_zero_f32 Ideal.ofBits_one_f32 _ i j
    (show shapeCast S600x3328 (x2 (F := Ideal) u k) shapeCasts_S1x600x3328_S600x3328 (ix2 i j) = _ from congrFun (cast_expand _ _ _) _)

theorem act2r (u : S600x32.Idx → EReal) (c : S600x1.Idx → EReal) (i : Fin 600) (j : Fin 32) :
    k0_pay31 (F := Ideal) u c (ix2 i j) = fix c i (u (ix2 i j)) :=
  act_apply (φ := .f32) _ c _ _ Ideal.ofBits_zero_f32 Ideal.ofBits_one_f32 _ i j rfl

theorem act3 (u : S300x19968.Idx → EReal) (c : S300x1.Idx → EReal) (k : ℕ) (i : Fin 300) (j : Fin 3328) :
    k0_pay14 (F := Ideal) (x3 u k) c (ix2 i j) = fix c i (colBlock (A := 300) (B := 3328) (W := 19968) (n := 6) rfl (by decide) u k (ix2 i j)) :=
  act_apply (φ := .f32) _ c _ _ Ideal.ofBits_zero_f32 Ideal.ofBits_one_f32 _ i j
    (show shapeCast S300x3328 (x3 (F := Ideal) u k) shapeCasts_S1x300x3328_S300x3328 (ix2 i j) = _ from congrFun (cast_expand _ _ _) _)

theorem act3r (u : S300x32.Idx → EReal) (c : S300x1.Idx → EReal) (i : Fin 300) (j : Fin 32) :
    k0_pay35 (F := Ideal) u c (ix2 i j) = fix c i (u (ix2 i j)) :=
  act_apply (φ := .f32) _ c _ _ Ideal.ofBits_zero_f32 Ideal.ofBits_one_f32 _ i j rfl

/-! ## The linear parts of the blocks and of the last columns -/

theorem blk0 (x : S1033x19968.Idx → EReal) (k : ℕ) (l : Fin 1033) (j : Fin 3328) :
    k0_pay2 (F := Ideal) (x0 (F := Ideal) x k) (ix2 l j) = colBlock (A := 1033) (B := 3328) (W := 19968) (n := 6) rfl (by decide) x k (ix2 l j) :=
  congrFun (cast_expand _ _ _) _

theorem lin0 (x : S1033x19968.Idx → EReal) (W : S1000x1033.Idx → EReal) (b : S1000x1.Idx → EReal) (k : ℕ) (o : Fin 1000) (j : Fin 3328) :
    y0 (F := Ideal) x W b k (ix2 o j) = (∑ l, mat W o l * colBlock (A := 1033) (B := 3328) (W := 19968) (n := 6) rfl (by decide) x k (ix2 l j)) + vec b o := by
  unfold y0 k0_pay3
  rw [drop1_cast]
  exact dense_apply (φ := .bf16) (ψ := .bf16) W _ b _ _ _ o j fun l => blk0 x k l j

theorem lin0r (r : S1033x32.Idx → EReal) (W : S1000x1033.Idx → EReal) (b : S1000x1.Idx → EReal) (o : Fin 1000) (j : Fin 32) :
    k0_pay25 (F := Ideal) r W b (ix2 o j) = (∑ l, mat W o l * r (ix2 l j)) + vec b o := by
  unfold k0_pay25 k0_pay23
  rw [shapeCast_self, shapeCast_self r]
  exact dense_apply (φ := .bf16) (ψ := .bf16) W _ b _ _ _ o j fun l => rfl

theorem lin1 (u : S1000x19968.Idx → EReal) (c : S1000x1.Idx → EReal) (W : S600x1000.Idx → EReal) (b : S600x1.Idx → EReal) (k : ℕ) (o : Fin 600) (j : Fin 1664) :
    y1 (F := Ideal) u c W b k (ix2 o j)
      = (∑ l, mat W o l * fix c l (colBlock (A := 1000) (B := 1664) (W := 19968) (n := 12) rfl (by decide) u k (ix2 l j))) + vec b o := by
  unfold y1 k0_pay8
  rw [drop1_cast]
  exact dense_apply (φ := .bf16) (ψ := .bf16) W _ b _ _ _ o j fun l => act1 u c k l j

theorem lin1r (r : S1000x32.Idx → EReal) (c : S1000x1.Idx → EReal) (W : S600x1000.Idx → EReal) (b : S600x1.Idx → EReal) (o : Fin 600) (j : Fin 32) :
    k0_pay29 (F := Ideal) r c W b (ix2 o j) = (∑ l, mat W o l * fix c l (r (ix2 l j))) + vec b o := by
  unfold k0_pay29
  rw [shapeCast_self]
  exact dense_apply (φ := .bf16) (ψ := .bf16) W _ b _ _ _ o j fun l => act1r r c l j

theorem lin2 (u : S600x19968.Idx → EReal) (c : S600x1.Idx → EReal) (W : S300x600.Idx → EReal) (b : S300x1.Idx → EReal) (k : ℕ) (o : Fin 300) (j : Fin 3328) :
    y2 (F := Ideal) u c W b k (ix2 o j)
      = (∑ l, mat W o l * fix c l (colBlock (A := 600) (B := 3328) (W := 19968) (n := 6) rfl (by decide) u k (ix2 l j))) + vec b o := by
  unfold y2 k0_pay12
  rw [drop1_cast]
  exact dense_apply (φ := .bf16) (ψ := .bf16) W _ b _ _ _ o j fun l => act2 u c k l j

theorem lin2r (r : S600x32.Idx → EReal) (c : S600x1.Idx → EReal) (W : S300x600.Idx → EReal) (b : S300x1.Idx → EReal) (o : Fin 300) (j : Fin 32) :
    k0_pay33 (F := Ideal) r c W b (ix2 o j) = (∑ l, mat W o l * fix c l (r (ix2 l j))) + vec b o := by
  unfold k0_pay33
  rw [shapeCast_self]
  exact dense_apply (φ := .bf16) (ψ := .bf16) W _ b _ _ _ o j fun l => act2r r c l j

theorem lin3 (u : S300x19968.Idx → EReal) (c : S300x1.Idx → EReal) (W : S1x300.Idx → EReal) (b : S1x1.Idx → EReal) (k : ℕ) (o : Fin 1) (j : Fin 3328) :
    y3 (F := Ideal) u c W b k (ix2 o j)
      = (∑ l, mat W o l * fix c l (colBlock (A := 300) (B := 3328) (W := 19968) (n := 6) rfl (by decide) u k (ix2 l j))) + vec b o := by
  unfold y3 k0_pay16
  rw [drop1_cast]
  exact dense_apply (φ := .bf16) (ψ := .bf16) W _ b _ _ _ o j fun l => act3 u c k l j

theorem lin3r (r : S300x32.Idx → EReal) (c : S300x1.Idx → EReal) (W : S1x300.Idx → EReal) (b : S1x1.Idx → EReal) (o : Fin 1) (j : Fin 32) :
    k0_pay37 (F := Ideal) r c W b (ix2 o j) = (∑ l, mat W o l * fix c l (r (ix2 l j))) + vec b o := by
  unfold k0_pay37
  rw [shapeCast_self]
  exact dense_apply (φ := .bf16) (ψ := .bf16) W _ b _ _ _ o j fun l => act3r r c l j

namespace In

variable (i : In Ideal) {X : Fin 1033 → Fin 20000 → EReal} (hx : Parts i.x i.xr X)

/-! ## The four layers -/

include hx

theorem parts1 : Parts i.u1 i.r1 (lin (mat i.wg1) (vec i.bg1) X) :=
  parts_lin hx (fun _ v => v) (y := y0 (F := Ideal) i.x i.wg1 i.bg1) (r' := i.r1) (lin0 i.x i.wg1 i.bg1) (lin0r i.xr i.wg1 i.bg1)

theorem corr1 (o : Fin 1000) : i.c1 (ix2 o 0) = corr (mat i.wl1) X o :=
  parts_corr hx (fun _ v => v) (s := s0 (F := Ideal) i.x (k0_pay19 (F := Ideal))) (t := i.t1) (fun l => zero_apply shapeCasts_S1033x1_S1033x1 l)
    (fun k l => rowSum_apply _ _ _ _ _ _ _ l fun j => blk0 i.x k l j)
    (fun l => rowSum_apply _ _ _ _ _ _ _ l fun j => congrFun (shapeCast_self _ _) _)
    (fun o => mean_apply (φ := .bf16) i.wl1 i.t1 _ inv_n _ _ _ o) o

omit hx

variable {G1 : Fin 1000 → Fin 20000 → EReal} (h1 : Parts i.u1 i.r1 G1)
  {G2 : Fin 600 → Fin 20000 → EReal} (h2 : Parts i.u2 i.r2 G2)
  {G3 : Fin 300 → Fin 20000 → EReal} (h3 : Parts i.u3 i.r3 G3)
  {G4 : Fin 1 → Fin 20000 → EReal} (h4 : Parts i.u4 i.r4 G4)

include h1

theorem parts2 : Parts i.u2 i.r2 (lin (mat i.wg2) (vec i.bg2) fun l s => fix i.c1 l (G1 l s)) :=
  parts_lin h1 (fix i.c1) (y := y1 (F := Ideal) i.u1 i.c1 i.wg2 i.bg2) (r' := i.r2) (lin1 i.u1 i.c1 i.wg2 i.bg2) (lin1r i.r1 i.c1 i.wg2 i.bg2)

theorem corr2 (o : Fin 600) : i.c2 (ix2 o 0) = corr (mat i.wl2) (fun l s => fix i.c1 l (G1 l s)) o :=
  parts_corr h1 (fix i.c1) (s := s1 (F := Ideal) i.u1 i.c1 (k0_pay20 (F := Ideal))) (t := i.t2) (fun l => zero_apply shapeCasts_S1000x1_S1000x1 l)
    (fun k l => rowSum_apply _ _ _ _ _ _ _ l fun j => act1 i.u1 i.c1 k l j)
    (fun l => rowSum_apply _ _ _ _ _ _ _ l fun j => act1r i.r1 i.c1 l j)
    (fun o => mean_apply (φ := .bf16) i.wl2 i.t2 _ inv_n _ _ _ o) o

omit h1
include h2

theorem parts3 : Parts i.u3 i.r3 (lin (mat i.wg3) (vec i.bg3) fun l s => fix i.c2 l (G2 l s)) :=
  parts_lin h2 (fix i.c2) (y := y2 (F := Ideal) i.u2 i.c2 i.wg3 i.bg3) (r' := i.r3) (lin2 i.u2 i.c2 i.wg3 i.bg3) (lin2r i.r2 i.c2 i.wg3 i.bg3)

theorem corr3 (o : Fin 300) : i.c3 (ix2 o 0) = corr (mat i.wl3) (fun l s => fix i.c2 l (G2 l s)) o :=
  parts_corr h2 (fix i.c2) (s := s2 (F := Ideal) i.u2 i.c2 (k0_pay21 (F := Ideal))) (t := i.t3) (fun l => zero_apply shapeCasts_S600x1_S600x1 l)
    (fun k l => rowSum_apply _ _ _ _ _ _ _ l fun j => act2 i.u2 i.c2 k l j)
    (fun l => rowSum_apply _ _ _ _ _ _ _ l fun j => act2r i.r2 i.c2 l j)
    (fun o => mean_apply (φ := .bf16) i.wl3 i.t3 _ inv_n _ _ _ o) o

omit h2
include h3

theorem parts4 : Parts i.u4 i.r4 (lin (mat i.wg4) (vec i.bg4) fun l s => fix i.c3 l (G3 l s)) :=
  parts_lin h3 (fix i.c3) (y := y3 (F := Ideal) i.u3 i.c3 i.wg4 i.bg4) (r' := i.r4) (lin3 i.u3 i.c3 i.wg4 i.bg4) (lin3r i.r3 i.c3 i.wg4 i.bg4)

theorem corr4 (o : Fin 1) : i.c4 (ix2 o 0) = corr (mat i.wl4) (fun l s => fix i.c3 l (G3 l s)) o :=
  parts_corr h3 (fix i.c3) (s := s3 (F := Ideal) i.u3 i.c3 (k0_pay22 (F := Ideal))) (t := i.t4) (fun l => zero_apply shapeCasts_S300x1_S300x1 l)
    (fun k l => rowSum_apply _ _ _ _ _ _ _ l fun j => act3 i.u3 i.c3 k l j)
    (fun l => rowSum_apply _ _ _ _ _ _ _ l fun j => act3r i.r3 i.c3 l j)
    (fun o => mean_apply (φ := .bf16) i.wl4 i.t4 _ inv_n _ _ _ o) o

omit h3
include h4

theorem parts5 : Parts i.pred i.predr fun l s => fix i.c4 l (G4 l s) :=
  parts_map h4 (fix i.c4) (fun k o j => (congrFun (drop1_cast _ _ _) _).trans
      (act_apply (φ := .f32) _ i.c4 _ _ Ideal.ofBits_zero_f32 Ideal.ofBits_one_f32 _ o j (congrFun (cast_expand _ _ _) _)))
    fun o j => act_apply (φ := .f32) _ i.c4 _ _ Ideal.ofBits_zero_f32 Ideal.ofBits_one_f32 _ o j rfl

omit h4

/-- The network: four layers, one after another. -/
def net (X : Fin 1033 → Fin 20000 → EReal) : Fin 1 → Fin 20000 → EReal :=
  layer (mat i.wg4) (vec i.bg4) (mat i.wl4) (layer (mat i.wg3) (vec i.bg3) (mat i.wl3)
    (layer (mat i.wg2) (vec i.bg2) (mat i.wl2) (layer (mat i.wg1) (vec i.bg1) (mat i.wl1) X)))

include hx

/-- What the kernel leaves is the network of what it reads. -/
theorem parts_net : Parts i.pred i.predr (i.net X) := by
  have e1 := fix_layer (W := mat i.wg1) (b := vec i.bg1) (i.corr1 hx)
  have h1 := i.parts2 (i.parts1 hx)
  have e2 := i.corr2 (i.parts1 hx)
  rw [e1] at h1 e2
  have e2 := fix_layer (W := mat i.wg2) (b := vec i.bg2) e2
  have h2 := i.parts3 h1
  have e3 := i.corr3 h1
  rw [e2] at h2 e3
  have e3 := fix_layer (W := mat i.wg3) (b := vec i.bg3) e3
  have h3 := i.parts4 h2
  have e4 := i.corr4 h2
  rw [e3] at h3 e4
  have h4 := i.parts5 h3
  rw [fix_layer (W := mat i.wg4) (b := vec i.bg4) e4] at h4
  exact h4

end In

end Cert.KernelIdeal

end
-- ==== Proof.Inputs.lean ====
/-
  The kernel's operands read off its arguments, and its result read at a sample.
-/
module

public import proofs.«01_k».proof.Proof.Run
public import proofs.«01_k».proof.Proof.Value
public import Idealize.ShloMosaic.Lib.Claim

@[expose] public section

noncomputable section

namespace Cert.KernelIdeal

open Idealize.ShloMosaic Idealize.ShloMosaic.TcCoe Idealize.SL Idealize.SL.Sem
open Idealize.ShloMosaic.ValueIdx (transpose_ix2_apply shapeCast_a_a1_apply)
open Cert.Ops Cert.Net Cert.KernelIdeal.Gen

variable (m : (ℓ : Loc nD τ sig) → Buf (Elt Ideal) ℓ) (c : Dev nD)

/-- An argument of the kernel. -/
abbrev arg (b : Ref sig .tc) : Buf (Elt Ideal) ((c.tc : Thread nD τ).loc b) := m ((c.tc : Thread nD τ).loc b)

theorem wg1_arg : mat (ins m c).wg1 = mat (arg m c main_arg1) := by
  rw [ins_wg1]
  entry_read
  rfl
theorem wg2_arg : mat (ins m c).wg2 = mat (arg m c main_arg4) := by
  rw [ins_wg2]
  entry_read
  rfl
theorem wg3_arg : mat (ins m c).wg3 = mat (arg m c main_arg7) := by
  rw [ins_wg3]
  entry_read
  rfl
theorem wg4_arg : mat (ins m c).wg4 = mat (arg m c main_arg10) := by
  rw [ins_wg4]
  entry_read
  rfl
theorem wl1_arg : mat (ins m c).wl1 = mat (arg m c main_arg3) := by
  rw [ins_wl1]
  entry_read
  rfl
theorem wl2_arg : mat (ins m c).wl2 = mat (arg m c main_arg6) := by
  rw [ins_wl2]
  entry_read
  rfl
theorem wl3_arg : mat (ins m c).wl3 = mat (arg m c main_arg9) := by
  rw [ins_wl3]
  entry_read
  rfl
theorem wl4_arg : mat (ins m c).wl4 = mat (arg m c main_arg12) := by
  rw [ins_wl4]
  entry_read
  rfl
theorem bg1_arg : vec (ins m c).bg1 = arr (arg m c main_arg2) := by
  rw [ins_bg1]
  entry_read
  exact funext fun i => shapeCast_a_a1_apply _ _ i 0
theorem bg2_arg : vec (ins m c).bg2 = arr (arg m c main_arg5) := by
  rw [ins_bg2]
  entry_read
  exact funext fun i => shapeCast_a_a1_apply _ _ i 0
theorem bg3_arg : vec (ins m c).bg3 = arr (arg m c main_arg8) := by
  rw [ins_bg3]
  entry_read
  exact funext fun i => shapeCast_a_a1_apply _ _ i 0
theorem bg4_arg : vec (ins m c).bg4 = arr (arg m c main_arg11) := by
  rw [ins_bg4]
  entry_read
  exact funext fun i => shapeCast_a_a1_apply _ _ i 0

/-- The columns and the last columns are the samples' features. -/
theorem parts_x : Parts (ins m c).x (ins m c).xr (rows (arg m c main_arg0)) := by
  refine ⟨fun i j => ?_, fun i j => ?_⟩
  · rw [show (ins m c).x = transpose S1033x19968 [1, 0] (extractStridedSlice S19968x1033 ![0, 0] (arg m c main_arg0) slices_S20000x1033_S19968x1033_0_0)
        transposes_S19968x1033_S1033x19968_1_0 from (by show V m c main_v13 = _; entry_read; rfl)]
    refine (transpose_ix2_apply _ _ i j).trans (extractStridedSlice_apply _ _ _ _ (ValueIdx.ix2 (lo j) i) fun a => ?_)
    match a with
    | ⟨0, _⟩ => exact (Nat.zero_add _).symm
    | ⟨1, _⟩ => exact (Nat.zero_add _).symm
  · rw [ins_xr, show V m c main_v15 = transpose S1033x32 [1, 0] (extractStridedSlice S32x1033 ![19968, 0] (arg m c main_arg0) slices_S20000x1033_S32x1033_19968_0)
        transposes_S32x1033_S1033x32_1_0 by entry_read; rfl]
    refine (transpose_ix2_apply _ _ i j).trans (extractStridedSlice_apply _ _ _ _ (ValueIdx.ix2 (hi j) i) fun a => ?_)
    match a with
    | ⟨0, _⟩ => rfl
    | ⟨1, _⟩ => exact (Nat.zero_add _).symm

/-- The kernel's result at a sample is the network of its operands. -/
theorem out_apply (s : Fin 20000) (o : Fin 1) : out m c (ValueIdx.ix2 s o) = (ins m c).net (rows (arg m c main_arg0)) o s := by
  have h := (ins m c).parts_net (parts_x m c)
  refine (transpose_ix2_apply _ _ s o).trans ?_
  refine Fin.addCases (m := 19968) (n := 32) (motive := fun s : Fin 20000 => concatenate S1x20000 1 [⟨S1x19968, (ins m c).pred⟩, ⟨S1x32, (ins m c).predr⟩]
    concatenates_S1x19968_S1x32_S1x20000_d1 (ValueIdx.ix2 o s) = (ins m c).net (rows (arg m c main_arg0)) o s) (fun j => ?_) (fun j => ?_) s
  · refine (concatenate_pair_apply_left (1 : Fin S1x20000.rank) (ins m c).pred (ins m c).predr concatenates_S1x19968_S1x32_S1x20000_d1 (ValueIdx.ix2 o (lo j)) rfl (ValueIdx.ix2 o j) fun b => ?_).trans (h.1 o j)
    match b with
    | ⟨0, _⟩ => rfl
    | ⟨1, _⟩ => rfl
  · refine (concatenate_pair_apply_right (1 : Fin S1x20000.rank) (ins m c).pred (ins m c).predr concatenates_S1x19968_S1x32_S1x20000_d1 (ValueIdx.ix2 o (hi j)) rfl rfl (ValueIdx.ix2 o j) (fun b hb => ?_) ?_).trans (h.2 o j)
    · match b with
      | ⟨0, _⟩ => rfl
      | ⟨1, _⟩ => exact absurd rfl hb
    · exact Nat.add_comm _ _

end Cert.KernelIdeal

end
-- ==== Proof.Reference.lean ====
/-
  What the reference computes, over the extended reals: four layers of the network.
-/
module

public import proofs.«01_k».proof.Proof.Math
public import proofs.«01_k».proof.Proof.Gen.ReferenceIdeal
public import proofs.«01_k».proof.Proof.Gen.ReferenceIdeal.Run

@[expose] public section

noncomputable section

namespace Cert.ReferenceIdeal

open Idealize.ShloMosaic hiding ix1 ix2 ix3
open Idealize.ShloMosaic.ValueIdx
open Cert.Net Cert.ReferenceIdeal.Gen Cert.ReferenceIdeal.Value

variable (V0 : Valuation τ sig (Elt Ideal))

/-- The argument `b` of the program. -/
abbrev at_ (b : Ref sig .tc) := V0 (Proc.devRef .tc b)

theorem layer1 : rows (a := 20000) (b := 1000) (res_main_v13 V0) = layer (mat (at_ V0 main_arg1)) (arr (at_ V0 main_arg2)) (mat (at_ V0 main_arg3)) (rows (at_ V0 main_arg0)) :=
  funext fun o => funext fun s => ref_act (res_main_v12 V0) _ (ix2 s o) (ref_pre (n := 20000) (d := 1033) (e := 1000) _ _ _ _ _ _ _ _ _ _ _ _ _ s o)

theorem layer2 : rows (a := 20000) (b := 600) (res_main_v27 V0) = layer (mat (at_ V0 main_arg4)) (arr (at_ V0 main_arg5)) (mat (at_ V0 main_arg6)) (rows (res_main_v13 V0)) :=
  funext fun o => funext fun s => ref_act (res_main_v26 V0) _ (ix2 s o) (ref_pre (n := 20000) (d := 1000) (e := 600) _ _ _ _ _ _ _ _ _ _ _ _ _ s o)

theorem layer3 : rows (a := 20000) (b := 300) (res_main_v41 V0) = layer (mat (at_ V0 main_arg7)) (arr (at_ V0 main_arg8)) (mat (at_ V0 main_arg9)) (rows (res_main_v27 V0)) :=
  funext fun o => funext fun s => ref_act (res_main_v40 V0) _ (ix2 s o) (ref_pre (n := 20000) (d := 600) (e := 300) _ _ _ _ _ _ _ _ _ _ _ _ _ s o)

/-- The network of the arguments. -/
def net : Fin 1 → Fin 20000 → EReal :=
  layer (mat (at_ V0 main_arg10)) (arr (at_ V0 main_arg11)) (mat (at_ V0 main_arg12))
    (layer (mat (at_ V0 main_arg7)) (arr (at_ V0 main_arg8)) (mat (at_ V0 main_arg9))
      (layer (mat (at_ V0 main_arg4)) (arr (at_ V0 main_arg5)) (mat (at_ V0 main_arg6))
        (layer (mat (at_ V0 main_arg1)) (arr (at_ V0 main_arg2)) (mat (at_ V0 main_arg3)) (rows (at_ V0 main_arg0)))))

/-- The reference's result is the network of its arguments. -/
theorem result (o : Fin 1) (s : Fin 20000) :
    (select (cmpf .ogt (res_main_v54 V0) (broadcastInDim S20000x1 ![] bcast_S_S20000x1 (constant S_ .f32 0x00000000#32))) (res_main_v54 V0)
      (mulf (broadcastInDim S20000x1 ![] bcast_S_S20000x1 (constant S_ .f32 0x3F800000#32))
        (Host.expm1 (select (cmpf .ogt (res_main_v54 V0) (broadcastInDim S20000x1 ![] bcast_S_S20000x1 (constant S_ .f32 0x00000000#32)))
          (broadcastInDim S20000x1 ![] bcast_S_S20000x1 (id (constant S_ .f32 0x00000000#32))) (res_main_v54 V0)))) : FVec Ideal S20000x1 .f32) (ix2 s o)
      = net V0 o s := by
  unfold net
  rw [← layer1, ← layer2, ← layer3]
  exact ref_act (res_main_v54 V0) _ (ix2 s o) (ref_pre (n := 20000) (d := 300) (e := 1) _ _ _ _ _ _ _ _ _ _ _ _ _ s o)

end Cert.ReferenceIdeal

end
-- ==== Proof.Algebraic.lean ====
/-
  The reference's frame, the named constant, and the equality of the two results.
-/
module

public import proofs.«01_k».proof.Defs
public import proofs.«01_k».proof.Proof.Inputs
public import proofs.«01_k».proof.Proof.Reference
public import Idealize.ShloMosaic.Lib.Quiescent

@[expose] public section

noncomputable section

namespace Cert.Claims

open Idealize.ShloMosaic Idealize.ShloMosaic.TcCoe Idealize.SL Idealize.SL.Sem
open Cert.Net

theorem frame_ri : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

theorem preserves : Cert.preserves_Kernel_KernelIdeal :=
  IdealRules.named_const.statement Cert.KernelIdeal.κ "inv_n" .f32 0x3851B717#32 ((20000⁻¹ : ℝ) : EReal) rfl

/-- Of equal arguments the two networks are one. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.KernelIdeal.arg m c Cert.KernelIdeal.main_arg0)
    (h1 : m' ((c.tc : Thread Cert.ReferenceIdeal.nD Cert.ReferenceIdeal.τ).loc Cert.ReferenceIdeal.main_arg1) = Cert.KernelIdeal.arg m c Cert.KernelIdeal.main_arg1)
    (h2 : m' ((c.tc : Thread Cert.ReferenceIdeal.nD Cert.ReferenceIdeal.τ).loc Cert.ReferenceIdeal.main_arg2) = Cert.KernelIdeal.arg m c Cert.KernelIdeal.main_arg2)
    (h3 : m' ((c.tc : Thread Cert.ReferenceIdeal.nD Cert.ReferenceIdeal.τ).loc Cert.ReferenceIdeal.main_arg3) = Cert.KernelIdeal.arg m c Cert.KernelIdeal.main_arg3)
    (h4 : m' ((c.tc : Thread Cert.ReferenceIdeal.nD Cert.ReferenceIdeal.τ).loc Cert.ReferenceIdeal.main_arg4) = Cert.KernelIdeal.arg m c Cert.KernelIdeal.main_arg4)
    (h5 : m' ((c.tc : Thread Cert.ReferenceIdeal.nD Cert.ReferenceIdeal.τ).loc Cert.ReferenceIdeal.main_arg5) = Cert.KernelIdeal.arg m c Cert.KernelIdeal.main_arg5)
    (h6 : m' ((c.tc : Thread Cert.ReferenceIdeal.nD Cert.ReferenceIdeal.τ).loc Cert.ReferenceIdeal.main_arg6) = Cert.KernelIdeal.arg m c Cert.KernelIdeal.main_arg6)
    (h7 : m' ((c.tc : Thread Cert.ReferenceIdeal.nD Cert.ReferenceIdeal.τ).loc Cert.ReferenceIdeal.main_arg7) = Cert.KernelIdeal.arg m c Cert.KernelIdeal.main_arg7)
    (h8 : m' ((c.tc : Thread Cert.ReferenceIdeal.nD Cert.ReferenceIdeal.τ).loc Cert.ReferenceIdeal.main_arg8) = Cert.KernelIdeal.arg m c Cert.KernelIdeal.main_arg8)
    (h9 : m' ((c.tc : Thread Cert.ReferenceIdeal.nD Cert.ReferenceIdeal.τ).loc Cert.ReferenceIdeal.main_arg9) = Cert.KernelIdeal.arg m c Cert.KernelIdeal.main_arg9)
    (h10 : m' ((c.tc : Thread Cert.ReferenceIdeal.nD Cert.ReferenceIdeal.τ).loc Cert.ReferenceIdeal.main_arg10) = Cert.KernelIdeal.arg m c Cert.KernelIdeal.main_arg10)
    (h11 : m' ((c.tc : Thread Cert.ReferenceIdeal.nD Cert.ReferenceIdeal.τ).loc Cert.ReferenceIdeal.main_arg11) = Cert.KernelIdeal.arg m c Cert.KernelIdeal.main_arg11)
    (h12 : m' ((c.tc : Thread Cert.ReferenceIdeal.nD Cert.ReferenceIdeal.τ).loc Cert.ReferenceIdeal.main_arg12) = Cert.KernelIdeal.arg m c Cert.KernelIdeal.main_arg12) :
    Cert.ReferenceIdeal.net (StableHlo.launchContents m' c) = (Cert.KernelIdeal.ins m c).net (rows (Cert.KernelIdeal.arg m c Cert.KernelIdeal.main_arg0)) := by
  unfold Cert.KernelIdeal.In.net
  rw [Cert.KernelIdeal.wg1_arg, Cert.KernelIdeal.wg2_arg, Cert.KernelIdeal.wg3_arg, Cert.KernelIdeal.wg4_arg,
    Cert.KernelIdeal.wl1_arg, Cert.KernelIdeal.wl2_arg, Cert.KernelIdeal.wl3_arg, Cert.KernelIdeal.wl4_arg,
    Cert.KernelIdeal.bg1_arg, Cert.KernelIdeal.bg2_arg, Cert.KernelIdeal.bg3_arg, Cert.KernelIdeal.bg4_arg,
    ← h0, ← h1, ← h2, ← h3, ← h4, ← h5, ← h6, ← h7, ← h8, ← h9, ← h10, ← h11, ← h12]
  rfl

theorem algebraic : Cert.algebraic_KernelIdeal_ReferenceIdeal := by
  intro m g m' g' _ hagree
  refine ⟨Cert.KernelIdeal.out m, (θ_run Cert.KernelIdeal.defs _ _).mono (fun r h => h.1) (Cert.KernelIdeal.run (F := Ideal) m g), ?_⟩
  refine (θ_run Cert.ReferenceIdeal.defs _ _).mono (fun _ h c => ⟨(h c).1.trans ?_, (h c).2⟩) (Cert.ReferenceIdeal.Value.run (F := Ideal) m' g')
  obtain ⟨h0, h1, h2, h3, h4, h5, h6, h7, h8, h9, h10, h11, h12⟩ := hagree c
  funext j
  obtain ⟨s, o, rfl⟩ : ∃ s o, j = ValueIdx.ix2 s o := ⟨_, _, ValueIdx.eq_ix2 j⟩
  refine (Cert.ReferenceIdeal.result (StableHlo.launchContents m' c) o s).trans ((congrFun (congrFun ?_ o) s).trans (Cert.KernelIdeal.out_apply m c s o).symm)
  exact net_eq m m' c h0 h1 h2 h3 h4 h5 h6 h7 h8 h9 h10 h11 h12

end Cert.Claims

end
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Claims.frame_p, Cert.Claims.frame_pi, Cert.Claims.frame_ri, Cert.Claims.preserves, Cert.Claims.algebraic⟩

end Cert.Proof

end
